-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_real_cell [hPre_real_cell : Cert.Pre_real_cell.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_real_cell.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_real_cell [hPre_real_cell : Cert.Pre_real_cell.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_real_cell.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_real_cell [hKernel6Ideal : Cert.Kernel6Ideal.Facts] [hPre_real_cell : Cert.Pre_real_cell.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_real_cell m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_real_cell [hReference6Ideal : Cert.Reference6Ideal.Facts] [hPre_real_cell : Cert.Pre_real_cell.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_real_cell m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v25_0)) (v1 : (c : Dev Cert.Kernel5Ideal.nD) → Buf (Elt Ideal) ((c.tc : Thread Cert.Kernel5Ideal.nD Cert.Kernel5Ideal.τ).loc Cert.Kernel5Ideal.main_v25_1)) (v2 : (c : Dev Cert.Kernel5Ideal.nD) → Buf (Elt Ideal) ((c.tc : Thread Cert.Kernel5Ideal.nD Cert.Kernel5Ideal.τ).loc Cert.Kernel5Ideal.main_v25_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25_0) = v0 c
          ∧ r.2.mem ((c.tc : Thread Cert.Kernel5Ideal.nD Cert.Kernel5Ideal.τ).loc Cert.Kernel5Ideal.main_v25_1) = v1 c
          ∧ r.2.mem ((c.tc : Thread Cert.Kernel5Ideal.nD Cert.Kernel5Ideal.τ).loc Cert.Kernel5Ideal.main_v25_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_v67) = v1 c
          ∧ r.2.mem ((c.tc : Thread Cert.Reference5Ideal.nD Cert.Reference5Ideal.τ).loc Cert.Reference5Ideal.main_v68) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_real_cell [hKernel6Ideal : Cert.Kernel6Ideal.Facts] [hReference6Ideal : Cert.Reference6Ideal.Facts] [hPre_real_cell : Cert.Pre_real_cell.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_real_cell m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v57)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v57) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v64) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_real_cell : Cert.Pre_real_cell.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_real_cell (hKernel6Ideal := hKernel6Ideal) (hPre_real_cell := hPre_real_cell)
    ∧ quiescent_Reference6Ideal (hReference6Ideal := hReference6Ideal)
    ∧ quiescent_Reference6Ideal_pre_real_cell (hReference6Ideal := hReference6Ideal) (hPre_real_cell := hPre_real_cell)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_real_cell (hKernel6Ideal := hKernel6Ideal) (hReference6Ideal := hReference6Ideal) (hPre_real_cell := hPre_real_cell)
-- ==== Pre_finite.lean ====
abbrev S65536x512 : Shape := ⟨2, ![65536, 512]⟩
abbrev S65536x8 : Shape := ⟨2, ![65536, 8]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x8 : S_.BroadcastsInDim S65536x8 (![] : Fin 0 → Fin S65536x8.rank)
  reducesTo_S65536x8_S_d0_1 : S65536x8.ReducesTo [0, 1] S_

variable [Facts]

def fn {F : FTy → Type} [FloatOps F] (main_arg0 : FVec F S65536x512 .f32) (main_arg1 : FVec F S65536x512 .f32) (main_arg2 : FVec F S65536x512 .f32) (main_arg3 : FVec F S65536x8 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S65536x8 .f32 := Host.absf main_arg3
  let main_cst_2 : FVec F S_ .f32 := constant S_ .f32 0x7F800000#32
  let main_v10 : FVec F S65536x8 .f32 := broadcastInDim S65536x8 ![] bcast_S_S65536x8 main_cst_2
  let main_v11 : IVec S65536x8 1 := cmpf .olt main_v9 main_v10
  let main_c_3 : IVec S_ 1 := constantI S_ 1 1#1
  let main_v12 : IVec S_ 1 := (fun x v => Host.reduce IntOp.andi x v reducesTo_S65536x8_S_d0_1 h_S_) main_v11 main_c_3
  let main_v13 : IVec S_ 1 := andi main_v8 main_v12
  main_v13
-- ==== Pre_real_cell.lean ====
abbrev S65536x512 : Shape := ⟨2, ![65536, 512]⟩
abbrev S65536x4 : Shape := ⟨2, ![65536, 4]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x4 : S_.BroadcastsInDim S65536x4 (![] : Fin 0 → Fin S65536x4.rank)
  reducesTo_S65536x4_S_d0_1 : S65536x4.ReducesTo [0, 1] S_

variable [Facts]

def fn_part1 {F : FTy → Type} [FloatOps F] (main_arg5 : FVec F S65536x4 .f32) (main_arg6 : FVec F S65536x4 .f32) (main_v13 : IVec S_ 1) (main_v16 : IVec S65536x4 1) : IVec S_ 1 :=
  let main_c_5 : IVec S_ 1 := constantI S_ 1 1#1
  let main_v17 : IVec S_ 1 := (fun x v => Host.reduce IntOp.andi x v reducesTo_S65536x4_S_d0_1 h_S_) main_v16 main_c_5
  let main_v18 : IVec S_ 1 := andi main_v13 main_v17
  let main_v19 : FVec F S65536x4 .f32 := Host.absf main_arg5
  let main_cst_6 : FVec F S_ .f32 := constant S_ .f32 0x7F800000#32
  let main_v20 : FVec F S65536x4 .f32 := broadcastInDim S65536x4 ![] bcast_S_S65536x4 main_cst_6
  let main_v21 : IVec S65536x4 1 := cmpf .olt main_v19 main_v20
  let main_c_7 : IVec S_ 1 := constantI S_ 1 1#1
  let main_v22 : IVec S_ 1 := (fun x v => Host.reduce IntOp.andi x v reducesTo_S65536x4_S_d0_1 h_S_) main_v21 main_c_7
  let main_v23 : IVec S_ 1 := andi main_v18 main_v22
  let main_v24 : FVec F S65536x4 .f32 := Host.absf main_arg6
  let main_cst_8 : FVec F S_ .f32 := constant S_ .f32 0x7F800000#32
  let main_v25 : FVec F S65536x4 .f32 := broadcastInDim S65536x4 ![] bcast_S_S65536x4 main_cst_8
  let main_v26 : IVec S65536x4 1 := cmpf .olt main_v24 main_v25
  let main_c_9 : IVec S_ 1 := constantI S_ 1 1#1
  let main_v27 : IVec S_ 1 := (fun x v => Host.reduce IntOp.andi x v reducesTo_S65536x4_S_d0_1 h_S_) main_v26 main_c_9
  let main_v28 : IVec S_ 1 := andi main_v23 main_v27
  main_v28

def fn {F : FTy → Type} [FloatOps F] (main_arg0 : FVec F S65536x512 .f32) (main_arg1 : FVec F S65536x512 .f32) (main_arg2 : FVec F S65536x512 .f32) (main_arg3 : FVec F S65536x512 .f32) (main_arg4 : FVec F S65536x4 .f32) (main_arg5 : FVec F S65536x4 .f32) (main_arg6 : FVec F S65536x4 .f32) (main_arg7 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S65536x512 .f32 := Host.absf main_arg2
  let main_cst_2 : FVec F S_ .f32 := constant S_ .f32 0x7F800000#32
  let main_v10 : FVec F S65536x512 .f32 := broadcastInDim S65536x512 ![] bcast_S_S65536x512 main_cst_2
  let main_v11 : IVec S65536x512 1 := cmpf .olt main_v9 main_v10
  let main_c_3 : IVec S_ 1 := constantI S_ 1 1#1
  let main_v12 : IVec S_ 1 := (fun x v => Host.reduce IntOp.andi x v reducesTo_S65536x512_S_d0_1 h_S_) main_v11 main_c_3
  let main_v13 : IVec S_ 1 := andi main_v8 main_v12
  let main_v14 : FVec F S65536x4 .f32 := Host.absf main_arg4
  let main_cst_4 : FVec F S_ .f32 := constant S_ .f32 0x7F800000#32
  let main_v15 : FVec F S65536x4 .f32 := broadcastInDim S65536x4 ![] bcast_S_S65536x4 main_cst_4
  let main_v16 : IVec S65536x4 1 := cmpf .olt main_v14 main_v15
  fn_part1 (F := F) main_arg5 main_arg6 main_v13 main_v16
-- ==== Kernel.lean ====
abbrev S65536x512 : Shape := ⟨2, ![65536, 512]⟩
abbrev S65536x8 : Shape := ⟨2, ![65536, 8]⟩
abbrev S_ : Shape := ⟨0, ![]⟩
abbrev S65536x1536 : Shape := ⟨2, ![65536, 1536]⟩
abbrev S65536x8x1 : Shape := ⟨3, ![65536, 8, 1]⟩
abbrev S65536x8x3 : Shape := ⟨3, ![65536, 8, 3]⟩
abbrev S65536x4x6 : Shape := ⟨3, ![65536, 4, 6]⟩
abbrev S65536x4x116 : Shape := ⟨3, ![65536, 4, 116]⟩
abbrev S65536x4x128 : Shape := ⟨3, ![65536, 4, 128]⟩
abbrev S512x128 : Shape := ⟨2, ![512, 128]⟩
abbrev S4096x128 : Shape := ⟨2, ![4096, 128]⟩
abbrev S4096x256 : Shape := ⟨2, ![4096, 256]⟩
abbrev S8x128x512 : Shape := ⟨3, ![8, 128, 512]⟩
abbrev S2x2x512x512 : Shape := ⟨4, ![2, 2, 512, 512]⟩
abbrev S2x1x512 : Shape := ⟨3, ![2, 1, 512]⟩
abbrev S2x128x512 : Shape := ⟨3, ![2, 128, 512]⟩
abbrev S128x512 : Shape := ⟨2, ![128, 512]⟩
abbrev S1x128x512 : Shape := ⟨3, ![1, 128, 512]⟩
abbrev S512x256 : Shape := ⟨2, ![512, 256]⟩
abbrev S512x512 : Shape := ⟨2, ![512, 512]⟩
abbrev S1x1x512x512 : Shape := ⟨4, ![1, 1, 512, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 29
  | .vmem => 18
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x512, .f32⟩
  | .hbm, ⟨3, _⟩ => ⟨S65536x8, .f32⟩
  | .hbm, ⟨4, _⟩ => ⟨S_, .f32⟩
  | .hbm, ⟨5, _⟩ => ⟨S65536x512, .f32⟩
  | .hbm, ⟨6, _⟩ => ⟨S65536x512, .f32⟩
  | .hbm, ⟨7, _⟩ => ⟨S65536x1536, .f32⟩
  | .hbm, ⟨8, _⟩ => ⟨S65536x1536, .bf16⟩
  | .hbm, ⟨9, _⟩ => ⟨S65536x8, .f32⟩
  | .hbm, ⟨10, _⟩ => ⟨S65536x8, .bf16⟩
  | .hbm, ⟨11, _⟩ => ⟨S65536x8, .f32⟩
  | .hbm, ⟨12, _⟩ => ⟨S65536x8, .f32⟩
  | .hbm, ⟨13, _⟩ => ⟨S65536x8, .bf16⟩
  | .hbm, ⟨14, _⟩ => ⟨S65536x8, .f32⟩
  | .hbm, ⟨15, _⟩ => ⟨S65536x8, .f32⟩
  | .hbm, ⟨16, _⟩ => ⟨S65536x8, .bf16⟩
  | .hbm, ⟨17, _⟩ => ⟨S65536x8x1, .bf16⟩
  | .hbm, ⟨18, _⟩ => ⟨S65536x8x1, .bf16⟩
  | .hbm, ⟨19, _⟩ => ⟨S65536x8x1, .bf16⟩
  | .hbm, ⟨20, _⟩ => ⟨S65536x8x3, .bf16⟩
  | .hbm, ⟨21, _⟩ => ⟨S65536x4x6, .bf16⟩
  | .hbm, ⟨22, _⟩ => ⟨S_, .bf16⟩
  | .hbm, ⟨23, _⟩ => ⟨S65536x4x6, .bf16⟩
  | .hbm, ⟨24, _⟩ => ⟨S_, .bf16⟩
  | .hbm, ⟨25, _⟩ => ⟨S65536x4x116, .bf16⟩
  | .hbm, ⟨26, _⟩ => ⟨S65536x4x128, .bf16⟩
  | .hbm, ⟨27, _⟩ => ⟨S65536x512, .bf16⟩
  | .hbm, ⟨28, _⟩ => ⟨S65536x512, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S512x128, .bf16⟩
  | .local _ .vmem, ⟨11, _⟩ => ⟨S512x128, .bf16⟩
  | .local _ .vmem, ⟨12, _⟩ => ⟨S4096x256, .bf16⟩
  | .local _ .vmem, ⟨13, _⟩ => ⟨S8x128x512, .bf16⟩
  | .local _ .vmem, ⟨14, _⟩ => ⟨S8x128x512, .bf16⟩
  | .local _ .vmem, ⟨15, _⟩ => ⟨S2x2x512x512, .bf16⟩
  | .local _ .vmem, ⟨16, _⟩ => ⟨S2x1x512, .f32⟩
  | .local _ .vmem, ⟨17, _⟩ => ⟨S2x128x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c0_i32_23 : BitVec 32 := 0#32
  let v61 : BitVec 32 := Scalar.maxsi arg2 c0_i32_23
  let c7_i32 : BitVec 32 := 7#32
  let v62 : BitVec 32 := Scalar.minsi v61 c7_i32
  let c0_i32_24 : BitVec 32 := 0#32
  let v63 : BitVec 1 := Scalar.cmpi .ne v62 c0_i32_24
  v63

def k0_cond3 (i : grid0.Coords) : BitVec 1 :=
  let arg2 : BitVec 32 := BitVec.ofNat 32 (i 2).val
  let c0_i32_23 : BitVec 32 := 0#32
  let v61 : BitVec 32 := Scalar.maxsi arg2 c0_i32_23
  let c7_i32 : BitVec 32 := 7#32
  let v62 : BitVec 32 := Scalar.minsi v61 c7_i32
  let c1_i32 : BitVec 32 := 1#32
  let v80 : BitVec 32 := Scalar.subi v62 c1_i32
  let c0_i32_33 : BitVec 32 := 0#32
  let v81 : BitVec 1 := Scalar.cmpi .ne v80 c0_i32_33
  v81

def k0_cond4 (i : grid0.Coords) : BitVec 1 :=
  let arg2 : BitVec 32 := BitVec.ofNat 32 (i 2).val
  let c0_i32_23 : BitVec 32 := 0#32
  let v61 : BitVec 32 := Scalar.maxsi arg2 c0_i32_23
  let c7_i32 : BitVec 32 := 7#32
  let v62 : BitVec 32 := Scalar.minsi v61 c7_i32
  let c1_i32 : BitVec 32 := 1#32
  let v80 : BitVec 32 := Scalar.subi v62 c1_i32
  let c1_i32_34 : BitVec 32 := 1#32
  let v82 : BitVec 32 := Scalar.subi v80 c1_i32_34
  let c0_i32_35 : BitVec 32 := 0#32
  let v83 : BitVec 1 := Scalar.cmpi .ne v82 c0_i32_35
  v83

def k0_cond5 (i : grid0.Coords) : BitVec 1 :=
  let arg2 : BitVec 32 := BitVec.ofNat 32 (i 2).val
  let c0_i32_23 : BitVec 32 := 0#32
  let v61 : BitVec 32 := Scalar.maxsi arg2 c0_i32_23
  let c7_i32 : BitVec 32 := 7#32
  let v62 : BitVec 32 := Scalar.minsi v61 c7_i32
  let c1_i32 : BitVec 32 := 1#32
  let v80 : BitVec 32 := Scalar.subi v62 c1_i32
  let c1_i32_34 : BitVec 32 := 1#32
  let v82 : BitVec 32 := Scalar.subi v80 c1_i32_34
  let c1_i32_36 : BitVec 32 := 1#32
  let v84 : BitVec 32 := Scalar.subi v82 c1_i32_36
  let c0_i32_37 : BitVec 32 := 0#32
  let v85 : BitVec 1 := Scalar.cmpi .ne v84 c0_i32_37
  v85

def k0_cond6 (i : grid0.Coords) : BitVec 1 :=
  let arg2 : BitVec 32 := BitVec.ofNat 32 (i 2).val
  let c0_i32_23 : BitVec 32 := 0#32
  let v61 : BitVec 32 := Scalar.maxsi arg2 c0_i32_23
  let c7_i32 : BitVec 32 := 7#32
  let v62 : BitVec 32 := Scalar.minsi v61 c7_i32
  let c1_i32 : BitVec 32 := 1#32
  let v80 : BitVec 32 := Scalar.subi v62 c1_i32
  let c1_i32_34 : BitVec 32 := 1#32
  let v82 : BitVec 32 := Scalar.subi v80 c1_i32_34
  let c1_i32_36 : BitVec 32 := 1#32
  let v84 : BitVec 32 := Scalar.subi v82 c1_i32_36
  let c1_i32_38 : BitVec 32 := 1#32
  let v86 : BitVec 32 := Scalar.subi v84 c1_i32_38
  let c0_i32_39 : BitVec 32 := 0#32
  let v87 : BitVec 1 := Scalar.cmpi .ne v86 c0_i32_39
  v87

def k0_cond7 (i : grid0.Coords) : BitVec 1 :=
  let arg2 : BitVec 32 := BitVec.ofNat 32 (i 2).val
  let c0_i32_23 : BitVec 32 := 0#32
  let v61 : BitVec 32 := Scalar.maxsi arg2 c0_i32_23
  let c7_i32 : BitVec 32 := 7#32
  let v62 : BitVec 32 := Scalar.minsi v61 c7_i32
  let c1_i32 : BitVec 32 := 1#32
  let v80 : BitVec 32 := Scalar.subi v62 c1_i32
  let c1_i32_34 : BitVec 32 := 1#32
  let v82 : BitVec 32 := Scalar.subi v80 c1_i32_34
  let c1_i32_36 : BitVec 32 := 1#32
  let v84 : BitVec 32 := Scalar.subi v82 c1_i32_36
  let c1_i32_38 : BitVec 32 := 1#32
  let v86 : BitVec 32 := Scalar.subi v84 c1_i32_38
  let c1_i32_40 : BitVec 32 := 1#32
  let v88 : BitVec 32 := Scalar.subi v86 c1_i32_40
  let c0_i32_41 : BitVec 32 := 0#32
  let v89 : BitVec 1 := Scalar.cmpi .ne v88 c0_i32_41
  v89

def k0_cond8 (i : grid0.Coords) : BitVec 1 :=
  let arg2 : BitVec 32 := BitVec.ofNat 32 (i 2).val
  let c0_i32_23 : BitVec 32 := 0#32
  let v61 : BitVec 32 := Scalar.maxsi arg2 c0_i32_23
  let c7_i32 : BitVec 32 := 7#32
  let v62 : BitVec 32 := Scalar.minsi v61 c7_i32
  let c1_i32 : BitVec 32 := 1#32
  let v80 : BitVec 32 := Scalar.subi v62 c1_i32
  let c1_i32_34 : BitVec 32 := 1#32
  let v82 : BitVec 32 := Scalar.subi v80 c1_i32_34
  let c1_i32_36 : BitVec 32 := 1#32
  let v84 : BitVec 32 := Scalar.subi v82 c1_i32_36
  let c1_i32_38 : BitVec 32 := 1#32
  let v86 : BitVec 32 := Scalar.subi v84 c1_i32_38
  let c1_i32_40 : BitVec 32 := 1#32
  let v88 : BitVec 32 := Scalar.subi v86 c1_i32_40
  let c1_i32_42 : BitVec 32 := 1#32
  let v90 : BitVec 32 := Scalar.subi v88 c1_i32_42
  let c0_i32_43 : BitVec 32 := 0#32
  let v91 : BitVec 1 := Scalar.cmpi .ne v90 c0_i32_43
  v91

def k0_mult1 : BitVec 32 :=
  let c0_i32_44 : BitVec 32 := 0#32
  c0_i32_44
def k0_mult2 : BitVec 32 :=
  let c512_i32 : BitVec 32 := 512#32
  c512_i32
def k0_mult3 : BitVec 32 :=
  let c1024_i32 : BitVec 32 := 1024#32
  c1024_i32
def k0_mult4 : BitVec 32 :=
  let c1536_i32 : BitVec 32 := 1536#32
  c1536_i32
def k0_mult5 : BitVec 32 :=
  let c2048_i32 : BitVec 32 := 2048#32
  c2048_i32
def k0_mult6 : BitVec 32 :=
  let c2560_i32 : BitVec 32 := 2560#32
  c2560_i32
def k0_mult7 : BitVec 32 :=
  let c3072_i32 : BitVec 32 := 3072#32
  c3072_i32
def k0_mult8 : BitVec 32 :=
  let c3584_i32 : BitVec 32 := 3584#32
  c3584_i32
def k0_mult9 : BitVec 32 :=
  let c0_i32_44 : BitVec 32 := 0#32
  c0_i32_44
def k0_mult10 : BitVec 32 :=
  let c512_i32 : BitVec 32 := 512#32
  c512_i32
def k0_mult11 : BitVec 32 :=
  let c1024_i32 : BitVec 32 := 1024#32
  c1024_i32
def k0_mult12 : BitVec 32 :=
  let c1536_i32 : BitVec 32 := 1536#32
  c1536_i32
def k0_mult13 : BitVec 32 :=
  let c2048_i32 : BitVec 32 := 2048#32
  c2048_i32
def k0_mult14 : BitVec 32 :=
  let c2560_i32 : BitVec 32 := 2560#32
  c2560_i32
def k0_mult15 : BitVec 32 :=
  let c3072_i32 : BitVec 32 := 3072#32
  c3072_i32
def k0_mult16 : BitVec 32 :=
  let c0_i32_42 : BitVec 32 := 0#32
  c0_i32_42
def k0_mult17 : BitVec 32 :=
  let c512_i32 : BitVec 32 := 512#32
  c512_i32
def k0_mult18 : BitVec 32 :=
  let c1024_i32 : BitVec 32 := 1024#32
  c1024_i32
def k0_mult19 : BitVec 32 :=
  let c1536_i32 : BitVec 32 := 1536#32
  c1536_i32
def k0_mult20 : BitVec 32 :=
  let c2048_i32 : BitVec 32 := 2048#32
  c2048_i32
def k0_mult21 : BitVec 32 :=
  let c2560_i32 : BitVec 32 := 2560#32
  c2560_i32
def k0_mult22 : BitVec 32 :=
  let c0_i32_40 : BitVec 32 := 0#32
  c0_i32_40
def k0_mult23 : BitVec 32 :=
  let c512_i32 : BitVec 32 := 512#32
  c512_i32
def k0_mult24 : BitVec 32 :=
  let c1024_i32 : BitVec 32 := 1024#32
  c1024_i32
def k0_mult25 : BitVec 32 :=
  let c1536_i32 : BitVec 32 := 1536#32
  c1536_i32
def k0_mult26 : BitVec 32 :=
  let c2048_i32 : BitVec 32 := 2048#32
  c2048_i32
def k0_mult27 : BitVec 32 :=
  let c0_i32_38 : BitVec 32 := 0#32
  c0_i32_38
def k0_mult28 : BitVec 32 :=
  let c512_i32 : BitVec 32 := 512#32
  c512_i32
def k0_mult29 : BitVec 32 :=
  let c1024_i32 : BitVec 32 := 1024#32
  c1024_i32
def k0_mult30 : BitVec 32 :=
  let c1536_i32 : BitVec 32 := 1536#32
  c1536_i32
def k0_mult31 : BitVec 32 :=
  let c0_i32_36 : BitVec 32 := 0#32
  c0_i32_36
def k0_mult32 : BitVec 32 :=
  let c512_i32 : BitVec 32 := 512#32
  c512_i32
def k0_mult33 : BitVec 32 :=
  let c1024_i32 : BitVec 32 := 1024#32
  c1024_i32
def k0_mult34 : BitVec 32 :=
  let c0_i32_34 : BitVec 32 := 0#32
  c0_i32_34
def k0_mult35 : BitVec 32 :=
  let c512_i32 : BitVec 32 := 512#32
  c512_i32
def k0_mult36 : BitVec 32 :=
  let c0_i32_33 : BitVec 32 := 0#32
  c0_i32_33
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S65536x512 : Shape := ⟨2, ![65536, 512]⟩
abbrev S65536x8 : Shape := ⟨2, ![65536, 8]⟩
abbrev S16x4096x8x64 : Shape := ⟨4, ![16, 4096, 8, 64]⟩
abbrev S16x8x4096x64 : Shape := ⟨4, ![16, 8, 4096, 64]⟩
abbrev S_ : Shape := ⟨0, ![]⟩
abbrev S16x4096x8 : Shape := ⟨3, ![16, 4096, 8]⟩
abbrev S16x8x4096 : Shape := ⟨3, ![16, 8, 4096]⟩
abbrev S4096 : Shape := ⟨1, ![4096]⟩
abbrev S16x8x4096x4096 : Shape := ⟨4, ![16, 8, 4096, 4096]⟩
abbrev S16x8x4096x1 : Shape := ⟨4, ![16, 8, 4096, 1]⟩
abbrev S16x8x1x4096 : Shape := ⟨4, ![16, 8, 1, 4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 51
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x512, .f32⟩
  | .hbm, ⟨3, _⟩ => ⟨S65536x8, .f32⟩
  | .hbm, ⟨4, _⟩ => ⟨S16x4096x8x64, .f32⟩
  | .hbm, ⟨5, _⟩ => ⟨S16x8x4096x64, .f32⟩
  | .hbm, ⟨6, _⟩ => ⟨S_, .f32⟩
  | .hbm, ⟨7, _⟩ => ⟨S16x8x4096x64, .f32⟩
  | .hbm, ⟨8, _⟩ => ⟨S16x8x4096x64, .f32⟩
  | .hbm, ⟨9, _⟩ => ⟨S16x4096x8x64, .f32⟩
  | .hbm, ⟨10, _⟩ => ⟨S16x8x4096x64, .f32⟩
  | .hbm, ⟨11, _⟩ => ⟨S16x4096x8x64, .f32⟩
  | .hbm, ⟨12, _⟩ => ⟨S16x8x4096x64, .f32⟩
  | .hbm, ⟨13, _⟩ => ⟨S16x4096x8, .f32⟩
  | .hbm, ⟨14, _⟩ => ⟨S16x8x4096, .f32⟩
  | .hbm, ⟨15, _⟩ => ⟨S4096, .i32⟩
  | .hbm, ⟨16, _⟩ => ⟨S16x8x4096x4096, .f32⟩
  | .hbm, ⟨17, _⟩ => ⟨S16x8x4096x1, .f32⟩
  | .hbm, ⟨18, _⟩ => ⟨S16x8x4096x4096, .f32⟩
  | .hbm, ⟨19, _⟩ => ⟨S16x8x4096x4096, .f32⟩
  | .hbm, ⟨20, _⟩ => ⟨S16x8x1x4096, .f32⟩
  | .hbm, ⟨21, _⟩ => ⟨S16x8x4096x4096, .f32⟩
  | .hbm, ⟨22, _⟩ => ⟨S16x8x4096x4096, .f32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S16x8x4096x4096, .i1⟩
  | .hbm, ⟨31, _⟩ => ⟨S16x8x4096x4096, .f32⟩
  | .hbm, ⟨32, _⟩ => ⟨S16x8x4096x4096, .f32⟩
  | .hbm, ⟨33, _⟩ => ⟨S_, .f32⟩
  | .hbm, ⟨34, _⟩ => ⟨S16x8x4096, .f32⟩
  | .hbm, ⟨35, _⟩ => ⟨S_, .f32⟩
  | .hbm, ⟨36, _⟩ => ⟨S16x8x4096, .f32⟩
  | .hbm, ⟨37, _⟩ => ⟨S16x8x4096, .f32⟩
  | .hbm, ⟨38, _⟩ => ⟨S16x8x4096x1, .f32⟩
  | .hbm, ⟨39, _⟩ => ⟨S16x8x4096x4096, .f32⟩
  | .hbm, ⟨40, _⟩ => ⟨S16x8x4096x4096, .f32⟩
  | .hbm, ⟨41, _⟩ => ⟨S16x8x4096x4096, .f32⟩
  | .hbm, ⟨42, _⟩ => ⟨S_, .f32⟩
  | .hbm, ⟨43, _⟩ => ⟨S16x8x4096, .f32⟩
  | .hbm, ⟨44, _⟩ => ⟨S16x8x4096x1, .f32⟩
  | .hbm, ⟨45, _⟩ => ⟨S16x8x4096x4096, .f32⟩
  | .hbm, ⟨46, _⟩ => ⟨S16x8x4096x4096, .f32⟩
  | .hbm, ⟨47, _⟩ => ⟨S16x8x4096x64, .f32⟩
  | .hbm, ⟨48, _⟩ => ⟨S16x4096x8x64, .f32⟩
  | .hbm, ⟨49, _⟩ => ⟨S65536x512, .f32⟩
  | .hbm, ⟨50, _⟩ => ⟨S65536x512, .bf16⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel2.lean ====
abbrev S65536x1024 : Shape := ⟨2, ![65536, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S65536x1024 : Shape := ⟨2, ![65536, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4096 : Shape := ⟨2, ![65536, 4096]⟩

abbrev nBuf : Space → Nat
  | .hbm => 44
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x4096, .f32⟩
  | .hbm, ⟨22, _⟩ => ⟨S_, .f32⟩
  | .hbm, ⟨23, _⟩ => ⟨S65536x4096, .f32⟩
  | .hbm, ⟨24, _⟩ => ⟨S65536x4096, .f32⟩
  | .hbm, ⟨25, _⟩ => ⟨S65536x4096, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536, .f32⟩
  | .hbm, ⟨31, _⟩ => ⟨S65536x1, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1, .f32⟩
  | .hbm, ⟨39, _⟩ => ⟨S65536x1024, .f32⟩
  | .hbm, ⟨40, _⟩ => ⟨S65536x1024, .f32⟩
  | .hbm, ⟨41, _⟩ => ⟨S1x1024, .f32⟩
  | .hbm, ⟨42, _⟩ => ⟨S65536x1024, .f32⟩
  | .hbm, ⟨43, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel3.lean ====
abbrev S65536x1024 : Shape := ⟨2, ![65536, 1024]⟩
abbrev S65536x512 : Shape := ⟨2, ![65536, 512]⟩
abbrev S65536x2048 : Shape := ⟨2, ![65536, 2048]⟩
abbrev S4x16x256x2048 : Shape := ⟨4, ![4, 16, 256, 2048]⟩
abbrev S2048 : Shape := ⟨1, ![2048]⟩
abbrev S512x1024 : Shape := ⟨2, ![512, 1024]⟩
abbrev S1024x1024 : Shape := ⟨2, ![1024, 1024]⟩
abbrev S1024 : Shape := ⟨1, ![1024]⟩
abbrev S1x2048 : Shape := ⟨2, ![1, 2048]⟩
abbrev S1x1024 : Shape := ⟨2, ![1, 1024]⟩
abbrev S512x512 : Shape := ⟨2, ![512, 512]⟩
abbrev S512x2048 : Shape := ⟨2, ![512, 2048]⟩
abbrev S1x1x256x2048 : Shape := ⟨4, ![1, 1, 256, 2048]⟩
abbrev S512 : Shape := ⟨1, ![512]⟩
abbrev S512x1 : Shape := ⟨2, ![512, 1]⟩
abbrev S512x256 : Shape := ⟨2, ![512, 256]⟩
abbrev S1x1x256x256 : Shape := ⟨4, ![1, 1, 256, 256]⟩
abbrev S256x256 : Shape := ⟨2, ![256, 256]⟩

abbrev nBuf : Space → Nat
  | .hbm => 24
  | .vmem => 19
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S65536x2048, .f32⟩
  | .hbm, ⟨4, _⟩ => ⟨S4x16x256x2048, .f32⟩
  | .hbm, ⟨5, _⟩ => ⟨S2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S65536x512, .bf16⟩
  | .hbm, ⟨13, _⟩ => ⟨S65536x512, .bf16⟩
  | .hbm, ⟨14, _⟩ => ⟨S65536x2048, .bf16⟩
  | .hbm, ⟨15, _⟩ => ⟨S1x2048, .f32⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S1x1024, .f32⟩
  | .hbm, ⟨20, _⟩ => ⟨S1024x1024, .bf16⟩
  | .hbm, ⟨21, _⟩ => ⟨S4x16x256x2048, .bf16⟩
  | .hbm, ⟨22, _⟩ => ⟨S1024x1024, .bf16⟩
  | .hbm, ⟨23, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S1x1x256x2048, .bf16⟩
  | .local _ .vmem, ⟨15, _⟩ => ⟨S1x1x256x2048, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S65536x1024 : Shape := ⟨2, ![65536, 1024]⟩
abbrev S65536x512 : Shape := ⟨2, ![65536, 512]⟩
abbrev S65536x2048 : Shape := ⟨2, ![65536, 2048]⟩
abbrev S4x16x256x2048 : Shape := ⟨4, ![4, 16, 256, 2048]⟩
abbrev S2048 : Shape := ⟨1, ![2048]⟩
abbrev S512x1024 : Shape := ⟨2, ![512, 1024]⟩
abbrev S1024x1024 : Shape := ⟨2, ![1024, 1024]⟩
abbrev S1024 : Shape := ⟨1, ![1024]⟩
abbrev S1x2048 : Shape := ⟨2, ![1, 2048]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S16x4096x4x256 : Shape := ⟨4, ![16, 4096, 4, 256]⟩
abbrev S1x16x256x2048 : Shape := ⟨4, ![1, 16, 256, 2048]⟩
abbrev S16x256x2048 : Shape := ⟨3, ![16, 256, 2048]⟩
abbrev S16x256x1024 : Shape := ⟨3, ![16, 256, 1024]⟩
abbrev S16x256x4x256 : Shape := ⟨4, ![16, 256, 4, 256]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S16x4x256x4096 : Shape := ⟨4, ![16, 4, 256, 4096]⟩

abbrev nBuf : Space → Nat
  | .hbm => 79
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S65536x2048, .f32⟩
  | .hbm, ⟨4, _⟩ => ⟨S4x16x256x2048, .f32⟩
  | .hbm, ⟨5, _⟩ => ⟨S2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1x2048, .f32⟩
  | .hbm, ⟨13, _⟩ => ⟨S65536x2048, .f32⟩
  | .hbm, ⟨14, _⟩ => ⟨S65536x2048, .f32⟩
  | .hbm, ⟨15, _⟩ => ⟨S65536x2048, .f32⟩
  | .hbm, ⟨16, _⟩ => ⟨S65536x2048, .f32⟩
  | .hbm, ⟨17, _⟩ => ⟨S_, .f32⟩
  | .hbm, ⟨18, _⟩ => ⟨S65536x2048, .f32⟩
  | .hbm, ⟨19, _⟩ => ⟨S65536x2048, .f32⟩
  | .hbm, ⟨20, _⟩ => ⟨S_, .f32⟩
  | .hbm, ⟨21, _⟩ => ⟨S65536x2048, .f32⟩
  | .hbm, ⟨22, _⟩ => ⟨S65536x2048, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S65536x1, .f32⟩
  | .hbm, ⟨43, _⟩ => ⟨S65536x1024, .f32⟩
  | .hbm, ⟨44, _⟩ => ⟨S65536x1024, .f32⟩
  | .hbm, ⟨45, _⟩ => ⟨S1x1024, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S16x4096x4x256, .f32⟩
  | .hbm, ⟨50, _⟩ => ⟨S1x16x256x2048, .f32⟩
  | .hbm, ⟨51, _⟩ => ⟨S16x256x2048, .f32⟩
  | .hbm, ⟨52, _⟩ => ⟨S16x256x1024, .f32⟩
  | .hbm, ⟨53, _⟩ => ⟨S16x256x1024, .f32⟩
  | .hbm, ⟨54, _⟩ => ⟨S16x256x4x256, .f32⟩
  | .hbm, ⟨55, _⟩ => ⟨S16x256x4x256, .f32⟩
  | .hbm, ⟨56, _⟩ => ⟨S16x4x4096x256, .f32⟩
  | .hbm, ⟨57, _⟩ => ⟨S_, .f32⟩
  | .hbm, ⟨58, _⟩ => ⟨S16x4x4096x256, .f32⟩
  | .hbm, ⟨59, _⟩ => ⟨S16x4x4096x256, .f32⟩
  | .hbm, ⟨60, _⟩ => ⟨S_, .f32⟩
  | .hbm, ⟨61, _⟩ => ⟨S16x4x4096, .f32⟩
  | .hbm, ⟨62, _⟩ => ⟨S_, .f32⟩
  | .hbm, ⟨63, _⟩ => ⟨S16x4x4096, .f32⟩
  | .hbm, ⟨64, _⟩ => ⟨S16x4x4096, .f32⟩
  | .hbm, ⟨65, _⟩ => ⟨S16x4x4096x1, .f32⟩
  | .hbm, ⟨66, _⟩ => ⟨S16x4x4096x256, .f32⟩
  | .hbm, ⟨67, _⟩ => ⟨S16x4x4096x256, .f32⟩
  | .hbm, ⟨68, _⟩ => ⟨S16x4x4096x256, .f32⟩
  | .hbm, ⟨69, _⟩ => ⟨S_, .f32⟩
  | .hbm, ⟨70, _⟩ => ⟨S16x4x4096, .f32⟩
  | .hbm, ⟨71, _⟩ => ⟨S16x4x4096x1, .f32⟩
  | .hbm, ⟨72, _⟩ => ⟨S16x4x4096x256, .f32⟩
  | .hbm, ⟨73, _⟩ => ⟨S16x4x4096x256, .f32⟩
  | .hbm, ⟨74, _⟩ => ⟨S16x4x256x4096, .f32⟩
  | .hbm, ⟨75, _⟩ => ⟨S16x4096x4x256, .f32⟩
  | .hbm, ⟨76, _⟩ => ⟨S65536x1024, .f32⟩
  | .hbm, ⟨77, _⟩ => ⟨S65536x1024, .f32⟩
  | .hbm, ⟨78, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Kernel4.lean ====
abbrev S16x256x1024 : Shape := ⟨3, ![16, 256, 1024]⟩
abbrev S4x1024 : Shape := ⟨2, ![4, 1024]⟩
abbrev S4x1024x2048 : Shape := ⟨3, ![4, 1024, 2048]⟩
abbrev S4x1x1024 : Shape := ⟨3, ![4, 1, 1024]⟩
abbrev S4x16x256x2048 : Shape := ⟨4, ![4, 16, 256, 2048]⟩
abbrev S1x256x1024 : Shape := ⟨3, ![1, 256, 1024]⟩
abbrev S1x1x1024 : Shape := ⟨3, ![1, 1, 1024]⟩
abbrev S1x1024x2048 : Shape := ⟨3, ![1, 1024, 2048]⟩
abbrev S1x1x256x2048 : Shape := ⟨4, ![1, 1, 256, 2048]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x1x256x512 : Shape := ⟨4, ![1, 1, 256, 512]⟩

abbrev nBuf : Space → Nat
  | .hbm => 6
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S4x1024, .f32⟩
  | .hbm, ⟨2, _⟩ => ⟨S4x1024x2048, .f32⟩
  | .hbm, ⟨3, _⟩ => ⟨S4x1x1024, .f32⟩
  | .hbm, ⟨4, _⟩ => ⟨S4x1024x2048, .bf16⟩
  | .hbm, ⟨5, _⟩ => ⟨S4x16x256x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x2048, .bf16⟩
  | .local _ .vmem, ⟨5, _⟩ => ⟨S1x1024x2048, .bf16⟩
  | .local _ .vmem, ⟨6, _⟩ => ⟨S1x1x256x2048, .bf16⟩
  | .local _ .vmem, ⟨7, _⟩ => ⟨S1x1x256x2048, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16x256x1024 : Shape := ⟨3, ![16, 256, 1024]⟩
abbrev S4x1024 : Shape := ⟨2, ![4, 1024]⟩
abbrev S4x1024x2048 : Shape := ⟨3, ![4, 1024, 2048]⟩
abbrev S1x16x256x1024 : Shape := ⟨4, ![1, 16, 256, 1024]⟩
abbrev S4x1x1x1024 : Shape := ⟨4, ![4, 1, 1, 1024]⟩
abbrev S_ : Shape := ⟨0, ![]⟩
abbrev S1x16x256 : Shape := ⟨3, ![1, 16, 256]⟩
abbrev S1x16x256x1 : Shape := ⟨4, ![1, 16, 256, 1]⟩
abbrev S4x16x256x1024 : Shape := ⟨4, ![4, 16, 256, 1024]⟩
abbrev S4x16x256x2048 : Shape := ⟨4, ![4, 16, 256, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S4x1024, .f32⟩
  | .hbm, ⟨2, _⟩ => ⟨S4x1024x2048, .f32⟩
  | .hbm, ⟨3, _⟩ => ⟨S1x16x256x1024, .f32⟩
  | .hbm, ⟨4, _⟩ => ⟨S4x1x1x1024, .f32⟩
  | .hbm, ⟨5, _⟩ => ⟨S1x16x256x1024, .f32⟩
  | .hbm, ⟨6, _⟩ => ⟨S_, .f32⟩
  | .hbm, ⟨7, _⟩ => ⟨S1x16x256, .f32⟩
  | .hbm, ⟨8, _⟩ => ⟨S1x16x256x1, .f32⟩
  | .hbm, ⟨9, _⟩ => ⟨S_, .f32⟩
  | .hbm, ⟨10, _⟩ => ⟨S1x16x256x1, .f32⟩
  | .hbm, ⟨11, _⟩ => ⟨S1x16x256x1, .f32⟩
  | .hbm, ⟨12, _⟩ => ⟨S_, .f32⟩
  | .hbm, ⟨13, _⟩ => ⟨S1x16x256x1, .f32⟩
  | .hbm, ⟨14, _⟩ => ⟨S1x16x256x1, .f32⟩
  | .hbm, ⟨15, _⟩ => ⟨S1x16x256x1, .f32⟩
  | .hbm, ⟨16, _⟩ => ⟨S1x16x256x1024, .f32⟩
  | .hbm, ⟨17, _⟩ => ⟨S1x16x256x1024, .f32⟩
  | .hbm, ⟨18, _⟩ => ⟨S4x16x256x1024, .f32⟩
  | .hbm, ⟨19, _⟩ => ⟨S4x16x256x1024, .f32⟩
  | .hbm, ⟨20, _⟩ => ⟨S4x16x256x1024, .f32⟩
  | .hbm, ⟨21, _⟩ => ⟨S4x16x256x2048, .f32⟩
  | .hbm, ⟨22, _⟩ => ⟨S4x16x256x2048, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S65536x1024 : Shape := ⟨2, ![65536, 1024]⟩
abbrev S1024 : Shape := ⟨1, ![1024]⟩
abbrev S1024x5648 : Shape := ⟨2, ![1024, 5648]⟩
abbrev S8 : Shape := ⟨1, ![8]⟩
abbrev S4 : Shape := ⟨1, ![4]⟩
abbrev S4x1024 : Shape := ⟨2, ![4, 1024]⟩
abbrev S128x768 : Shape := ⟨2, ![128, 768]⟩
abbrev S1x768 : Shape := ⟨2, ![1, 768]⟩
abbrev S1024x512 : Shape := ⟨2, ![1024, 512]⟩
abbrev S_ : Shape := ⟨0, ![]⟩
abbrev S1024x1536 : Shape := ⟨2, ![1024, 1536]⟩
abbrev S1024x1024 : Shape := ⟨2, ![1024, 1024]⟩
abbrev S1024x2048 : Shape := ⟨2, ![1024, 2048]⟩
abbrev S1024x8 : Shape := ⟨2, ![1024, 8]⟩
abbrev S1024x4 : Shape := ⟨2, ![1024, 4]⟩
abbrev S1024x112 : Shape := ⟨2, ![1024, 112]⟩
abbrev S1024x128 : Shape := ⟨2, ![1024, 128]⟩
abbrev S112 : Shape := ⟨1, ![112]⟩
abbrev S128 : Shape := ⟨1, ![128]⟩
abbrev S1x128 : Shape := ⟨2, ![1, 128]⟩
abbrev S1x1024 : Shape := ⟨2, ![1, 1024]⟩
abbrev S65536x1536 : Shape := ⟨2, ![65536, 1536]⟩
abbrev S65536x2048 : Shape := ⟨2, ![65536, 2048]⟩
abbrev S65536x512 : Shape := ⟨2, ![65536, 512]⟩
abbrev S65536x128 : Shape := ⟨2, ![65536, 128]⟩
abbrev S512x1024 : Shape := ⟨2, ![512, 1024]⟩
abbrev S512x1536 : Shape := ⟨2, ![512, 1536]⟩
abbrev S512x2048 : Shape := ⟨2, ![512, 2048]⟩
abbrev S512x512 : Shape := ⟨2, ![512, 512]⟩
abbrev S512x128 : Shape := ⟨2, ![512, 128]⟩
abbrev S520x1024 : Shape := ⟨2, ![520, 1024]⟩
abbrev S16x1 : Shape := ⟨2, ![16, 1]⟩
abbrev S8x1024 : Shape := ⟨2, ![8, 1024]⟩
abbrev S512 : Shape := ⟨1, ![512]⟩
abbrev S512x1 : Shape := ⟨2, ![512, 1]⟩
abbrev S16x512 : Shape := ⟨2, ![16, 512]⟩
abbrev S128x512 : Shape := ⟨2, ![128, 512]⟩
abbrev S64x512 : Shape := ⟨2, ![64, 512]⟩
abbrev S512x768 : Shape := ⟨2, ![512, 768]⟩
abbrev S1x512 : Shape := ⟨2, ![1, 512]⟩

abbrev nBuf : Space → Nat
  | .hbm => 45
  | .vmem => 29
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5648, .f32⟩
  | .hbm, ⟨3, _⟩ => ⟨S8, .f32⟩
  | .hbm, ⟨4, _⟩ => ⟨S4, .f32⟩
  | .hbm, ⟨5, _⟩ => ⟨S4, .f32⟩
  | .hbm, ⟨6, _⟩ => ⟨S4x1024, .f32⟩
  | .hbm, ⟨7, _⟩ => ⟨S1024, .f32⟩
  | .hbm, ⟨8, _⟩ => ⟨S128x768, .bf16⟩
  | .hbm, ⟨9, _⟩ => ⟨S1x768, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x1536, .f32⟩
  | .hbm, ⟨17, _⟩ => ⟨S1024x1536, .bf16⟩
  | .hbm, ⟨18, _⟩ => ⟨S1024x1024, .f32⟩
  | .hbm, ⟨19, _⟩ => ⟨S1024x512, .f32⟩
  | .hbm, ⟨20, _⟩ => ⟨S1024x512, .f32⟩
  | .hbm, ⟨21, _⟩ => ⟨S1024x2048, .f32⟩
  | .hbm, ⟨22, _⟩ => ⟨S1024x2048, .bf16⟩
  | .hbm, ⟨23, _⟩ => ⟨S1024x2048, .f32⟩
  | .hbm, ⟨24, _⟩ => ⟨S1024x2048, .bf16⟩
  | .hbm, ⟨25, _⟩ => ⟨S1024x8, .f32⟩
  | .hbm, ⟨26, _⟩ => ⟨S1024x4, .f32⟩
  | .hbm, ⟨27, _⟩ => ⟨S1024x4, .f32⟩
  | .hbm, ⟨28, _⟩ => ⟨S_, .f32⟩
  | .hbm, ⟨29, _⟩ => ⟨S1024x112, .f32⟩
  | .hbm, ⟨30, _⟩ => ⟨S1024x128, .f32⟩
  | .hbm, ⟨31, _⟩ => ⟨S1024x128, .bf16⟩
  | .hbm, ⟨32, _⟩ => ⟨S_, .f32⟩
  | .hbm, ⟨33, _⟩ => ⟨S112, .f32⟩
  | .hbm, ⟨34, _⟩ => ⟨S128, .f32⟩
  | .hbm, ⟨35, _⟩ => ⟨S1x128, .f32⟩
  | .hbm, ⟨36, _⟩ => ⟨S1x1024, .f32⟩
  | .hbm, ⟨37, _⟩ => ⟨S1x1024, .f32⟩
  | .hbm, ⟨38, _⟩ => ⟨S65536x1536, .bf16⟩
  | .hbm, ⟨39, _⟩ => ⟨S65536x2048, .bf16⟩
  | .hbm, ⟨40, _⟩ => ⟨S65536x2048, .bf16⟩
  | .hbm, ⟨41, _⟩ => ⟨S65536x512, .bf16⟩
  | .hbm, ⟨42, _⟩ => ⟨S65536x128, .bf16⟩
  | .hbm, ⟨43, _⟩ => ⟨S65536x128, .bf16⟩
  | .hbm, ⟨44, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x2048, .bf16⟩
  | .local _ .vmem, ⟨5, _⟩ => ⟨S1024x2048, .bf16⟩
  | .local _ .vmem, ⟨6, _⟩ => ⟨S1024x128, .bf16⟩
  | .local _ .vmem, ⟨7, _⟩ => ⟨S4x1024, .f32⟩
  | .local _ .vmem, ⟨8, _⟩ => ⟨S1x1024, .f32⟩
  | .local _ .vmem, ⟨9, _⟩ => ⟨S1x128, .f32⟩
  | .local _ .vmem, ⟨10, _⟩ => ⟨S128x768, .bf16⟩
  | .local _ .vmem, ⟨11, _⟩ => ⟨S1x768, .f32⟩
  | .local _ .vmem, ⟨12, _⟩ => ⟨S512x1536, .bf16⟩
  | .local _ .vmem, ⟨13, _⟩ => ⟨S512x1536, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x512, .bf16⟩
  | .local _ .vmem, ⟨19, _⟩ => ⟨S512x512, .bf16⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S512x128, .f32⟩
  | .local _ .vmem, ⟨25, _⟩ => ⟨S512x128, .f32⟩
  | .local _ .vmem, ⟨26, _⟩ => ⟨S520x1024, .f32⟩
  | .local _ .vmem, ⟨27, _⟩ => ⟨S16x1, .f32⟩
  | .local _ .vmem, ⟨28, _⟩ => ⟨S16x1, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v25_2 : Ref sig .tc := ⟨.hbm, 40, rfl⟩
abbrev main_v25_3 : Ref sig .tc := ⟨.hbm, 41, rfl⟩
abbrev main_v25_4 : Ref sig .tc := ⟨.hbm, 42, rfl⟩
abbrev main_v25_5 : Ref sig .tc := ⟨.hbm, 43, rfl⟩
abbrev main_v25_6 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference5Ideal.lean ====
abbrev S65536x1024 : Shape := ⟨2, ![65536, 1024]⟩
abbrev S1024 : Shape := ⟨1, ![1024]⟩
abbrev S1024x5648 : Shape := ⟨2, ![1024, 5648]⟩
abbrev S8 : Shape := ⟨1, ![8]⟩
abbrev S4 : Shape := ⟨1, ![4]⟩
abbrev S4x1024 : Shape := ⟨2, ![4, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5648 : Shape := ⟨2, ![65536, 5648]⟩
abbrev S65536x512 : Shape := ⟨2, ![65536, 512]⟩
abbrev S65536x8 : Shape := ⟨2, ![65536, 8]⟩
abbrev S65536x4 : Shape := ⟨2, ![65536, 4]⟩
abbrev S65536x2048 : Shape := ⟨2, ![65536, 2048]⟩
abbrev S16x4096x1024 : Shape := ⟨3, ![16, 4096, 1024]⟩
abbrev S16x4099x1024 : Shape := ⟨3, ![16, 4099, 1024]⟩
abbrev S1x1x1024 : Shape := ⟨3, ![1, 1, 1024]⟩
abbrev S65536x1536 : Shape := ⟨2, ![65536, 1536]⟩

abbrev nBuf : Space → Nat
  | .hbm => 92
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5648, .f32⟩
  | .hbm, ⟨3, _⟩ => ⟨S8, .f32⟩
  | .hbm, ⟨4, _⟩ => ⟨S4, .f32⟩
  | .hbm, ⟨5, _⟩ => ⟨S4, .f32⟩
  | .hbm, ⟨6, _⟩ => ⟨S4x1024, .f32⟩
  | .hbm, ⟨7, _⟩ => ⟨S1024, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S65536x5648, .f32⟩
  | .hbm, ⟨25, _⟩ => ⟨S65536x512, .f32⟩
  | .hbm, ⟨26, _⟩ => ⟨S65536x512, .f32⟩
  | .hbm, ⟨27, _⟩ => ⟨S65536x512, .f32⟩
  | .hbm, ⟨28, _⟩ => ⟨S65536x8, .f32⟩
  | .hbm, ⟨29, _⟩ => ⟨S65536x1024, .f32⟩
  | .hbm, ⟨30, _⟩ => ⟨S65536x512, .f32⟩
  | .hbm, ⟨31, _⟩ => ⟨S65536x512, .f32⟩
  | .hbm, ⟨32, _⟩ => ⟨S65536x4, .f32⟩
  | .hbm, ⟨33, _⟩ => ⟨S65536x4, .f32⟩
  | .hbm, ⟨34, _⟩ => ⟨S65536x2048, .f32⟩
  | .hbm, ⟨35, _⟩ => ⟨S16x4096x1024, .f32⟩
  | .hbm, ⟨36, _⟩ => ⟨S_, .i32⟩
  | .hbm, ⟨37, _⟩ => ⟨S_, .f32⟩
  | .hbm, ⟨38, _⟩ => ⟨S16x4099x1024, .f32⟩
  | .hbm, ⟨39, _⟩ => ⟨S1x1024, .f32⟩
  | .hbm, ⟨40, _⟩ => ⟨S1024, .f32⟩
  | .hbm, ⟨41, _⟩ => ⟨S16x4096x1024, .f32⟩
  | .hbm, ⟨42, _⟩ => ⟨S1x1x1024, .f32⟩
  | .hbm, ⟨43, _⟩ => ⟨S16x4096x1024, .f32⟩
  | .hbm, ⟨44, _⟩ => ⟨S16x4096x1024, .f32⟩
  | .hbm, ⟨45, _⟩ => ⟨S1x1x1024, .f32⟩
  | .hbm, ⟨46, _⟩ => ⟨S16x4096x1024, .f32⟩
  | .hbm, ⟨47, _⟩ => ⟨S16x4096x1024, .f32⟩
  | .hbm, ⟨48, _⟩ => ⟨S1x1024, .f32⟩
  | .hbm, ⟨49, _⟩ => ⟨S1024, .f32⟩
  | .hbm, ⟨50, _⟩ => ⟨S16x4096x1024, .f32⟩
  | .hbm, ⟨51, _⟩ => ⟨S1x1x1024, .f32⟩
  | .hbm, ⟨52, _⟩ => ⟨S16x4096x1024, .f32⟩
  | .hbm, ⟨53, _⟩ => ⟨S16x4096x1024, .f32⟩
  | .hbm, ⟨54, _⟩ => ⟨S16x4096x1024, .f32⟩
  | .hbm, ⟨55, _⟩ => ⟨S1x1024, .f32⟩
  | .hbm, ⟨56, _⟩ => ⟨S1024, .f32⟩
  | .hbm, ⟨57, _⟩ => ⟨S16x4096x1024, .f32⟩
  | .hbm, ⟨58, _⟩ => ⟨S1x1x1024, .f32⟩
  | .hbm, ⟨59, _⟩ => ⟨S16x4096x1024, .f32⟩
  | .hbm, ⟨60, _⟩ => ⟨S16x4096x1024, .f32⟩
  | .hbm, ⟨61, _⟩ => ⟨S16x4096x1024, .f32⟩
  | .hbm, ⟨62, _⟩ => ⟨S1x1024, .f32⟩
  | .hbm, ⟨63, _⟩ => ⟨S1024, .f32⟩
  | .hbm, ⟨64, _⟩ => ⟨S16x4096x1024, .f32⟩
  | .hbm, ⟨65, _⟩ => ⟨S1x1x1024, .f32⟩
  | .hbm, ⟨66, _⟩ => ⟨S16x4096x1024, .f32⟩
  | .hbm, ⟨67, _⟩ => ⟨S16x4096x1024, .f32⟩
  | .hbm, ⟨68, _⟩ => ⟨S16x4096x1024, .f32⟩
  | .hbm, ⟨69, _⟩ => ⟨S16x4096x1024, .f32⟩
  | .hbm, ⟨70, _⟩ => ⟨S16x4096x1024, .f32⟩
  | .hbm, ⟨71, _⟩ => ⟨S_, .f32⟩
  | .hbm, ⟨72, _⟩ => ⟨S16x4096x1024, .f32⟩
  | .hbm, ⟨73, _⟩ => ⟨S16x4096x1024, .f32⟩
  | .hbm, ⟨74, _⟩ => ⟨S_, .f32⟩
  | .hbm, ⟨75, _⟩ => ⟨S16x4096x1024, .f32⟩
  | .hbm, ⟨76, _⟩ => ⟨S16x4096x1024, .f32⟩
  | .hbm, ⟨77, _⟩ => ⟨S16x4096x1024, .f32⟩
  | .hbm, ⟨78, _⟩ => ⟨S65536x1024, .f32⟩
  | .hbm, ⟨79, _⟩ => ⟨S65536x512, .f32⟩
  | .hbm, ⟨80, _⟩ => ⟨S65536x512, .f32⟩
  | .hbm, ⟨81, _⟩ => ⟨S_, .f32⟩
  | .hbm, ⟨82, _⟩ => ⟨S65536x512, .f32⟩
  | .hbm, ⟨83, _⟩ => ⟨S65536x512, .f32⟩
  | .hbm, ⟨84, _⟩ => ⟨S65536x1536, .f32⟩
  | .hbm, ⟨85, _⟩ => ⟨S65536x1536, .bf16⟩
  | .hbm, ⟨86, _⟩ => ⟨S_, .f32⟩
  | .hbm, ⟨87, _⟩ => ⟨S65536x512, .f32⟩
  | .hbm, ⟨88, _⟩ => ⟨S65536x512, .f32⟩
  | .hbm, ⟨89, _⟩ => ⟨S65536x2048, .f32⟩
  | .hbm, ⟨90, _⟩ => ⟨S65536x2048, .bf16⟩
  | .hbm, ⟨91, _⟩ => ⟨S65536x2048, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_call0_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_2 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_3 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== Kernel6.lean ====
abbrev S65536x512 : Shape := ⟨2, ![65536, 512]⟩
abbrev S65536x4 : Shape := ⟨2, ![65536, 4]⟩
abbrev S512 : Shape := ⟨1, ![512]⟩
abbrev S65536x2048 : Shape := ⟨2, ![65536, 2048]⟩
abbrev S_ : Shape := ⟨0, ![]⟩
abbrev S65536x4x3 : Shape := ⟨3, ![65536, 4, 3]⟩
abbrev S65536x4x1 : Shape := ⟨3, ![65536, 4, 1]⟩
abbrev S65536x4x6 : Shape := ⟨3, ![65536, 4, 6]⟩
abbrev S65536x24 : Shape := ⟨2, ![65536, 24]⟩
abbrev S65536x104 : Shape := ⟨2, ![65536, 104]⟩
abbrev S65536x128 : Shape := ⟨2, ![65536, 128]⟩
abbrev S16x16x256x4 : Shape := ⟨4, ![16, 16, 256, 4]⟩
abbrev S16x16x1x4 : Shape := ⟨4, ![16, 16, 1, 4]⟩
abbrev S16x1x1x4 : Shape := ⟨4, ![16, 1, 1, 4]⟩
abbrev S16x15x1x4 : Shape := ⟨4, ![16, 15, 1, 4]⟩
abbrev S65536x48 : Shape := ⟨2, ![65536, 48]⟩
abbrev S65536x64 : Shape := ⟨2, ![65536, 64]⟩
abbrev S1x512 : Shape := ⟨2, ![1, 512]⟩
abbrev S256x512 : Shape := ⟨2, ![256, 512]⟩
abbrev S256x128 : Shape := ⟨2, ![256, 128]⟩
abbrev S4x128x256 : Shape := ⟨3, ![4, 128, 256]⟩
abbrev S256x256 : Shape := ⟨2, ![256, 256]⟩
abbrev S256x1 : Shape := ⟨2, ![256, 1]⟩
abbrev S1x1 : Shape := ⟨2, ![1, 1]⟩
abbrev S1x128x256 : Shape := ⟨3, ![1, 128, 256]⟩
abbrev S128x256 : Shape := ⟨2, ![128, 256]⟩
abbrev S256 : Shape := ⟨1, ![256]⟩
abbrev S1x128 : Shape := ⟨2, ![1, 128]⟩

abbrev nBuf : Space → Nat
  | .hbm => 72
  | .vmem => 18
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x512, .f32⟩
  | .hbm, ⟨3, _⟩ => ⟨S65536x512, .f32⟩
  | .hbm, ⟨4, _⟩ => ⟨S65536x4, .f32⟩
  | .hbm, ⟨5, _⟩ => ⟨S65536x4, .f32⟩
  | .hbm, ⟨6, _⟩ => ⟨S65536x4, .f32⟩
  | .hbm, ⟨7, _⟩ => ⟨S512, .f32⟩
  | .hbm, ⟨8, _⟩ => ⟨S65536x2048, .f32⟩
  | .hbm, ⟨9, _⟩ => ⟨S65536x2048, .bf16⟩
  | .hbm, ⟨10, _⟩ => ⟨S65536x4, .f32⟩
  | .hbm, ⟨11, _⟩ => ⟨S65536x4, .f32⟩
  | .hbm, ⟨12, _⟩ => ⟨S_, .bf16⟩
  | .hbm, ⟨13, _⟩ => ⟨S65536x4x3, .bf16⟩
  | .hbm, ⟨14, _⟩ => ⟨S65536x4, .f32⟩
  | .hbm, ⟨15, _⟩ => ⟨S65536x4, .bf16⟩
  | .hbm, ⟨16, _⟩ => ⟨S65536x4, .f32⟩
  | .hbm, ⟨17, _⟩ => ⟨S65536x4, .f32⟩
  | .hbm, ⟨18, _⟩ => ⟨S65536x4, .bf16⟩
  | .hbm, ⟨19, _⟩ => ⟨S65536x4, .f32⟩
  | .hbm, ⟨20, _⟩ => ⟨S65536x4, .f32⟩
  | .hbm, ⟨21, _⟩ => ⟨S65536x4, .bf16⟩
  | .hbm, ⟨22, _⟩ => ⟨S65536x4x1, .bf16⟩
  | .hbm, ⟨23, _⟩ => ⟨S65536x4x1, .bf16⟩
  | .hbm, ⟨24, _⟩ => ⟨S65536x4x1, .bf16⟩
  | .hbm, ⟨25, _⟩ => ⟨S65536x4x3, .bf16⟩
  | .hbm, ⟨26, _⟩ => ⟨S65536x4x6, .bf16⟩
  | .hbm, ⟨27, _⟩ => ⟨S65536x24, .bf16⟩
  | .hbm, ⟨28, _⟩ => ⟨S_, .bf16⟩
  | .hbm, ⟨29, _⟩ => ⟨S65536x104, .bf16⟩
  | .hbm, ⟨30, _⟩ => ⟨S65536x128, .bf16⟩
  | .hbm, ⟨31, _⟩ => ⟨S65536x4, .bf16⟩
  | .hbm, ⟨32, _⟩ => ⟨S65536x4, .f32⟩
  | .hbm, ⟨33, _⟩ => ⟨S65536x4, .f32⟩
  | .hbm, ⟨34, _⟩ => ⟨S65536x4, .bf16⟩
  | .hbm, ⟨35, _⟩ => ⟨S65536x4, .f32⟩
  | .hbm, ⟨36, _⟩ => ⟨S65536x4, .f32⟩
  | .hbm, ⟨37, _⟩ => ⟨S65536x4, .bf16⟩
  | .hbm, ⟨38, _⟩ => ⟨S65536x4x1, .bf16⟩
  | .hbm, ⟨39, _⟩ => ⟨S65536x4x1, .bf16⟩
  | .hbm, ⟨40, _⟩ => ⟨S65536x4x1, .bf16⟩
  | .hbm, ⟨41, _⟩ => ⟨S65536x4x3, .bf16⟩
  | .hbm, ⟨42, _⟩ => ⟨S65536x4x6, .bf16⟩
  | .hbm, ⟨43, _⟩ => ⟨S65536x24, .bf16⟩
  | .hbm, ⟨44, _⟩ => ⟨S_, .bf16⟩
  | .hbm, ⟨45, _⟩ => ⟨S65536x104, .bf16⟩
  | .hbm, ⟨46, _⟩ => ⟨S65536x128, .bf16⟩
  | .hbm, ⟨47, _⟩ => ⟨S16x16x256x4, .f32⟩
  | .hbm, ⟨48, _⟩ => ⟨S16x16x1x4, .f32⟩
  | .hbm, ⟨49, _⟩ => ⟨S_, .f32⟩
  | .hbm, ⟨50, _⟩ => ⟨S16x1x1x4, .f32⟩
  | .hbm, ⟨51, _⟩ => ⟨S16x15x1x4, .f32⟩
  | .hbm, ⟨52, _⟩ => ⟨S16x16x1x4, .f32⟩
  | .hbm, ⟨53, _⟩ => ⟨S16x16x256x4, .f32⟩
  | .hbm, ⟨54, _⟩ => ⟨S65536x4, .f32⟩
  | .hbm, ⟨55, _⟩ => ⟨S16x16x256x4, .f32⟩
  | .hbm, ⟨56, _⟩ => ⟨S65536x4, .f32⟩
  | .hbm, ⟨57, _⟩ => ⟨S_, .f32⟩
  | .hbm, ⟨58, _⟩ => ⟨S65536x48, .f32⟩
  | .hbm, ⟨59, _⟩ => ⟨S65536x4, .f32⟩
  | .hbm, ⟨60, _⟩ => ⟨S65536x4, .f32⟩
  | .hbm, ⟨61, _⟩ => ⟨S65536x4, .f32⟩
  | .hbm, ⟨62, _⟩ => ⟨S65536x4, .f32⟩
  | .hbm, ⟨63, _⟩ => ⟨S65536x4, .f32⟩
  | .hbm, ⟨64, _⟩ => ⟨S65536x4, .f32⟩
  | .hbm, ⟨65, _⟩ => ⟨S65536x4, .f32⟩
  | .hbm, ⟨66, _⟩ => ⟨S65536x4, .f32⟩
  | .hbm, ⟨67, _⟩ => ⟨S_, .f32⟩
  | .hbm, ⟨68, _⟩ => ⟨S65536x64, .f32⟩
  | .hbm, ⟨69, _⟩ => ⟨S65536x128, .f32⟩
  | .hbm, ⟨70, _⟩ => ⟨S1x512, .f32⟩
  | .hbm, ⟨71, _⟩ => ⟨S65536x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .f32⟩
  | .local _ .vmem, ⟨13, _⟩ => ⟨S256x128, .f32⟩
  | .local _ .vmem, ⟨14, _⟩ => ⟨S1x512, .f32⟩
  | .local _ .vmem, ⟨15, _⟩ => ⟨S256x512, .bf16⟩
  | .local _ .vmem, ⟨16, _⟩ => ⟨S256x512, .bf16⟩
  | .local _ .vmem, ⟨17, _⟩ => ⟨S4x128x256, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_1 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S65536x512 : Shape := ⟨2, ![65536, 512]⟩
abbrev S65536x4 : Shape := ⟨2, ![65536, 4]⟩
abbrev S512 : Shape := ⟨1, ![512]⟩
abbrev S16x4096x4x128 : Shape := ⟨4, ![16, 4096, 4, 128]⟩
abbrev S16x4x4096x128 : Shape := ⟨4, ![16, 4, 4096, 128]⟩
abbrev S16x4096x4 : Shape := ⟨3, ![16, 4096, 4]⟩
abbrev S16x4x4096 : Shape := ⟨3, ![16, 4, 4096]⟩
abbrev S4096 : Shape := ⟨1, ![4096]⟩
abbrev S16x4x4096x1 : Shape := ⟨4, ![16, 4, 4096, 1]⟩
abbrev S16x4x1x4096 : Shape := ⟨4, ![16, 4, 1, 4096]⟩
abbrev S16x4x4096x4096 : Shape := ⟨4, ![16, 4, 4096, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S1x512 : Shape := ⟨2, ![1, 512]⟩

abbrev nBuf : Space → Nat
  | .hbm => 84
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x512, .f32⟩
  | .hbm, ⟨3, _⟩ => ⟨S65536x512, .f32⟩
  | .hbm, ⟨4, _⟩ => ⟨S65536x4, .f32⟩
  | .hbm, ⟨5, _⟩ => ⟨S65536x4, .f32⟩
  | .hbm, ⟨6, _⟩ => ⟨S65536x4, .f32⟩
  | .hbm, ⟨7, _⟩ => ⟨S512, .f32⟩
  | .hbm, ⟨8, _⟩ => ⟨S16x4096x4x128, .f32⟩
  | .hbm, ⟨9, _⟩ => ⟨S16x4x4096x128, .f32⟩
  | .hbm, ⟨10, _⟩ => ⟨S16x4096x4x128, .f32⟩
  | .hbm, ⟨11, _⟩ => ⟨S16x4x4096x128, .f32⟩
  | .hbm, ⟨12, _⟩ => ⟨S16x4096x4x128, .f32⟩
  | .hbm, ⟨13, _⟩ => ⟨S16x4x4096x128, .f32⟩
  | .hbm, ⟨14, _⟩ => ⟨S16x4096x4, .f32⟩
  | .hbm, ⟨15, _⟩ => ⟨S16x4x4096, .f32⟩
  | .hbm, ⟨16, _⟩ => ⟨S16x4096x4, .f32⟩
  | .hbm, ⟨17, _⟩ => ⟨S16x4x4096, .f32⟩
  | .hbm, ⟨18, _⟩ => ⟨S4096, .i32⟩
  | .hbm, ⟨19, _⟩ => ⟨S16x4x4096x1, .f32⟩
  | .hbm, ⟨20, _⟩ => ⟨S16x4x1x4096, .f32⟩
  | .hbm, ⟨21, _⟩ => ⟨S16x4x4096x4096, .f32⟩
  | .hbm, ⟨22, _⟩ => ⟨S16x4x4096x4096, .f32⟩
  | .hbm, ⟨23, _⟩ => ⟨S16x4x4096x4096, .f32⟩
  | .hbm, ⟨24, _⟩ => ⟨S16x4x1x4096, .f32⟩
  | .hbm, ⟨25, _⟩ => ⟨S16x4x4096x4096, .f32⟩
  | .hbm, ⟨26, _⟩ => ⟨S16x4x4096x4096, .f32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S16x4x4096x4096, .i1⟩
  | .hbm, ⟨35, _⟩ => ⟨S16x4x4096x4096, .f32⟩
  | .hbm, ⟨36, _⟩ => ⟨S16x4x4096x4096, .f32⟩
  | .hbm, ⟨37, _⟩ => ⟨S_, .f32⟩
  | .hbm, ⟨38, _⟩ => ⟨S16x4x4096, .f32⟩
  | .hbm, ⟨39, _⟩ => ⟨S16x4x4096, .f32⟩
  | .hbm, ⟨40, _⟩ => ⟨S16x4x4096x4096, .f32⟩
  | .hbm, ⟨41, _⟩ => ⟨S16x4x4096x1, .f32⟩
  | .hbm, ⟨42, _⟩ => ⟨S16x4x4096x4096, .f32⟩
  | .hbm, ⟨43, _⟩ => ⟨S16x4x4096x4096, .f32⟩
  | .hbm, ⟨44, _⟩ => ⟨S16x4x4096x4096, .f32⟩
  | .hbm, ⟨45, _⟩ => ⟨S16x4x4096x4096, .f32⟩
  | .hbm, ⟨46, _⟩ => ⟨S16x4x4096x128, .f32⟩
  | .hbm, ⟨47, _⟩ => ⟨S_, .f32⟩
  | .hbm, ⟨48, _⟩ => ⟨S16x4x4096, .f32⟩
  | .hbm, ⟨49, _⟩ => ⟨S16x4x4096, .f32⟩
  | .hbm, ⟨50, _⟩ => ⟨S16x4x4096, .f32⟩
  | .hbm, ⟨51, _⟩ => ⟨S16x4x4096, .f32⟩
  | .hbm, ⟨52, _⟩ => ⟨S16x4x4096, .f32⟩
  | .hbm, ⟨53, _⟩ => ⟨S16x4x4096x1, .f32⟩
  | .hbm, ⟨54, _⟩ => ⟨S16x4x4096x128, .f32⟩
  | .hbm, ⟨55, _⟩ => ⟨S16x4x4096x128, .f32⟩
  | .hbm, ⟨56, _⟩ => ⟨S16x4x4096x128, .f32⟩
  | .hbm, ⟨57, _⟩ => ⟨S_, .f32⟩
  | .hbm, ⟨58, _⟩ => ⟨S16x4x4096, .f32⟩
  | .hbm, ⟨59, _⟩ => ⟨S16x4x4096x1, .f32⟩
  | .hbm, ⟨60, _⟩ => ⟨S_, .f32⟩
  | .hbm, ⟨61, _⟩ => ⟨S16x4x4096x1, .f32⟩
  | .hbm, ⟨62, _⟩ => ⟨S16x4x4096x1, .f32⟩
  | .hbm, ⟨63, _⟩ => ⟨S_, .f32⟩
  | .hbm, ⟨64, _⟩ => ⟨S16x4x4096x1, .f32⟩
  | .hbm, ⟨65, _⟩ => ⟨S16x4x4096x1, .f32⟩
  | .hbm, ⟨66, _⟩ => ⟨S16x4x4096x1, .f32⟩
  | .hbm, ⟨67, _⟩ => ⟨S16x4x4096x128, .f32⟩
  | .hbm, ⟨68, _⟩ => ⟨S16x4x4096x128, .f32⟩
  | .hbm, ⟨69, _⟩ => ⟨S16x4096x4x128, .f32⟩
  | .hbm, ⟨70, _⟩ => ⟨S65536x512, .f32⟩
  | .hbm, ⟨71, _⟩ => ⟨S1x512, .f32⟩
  | .hbm, ⟨72, _⟩ => ⟨S65536x512, .f32⟩
  | .hbm, ⟨73, _⟩ => ⟨S65536x512, .f32⟩
  | .hbm, ⟨74, _⟩ => ⟨S65536x512, .f32⟩
  | .hbm, ⟨75, _⟩ => ⟨S65536x512, .f32⟩
  | .hbm, ⟨76, _⟩ => ⟨S_, .f32⟩
  | .hbm, ⟨77, _⟩ => ⟨S65536x512, .f32⟩
  | .hbm, ⟨78, _⟩ => ⟨S65536x512, .f32⟩
  | .hbm, ⟨79, _⟩ => ⟨S_, .f32⟩
  | .hbm, ⟨80, _⟩ => ⟨S65536x512, .f32⟩
  | .hbm, ⟨81, _⟩ => ⟨S65536x512, .f32⟩
  | .hbm, ⟨82, _⟩ => ⟨S65536x512, .f32⟩
  | .hbm, ⟨83, _⟩ => ⟨S65536x512, .bf16⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_2 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_cst_4 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_5 : Ref sig .tc := ⟨.hbm, 76, rfl⟩
abbrev main_v59 : Ref sig .tc := ⟨.hbm, 77, rfl⟩
abbrev main_v60 : Ref sig .tc := ⟨.hbm, 78, rfl⟩
abbrev main_cst_6 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Proof.Fox.Softmax.lean ====
module

public import Idealize.ShloMosaic.Lib.Pointwise

@[expose] public section

/-!
# Softmax by running maximum, over the extended reals

A softmax-weighted sum can be built up chunk by chunk, with the maximum met so far as the shift of the
exponentials. This file shows, for scores below `⊤` and arbitrary values, that the quotient it ends with
is the plain softmax average. Nothing here mentions the kernel.
-/

noncomputable section

namespace Cert.Softmax

open Idealize.ShloMosaic

/-- The unshifted weight of a score: its exponential, and nothing for a masked score. -/
def wt (x : EReal) : ℝ := if x = ⊥ then 0 else Real.exp x.toReal

/-- A weight is not negative. -/
theorem wt_nonneg (x : EReal) : 0 ≤ wt x := by
  unfold wt; split
  · exact le_rfl
  · exact (Real.exp_pos _).le

/-- A masked score weighs nothing. -/
theorem wt_bot : wt ⊥ = 0 := if_pos rfl

/-- A score that is not masked has a positive weight. -/
theorem wt_pos {x : EReal} (h : x ≠ ⊥) : 0 < wt x := by
  unfold wt; rw [if_neg h]; exact Real.exp_pos _

/-- A shifted exponential is the unshifted weight times one factor common to all scores. -/
theorem exp_sub {x : EReal} (h : x ≠ ⊤) (μ : ℝ) :
    Ideal.exp (x - (μ : EReal)) = ((wt x * Real.exp (-μ) : ℝ) : EReal) := by
  induction x with
  | bot => simp [wt_bot]
  | top => exact absurd rfl h
  | coe r =>
    rw [← EReal.coe_sub, Ideal.exp_coe, wt, if_neg (EReal.coe_ne_bot r), EReal.toReal_coe, sub_eq_add_neg,
      Real.exp_add]

/-- A nonnegative real factor goes into a finite sum of extended reals. -/
theorem mul_sum {ι : Type*} (A : Finset ι) {c : ℝ} (hc : 0 ≤ c) (f : ι → EReal) :
    (c : EReal) * ∑ i ∈ A, f i = ∑ i ∈ A, (c : EReal) * f i := by
  classical
  induction A using Finset.induction_on with
  | empty => simp
  | insert i A hi ih =>
    rw [Finset.sum_insert hi, Finset.sum_insert hi,
      EReal.left_distrib_of_nonneg_of_ne_top (EReal.coe_nonneg.2 hc) (EReal.coe_ne_top c), ih]

/-- A finite sum of reals, taken in the extended reals. -/
theorem coe_sum {ι : Type*} (A : Finset ι) (f : ι → ℝ) :
    ∑ i ∈ A, ((f i : ℝ) : EReal) = ((∑ i ∈ A, f i : ℝ) : EReal) := by
  classical
  induction A using Finset.induction_on with
  | empty => simp
  | insert i A hi ih => rw [Finset.sum_insert hi, Finset.sum_insert hi, ih, EReal.coe_add]

/-- The largest of finitely many scores below `⊤` is below `⊤`. -/
theorem fold_max_ne_top {ι : Type*} (A : Finset ι) (f : ι → EReal) (z : EReal) (hz : z ≠ ⊤) (h : ∀ i, f i ≠ ⊤) :
    A.fold max z f ≠ ⊤ := by
  classical
  induction A using Finset.induction_on with
  | empty => simpa using hz
  | insert i A hi ih =>
    rw [Finset.fold_insert hi]
    rcases max_choice (f i) (A.fold max z f) with e | e <;> rw [e]
    · exact h i
    · exact ih

/-- The largest of finitely many scores is at least each of them. -/
theorem le_fold_max {ι : Type*} (A : Finset ι) (f : ι → EReal) (z : EReal) {i : ι} (hi : i ∈ A) :
    f i ≤ A.fold max z f := by
  rw [Finset.le_fold_max]
  exact Or.inr ⟨i, hi, le_rfl⟩

/-- **The running invariant.** `m` is the running maximum and `a` the running weighted sum, rescaled at each
chunk to the new maximum. After `J` chunks the maximum is a real number `μ` and the sum is the unshifted one
times `exp (-μ)`. -/
theorem running {κ : Type*} [Fintype κ] (s v : ℕ → κ → EReal) (hs : ∀ j x, s j x ≠ ⊤) (m a : ℕ → EReal)
    (m0 : ∃ μ : ℝ, m 0 = μ) (ms : ∀ j, m (j + 1) = max (m j) (Finset.univ.fold max ⊥ (s j)))
    (a0 : a 0 = 0)
    (ha1 : ∀ j, a (j + 1) = Ideal.exp (m j - m (j + 1)) * a j + ∑ x, v j x * Ideal.exp (s j x - m (j + 1))) (J : ℕ) :
    ∃ μ : ℝ, m J = μ ∧
      a J = (Real.exp (-μ) : EReal) * ∑ j ∈ Finset.range J, ∑ x, v j x * ((wt (s j x) : ℝ) : EReal) := by
  induction J with
  | zero =>
    obtain ⟨μ, h⟩ := m0
    exact ⟨μ, h, by rw [a0]; simp⟩
  | succ J ih =>
    obtain ⟨μ, hμ, ha⟩ := ih
    have hm : m (J + 1) ≠ ⊤ := by
      rw [ms, hμ]
      rcases max_choice (μ : EReal) (Finset.univ.fold max ⊥ (s J)) with e | e <;> rw [e]
      · exact EReal.coe_ne_top μ
      · exact fold_max_ne_top _ _ _ bot_ne_top (hs J)
    have hb : m (J + 1) ≠ ⊥ := by
      intro e
      have : (μ : EReal) ≤ m (J + 1) := by rw [ms, hμ]; exact le_max_left _ _
      rw [e, le_bot_iff] at this
      exact EReal.coe_ne_bot μ this
    obtain ⟨ν, hν⟩ : ∃ ν : ℝ, m (J + 1) = ν := ⟨_, (EReal.coe_toReal hm hb).symm⟩
    refine ⟨ν, hν, ?_⟩
    rw [ha1, hν, hμ, ha, ← EReal.coe_sub, Ideal.exp_coe, Finset.sum_range_succ,
      EReal.left_distrib_of_nonneg_of_ne_top (EReal.coe_nonneg.2 (Real.exp_pos _).le) (EReal.coe_ne_top _),
      ← mul_assoc, ← EReal.coe_mul, ← Real.exp_add, show μ - ν + -μ = -ν by ring, mul_sum (Finset.univ : Finset κ) (Real.exp_pos _).le]
    refine congrArg _ (Finset.sum_congr rfl fun x _ => ?_)
    rw [exp_sub (hs J x), EReal.coe_mul, ← mul_assoc, mul_comm]

/-- Dividing by a nonzero real multiplies by its inverse. -/
theorem div_coe (x : EReal) {r : ℝ} (hr : r ≠ 0) : Ideal.div x (r : EReal) = x * ((r⁻¹ : ℝ) : EReal) := by
  unfold Ideal.div
  rw [if_neg (by exact_mod_cast hr), EReal.coe_inv]

/-- **The quotient.** The rescaled weighted sum over the rescaled sum of the weights is the average of the values
under the softmax of the scores, written with any real shift `M`. -/
theorem quotient {κ : Type*} [Fintype κ] (s v : κ → EReal) (hs : ∀ x, s x ≠ ⊤) (x0 : κ) (h0 : s x0 ≠ ⊥) (μ M : ℝ) :
    Ideal.div ((Real.exp (-μ) : EReal) * ∑ x, v x * ((wt (s x) : ℝ) : EReal))
        ((Real.exp (-μ) : EReal) * ∑ x, 1 * ((wt (s x) : ℝ) : EReal))
      = ∑ x, Ideal.div (Ideal.exp (s x - (M : EReal))) (∑ y, Ideal.exp (s y - (M : EReal))) * v x := by
  have hD : 0 < ∑ x, wt (s x) :=
    Finset.sum_pos' (fun x _ => wt_nonneg _) ⟨x0, Finset.mem_univ _, wt_pos h0⟩
  have eD : ∑ x, 1 * ((wt (s x) : ℝ) : EReal) = ((∑ x, wt (s x) : ℝ) : EReal) := by
    rw [← coe_sum]; simp
  have eM : ∑ y, Ideal.exp (s y - (M : EReal)) = (((∑ x, wt (s x)) * Real.exp (-M) : ℝ) : EReal) := by
    rw [Finset.sum_mul, ← coe_sum]
    exact Finset.sum_congr rfl fun y _ => exp_sub (hs y) M
  have pμ := Real.exp_pos (-μ)
  have pM := Real.exp_pos (-M)
  rw [eD, eM, ← EReal.coe_mul, div_coe _ (mul_pos pμ hD).ne', mul_comm ((Real.exp (-μ) : ℝ) : EReal), mul_assoc,
    ← EReal.coe_mul, mul_comm, mul_sum _ (by positivity)]
  refine Finset.sum_congr rfl fun x _ => ?_
  rw [div_coe _ (mul_pos hD pM).ne', exp_sub (hs x), ← EReal.coe_mul, mul_comm (v x), ← mul_assoc, ← EReal.coe_mul]
  congr 2
  field_simp

/-- The shift the plain softmax takes, its largest score, is a real number. -/
theorem max_real {κ : Type*} [Fintype κ] (s : κ → EReal) (hs : ∀ x, s x ≠ ⊤) (x0 : κ) (h0 : s x0 ≠ ⊥) :
    ∃ M : ℝ, Finset.univ.fold max ⊥ s = M := by
  have ht := fold_max_ne_top Finset.univ s ⊥ bot_ne_top hs
  refine ⟨_, (EReal.coe_toReal ht fun e => h0 ?_).symm⟩
  have := le_fold_max Finset.univ s ⊥ (Finset.mem_univ x0)
  rwa [e, le_bot_iff] at this

/-- A sum over keys taken chunk by chunk is the sum over all keys. -/
theorem sum_chunks (A B : ℕ) (f : ℕ → EReal) :
    ∑ j ∈ Finset.range A, ∑ x : Fin B, f (B * j + x.val) = ∑ k : Fin (A * B), f k.val := by
  rw [Finset.sum_range (fun j => ∑ x : Fin B, f (B * j + x.val)), ← Equiv.sum_comp finProdFinEquiv,
    Fintype.sum_prod_type]
  refine Finset.sum_congr rfl fun j _ => Finset.sum_congr rfl fun x _ => ?_
  congr 1
  simp [finProdFinEquiv, add_comm]

end Cert.Softmax
-- ==== Proof.Layer.Rows.lean ====
module

public import proofs.«01_k».proof.Proof.Fox.Softmax
public import Idealize.ShloMosaic.Lib.Pointwise

@[expose] public section

/-!
# Rows of 1024 lanes

What the layer does to one row of the stream: the norm by the root mean square, and the feed-forward part with its
squared rectifier.
-/

noncomputable section

namespace Cert.Rows

open Idealize.ShloMosaic

/-- A row by its root mean square, times a gain: lane `d`. The two words are 1024 and the small number under the root. -/
def norm (x g : Fin 1024 → EReal) (d : Fin 1024) : EReal :=
  x d * Ideal.rsqrt (Ideal.div (∑ e, x e * x e) (Ideal.ofBits FTy.f32 1149239296#32) + Ideal.ofBits FTy.f32 897988541#32) * g d

/-- The square of the positive part. -/
def relu2 (x : EReal) : EReal := max x 0 * max x 0

/-- What hidden lane `f` gives to lane `d`. -/
def hidden {φ ψ : FTy} (n : Fin 1024 → EReal) (w1 : FVec Ideal ⟨2, ![1024, 4096]⟩ φ) (w2 : FVec Ideal ⟨2, ![4096, 1024]⟩ ψ)
    (d : Fin 1024) (f : ℕ) : EReal :=
  relu2 (∑ e, n e * w1 (ix2 e (Fin.ofNat 4096 f))) * w2 (ix2 (Fin.ofNat 4096 f) d)

/-- The feed-forward part: the sum over the 4096 hidden lanes. -/
def ffn {φ ψ : FTy} (n : Fin 1024 → EReal) (w1 : FVec Ideal ⟨2, ![1024, 4096]⟩ φ) (w2 : FVec Ideal ⟨2, ![4096, 1024]⟩ ψ)
    (d : Fin 1024) : EReal :=
  ∑ f : Fin 4096, hidden n w1 w2 d f.val

/-- The sum over four quarters of the hidden lanes, added to a number one after the other. -/
theorem ffn_quarters {φ ψ : FTy} (n : Fin 1024 → EReal) (w1 : FVec Ideal ⟨2, ![1024, 4096]⟩ φ)
    (w2 : FVec Ideal ⟨2, ![4096, 1024]⟩ ψ) (d : Fin 1024) (y : EReal) :
    y + ∑ x : Fin 1024, hidden n w1 w2 d x.val + ∑ x : Fin 1024, hidden n w1 w2 d (1024 + x.val)
        + ∑ x : Fin 1024, hidden n w1 w2 d (2048 + x.val) + ∑ x : Fin 1024, hidden n w1 w2 d (3072 + x.val)
      = y + ffn n w1 w2 d := by
  have h := Cert.Softmax.sum_chunks 4 1024 (hidden n w1 w2 d)
  simp only [Finset.sum_range_succ, Finset.sum_range_zero, zero_add, Nat.mul_zero, Nat.mul_one, Nat.reduceMul] at h
  unfold ffn
  rw [← h]
  simp only [add_assoc]

/-- The last layer's feed-forward part with its residual, and the last norm: lane `d` of row `r`. -/
def mlp (h : FVec Ideal ⟨2, ![65536, 1024]⟩ .f32) (g : FVec Ideal ⟨1, ![1024]⟩ .f32) (w1 : FVec Ideal ⟨2, ![1024, 4096]⟩ .f32)
    (w2 : FVec Ideal ⟨2, ![4096, 1024]⟩ .f32) (gf : FVec Ideal ⟨1, ![1024]⟩ .f32) (r : Fin 65536) (d : Fin 1024) : EReal :=
  norm (fun e => h (ix2 r e) + ffn (norm (fun e => h (ix2 r e)) fun e => g (ix1 e)) w1 w2 e) (fun e => gf (ix1 e)) d

end Cert.Rows
-- ==== Proof.Layer.MlpBlock.lean ====
module

public import proofs.«01_k».proof.Proof.Gen.Kernel2Ideal.Value
public import proofs.«01_k».proof.Proof.Layer.Rows
public import Idealize.ShloMosaic.Lib.Pipeline.ValueKit

@[expose] public section

/-!
One block of 512 rows of the feed-forward call: what the body leaves, lane by lane.
-/

set_option maxRecDepth 16384

noncomputable section

namespace Cert.Kernel2Ideal.Mlp

open Idealize.ShloMosaic Idealize.ShloMosaic.TcCoe
open Cert.Kernel2Ideal Cert.Kernel2Ideal.Gen Cert.Rows

/-- The normed rows. -/
theorem normed_at (x : Vec Ideal S512x1024 .f32) (g : Vec Ideal S1x1024 .f32) (r : Fin 512) (d : Fin 1024) :
    k0_pay1 x g (ix2 r d) = norm (fun e => x (ix2 r e)) (fun e => g (ix2 0 e)) d := by
  pointwise [k0_pay1]
  rfl

/-- The rows with the first two quarters added. -/
theorem half_at (x : Vec Ideal S512x1024 .f32) (g : Vec Ideal S1x1024 .f32) (a1 a2 b1 b2 : Vec Ideal S1024x1024 .bf16)
    (r : Fin 512) (d : Fin 1024) :
    k0_pay2 x g a1 a2 b1 b2 (ix2 r d) = x (ix2 r d)
      + ∑ f : Fin 1024, relu2 (∑ e : Fin 1024, norm (fun e => x (ix2 r e)) (fun e => g (ix2 0 e)) e * a1 (ix2 e f)) * a2 (ix2 f d)
      + ∑ f : Fin 1024, relu2 (∑ e : Fin 1024, norm (fun e => x (ix2 r e)) (fun e => g (ix2 0 e)) e * b1 (ix2 e f)) * b2 (ix2 f d) := by
  pointwise [k0_pay2]
  simp only [normed_at]
  rfl

/-- The rows with the last two quarters added, normed. -/
theorem whole_at (n : FVec Ideal S512x1024 .bf16) (y : FVec Ideal S512x1024 .f32) (a1 a2 b1 b2 : Vec Ideal S1024x1024 .bf16)
    (g : Vec Ideal S1x1024 .f32) (r : Fin 512) (d : Fin 1024) :
    k0_pay3 n y a1 a2 b1 b2 g (ix2 r d) = norm (fun e => y (ix2 r e)
      + ∑ f : Fin 1024, relu2 (∑ e : Fin 1024, n (ix2 r e) * a1 (ix2 e f)) * a2 (ix2 f e)
      + ∑ f : Fin 1024, relu2 (∑ e : Fin 1024, n (ix2 r e) * b1 (ix2 e f)) * b2 (ix2 f e)) (fun e => g (ix2 0 e)) d := by
  pointwise [k0_pay3]
  rfl

/-- A quarter of the first weights, read where the whole is. -/
theorem ld_up {k : ℕ} (X : Vec Ideal S1024x4096 .bf16) (inb) (hk : k + 1024 ≤ 4096) (e f : Fin 1024) :
    View.ld X (Rect.unit (s := S1024x4096) ![0, k] S1024x1024.size inb) (ix2 e f)
      = X (ix2 e (Fin.ofNat 4096 (k + f.val))) :=
  View.ld_unit_apply_of X _ _ inb _ _ fun a => by
    fin_cases a
    · show e.val = 0 + e.val; omega
    · exact Nat.mod_eq_of_lt (by omega)

/-- A quarter of the second weights, read where the whole is. -/
theorem ld_down {k : ℕ} (X : Vec Ideal S4096x1024 .bf16) (inb) (hk : k + 1024 ≤ 4096) (e f : Fin 1024) :
    View.ld X (Rect.unit (s := S4096x1024) ![k, 0] S1024x1024.size inb) (ix2 e f)
      = X (ix2 (Fin.ofNat 4096 (k + e.val)) f) :=
  View.ld_unit_apply_of X _ _ inb _ _ fun a => by
    fin_cases a
    · exact Nat.mod_eq_of_lt (by omega)
    · show f.val = 0 + f.val; omega

/-- A quarter of the hidden lanes. -/
theorem quarter {k : ℕ} (x2 : Vec Ideal S1024x4096 .bf16) (x3 : Vec Ideal S4096x1024 .bf16) (i2) (i3) (hk : k + 1024 ≤ 4096)
    (n : Fin 1024 → EReal) (d : Fin 1024) :
    ∑ f : Fin 1024, relu2 (∑ e : Fin 1024, n e * View.ld x2 (Rect.unit (s := S1024x4096) ![0, k] S1024x1024.size i2) (ix2 e f))
        * View.ld x3 (Rect.unit (s := S4096x1024) ![k, 0] S1024x1024.size i3) (ix2 f d)
      = ∑ f : Fin 1024, hidden (φ := .bf16) (ψ := .bf16) n x2 x3 d (k + f.val) :=
  Finset.sum_congr rfl fun f _ => congrArg₂ (fun a b : EReal => a * b)
    (congrArg relu2 (Finset.sum_congr rfl fun e _ => congrArg (n e * ·) (ld_up x2 i2 hk e f))) (ld_down x3 i3 hk f d)

/-- **What the body leaves**, lane by lane. -/
theorem block_at (x0 : Vec Ideal S512x1024 .f32) (x1 : Vec Ideal S1x1024 .f32) (x2 : Vec Ideal S1024x4096 .bf16)
    (x3 : Vec Ideal S4096x1024 .bf16) (x4 : Vec Ideal S1x1024 .f32) (r : Fin 512) (d : Fin 1024) :
    out0_5 x0 x1 x2 x3 x4 (ix2 r d)
      = norm (fun e => x0 (ix2 r e) + ffn (φ := .bf16) (ψ := .bf16) (norm (fun e => x0 (ix2 r e)) fun e => x1 (ix2 0 e)) x2 x3 e)
          (fun e => x4 (ix2 0 e)) d := by
  unfold out0_5
  simp (disch := decide) only [View.canon_cons_unit_lit', View.ld_unit_lit']
  rw [whole_at]
  refine congrFun (congrArg (norm · _) (funext fun e => ?_)) d
  rw [half_at]
  simp only [normed_at]
  refine Eq.trans ?_ (ffn_quarters _ _ _ _ _)
  refine congrArg₂ (fun a b : EReal => a + b) (congrArg₂ (fun a b : EReal => a + b) (congrArg₂ (fun a b : EReal => a + b)
    (congrArg (x0 (ix2 r e) + ·) ?_) ?_) ?_) ?_
  · refine (quarter x2 x3 _ _ (by decide) _ e).trans (Finset.sum_congr rfl fun f _ => ?_)
    rw [Nat.zero_add]
  · exact quarter x2 x3 _ _ (by decide) _ e
  · exact quarter x2 x3 _ _ (by decide) _ e
  · exact quarter x2 x3 _ _ (by decide) _ e

end Cert.Kernel2Ideal.Mlp
-- ==== Proof.Layer.MlpValue.lean ====
module

public import proofs.«01_k».proof.Proof.Layer.MlpBlock
public import Idealize.ShloMosaic.Lib.StableHlo.RunRead

@[expose] public section

/-!
The result of the feed-forward call, as an array: from the blocks of its 128 grid points.
-/

set_option maxRecDepth 16384

noncomputable section

namespace Cert.Kernel2Ideal.Mlp

open Idealize.ShloMosaic Idealize.ShloMosaic.TcCoe
open Cert.Kernel2Ideal Cert.Kernel2Ideal.Gen Cert.Rows

variable (m : (ℓ : Loc nD τ sig) → Buf (Elt Ideal) ℓ)

/-- The gain of the first norm, laid out as one row. -/
theorem entry_gain (c : Dev nD) : (V m c main_v0 : FVec Ideal S1x1024 .f32)
    = shapeCast S1x1024 (m ((c : Thread nD τ).loc main_arg1) : FVec Ideal S1024 .f32) shapeCasts_S1024_S1x1024 := by
  show StableHlo.after hostOps0 _ (Proc.devRef .tc main_v0) = _
  after_reads_simp
  rfl

/-- The gain of the last norm, laid out as one row. -/
theorem entry_last (c : Dev nD) : (V m c main_v3 : FVec Ideal S1x1024 .f32)
    = shapeCast S1x1024 (m ((c : Thread nD τ).loc main_arg4) : FVec Ideal S1024 .f32) shapeCasts_S1024_S1x1024 := by
  show StableHlo.after hostOps0 _ (Proc.devRef .tc main_v3) = _
  after_reads_simp
  rfl

/-- The first weights; the cast changes nothing. -/
theorem entry_up (c : Dev nD) : (V m c main_v1 : FVec Ideal S1024x4096 .bf16) = (m ((c : Thread nD τ).loc main_arg2) : FVec Ideal S1024x4096 .f32) := by
  show StableHlo.after hostOps0 _ (Proc.devRef .tc main_v1) = _
  after_reads_simp
  rfl

/-- The second weights. -/
theorem entry_down (c : Dev nD) : (V m c main_v2 : FVec Ideal S4096x1024 .bf16) = (m ((c : Thread nD τ).loc main_arg3) : FVec Ideal S4096x1024 .f32) := by
  show StableHlo.after hostOps0 _ (Proc.devRef .tc main_v2) = _
  after_reads_simp
  rfl

/-- A row of gains, read. -/
theorem row_at (g : FVec Ideal S1024 .f32) (e : Fin 1024) :
    (shapeCast S1x1024 g shapeCasts_S1024_S1x1024 : FVec Ideal S1x1024 .f32) (ix2 0 e) = g (ix1 e) := by
  pointwise

/-- The block each window takes at each point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The grid has 128 points. -/
theorem points (t : Fin cfg0.N) : t.val < 128 := t.isLt

/-- The rows of a point's block. -/
theorem blk_rows (c : Dev nD) (t : Fin cfg0.N) (r : Fin 512) (e : Fin 1024) :
    (iblk m c 0 t : Vec Ideal S512x1024 .f32) (ix2 r e)
      = (m ((c : Thread nD τ).loc main_arg0) : FVec Ideal S65536x1024 .f32) (ix2 (Fin.ofNat 65536 (512 * t.val + r.val)) e) := by
  have ht := points t
  have hr := r.isLt
  have h1 : 512 * t.val + r.val < 65536 := by omega
  rw [show Fin.ofNat 65536 (512 * t.val + r.val) = ⟨_, h1⟩ from Fin.ext (Nat.mod_eq_of_lt h1)]
  refine Eq.trans ?_ (congrFun (V_main_arg0 m c) _)
  blk_ext [iblk, idx t]

/-- The first gain, at every point. -/
theorem blk_gain (c : Dev nD) (t : Fin cfg0.N) (e : Fin 1024) : (iblk m c 1 t : Vec Ideal S1x1024 .f32) (ix2 0 e)
      = (m ((c : Thread nD τ).loc main_arg1) : FVec Ideal S1024 .f32) (ix1 e) := by
  refine Eq.trans ?_ ((congrFun (entry_gain m c) (ix2 0 e)).trans (row_at _ e))
  blk_ext [iblk, idx t]

/-- The last gain, at every point. -/
theorem blk_last (c : Dev nD) (t : Fin cfg0.N) (e : Fin 1024) : (iblk m c 4 t : Vec Ideal S1x1024 .f32) (ix2 0 e)
      = (m ((c : Thread nD τ).loc main_arg4) : FVec Ideal S1024 .f32) (ix1 e) := by
  refine Eq.trans ?_ ((congrFun (entry_last m c) (ix2 0 e)).trans (row_at _ e))
  blk_ext [iblk, idx t]

/-- The first weights, whole at every point. -/
theorem blk_up (c : Dev nD) (t : Fin cfg0.N) :
    (iblk m c 2 t : Vec Ideal S1024x4096 .bf16) = (m ((c : Thread nD τ).loc main_arg2) : FVec Ideal S1024x4096 .f32) := by
  refine Eq.trans ?_ (entry_up m c)
  funext i
  rw [eq_ix2 i]
  blk_ext [iblk, idx t]

/-- The second weights, whole at every point. -/
theorem blk_down (c : Dev nD) (t : Fin cfg0.N) :
    (iblk m c 3 t : Vec Ideal S4096x1024 .bf16) = (m ((c : Thread nD τ).loc main_arg3) : FVec Ideal S4096x1024 .f32) := by
  refine Eq.trans ?_ (entry_down m c)
  funext i
  rw [eq_ix2 i]
  blk_ext [iblk, idx t]

/-- The layer's last rows, as an array. -/
def result (h : FVec Ideal S65536x1024 .f32) (g : FVec Ideal S1024 .f32) (w1 : FVec Ideal S1024x4096 .f32)
    (w2 : FVec Ideal S4096x1024 .f32) (gf : FVec Ideal S1024 .f32) : FVec Ideal S65536x1024 .f32 :=
  fun i => mlp h g w1 w2 gf (i 0) (i 1)

/-- What a point writes. -/
theorem point_at (c : Dev nD) (t : Fin cfg0.N) (r : Fin 512) (d : Fin 1024) :
    out0_5 (iblk m c 0 t) (iblk m c 1 t) (iblk m c 2 t) (iblk m c 3 t) (iblk m c 4 t) (ix2 r d)
      = mlp (m ((c : Thread nD τ).loc main_arg0)) (m ((c : Thread nD τ).loc main_arg1)) (m ((c : Thread nD τ).loc main_arg2))
          (m ((c : Thread nD τ).loc main_arg3)) (m ((c : Thread nD τ).loc main_arg4)) (Fin.ofNat 65536 (512 * t.val + r.val)) d := by
  rw [block_at]
  simp only [blk_rows, blk_gain, blk_last, blk_up, blk_down]
  rfl

/-- **The call's result.** -/
theorem array_eq (c : Dev nD) : (dats m 0 c).arrAt 5 cfg0.N
    = result (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  refine (congrArg _ (eq_ix2 y)).trans ((point_at m c t (y 0) (y 1)).trans ?_)
  unfold result
  refine congrArg₂ _ (Fin.ext ?_) (Fin.ext ?_)
  · have ht := points t
    have hr : (y 0).val < 512 := (y 0).isLt
    blk_simp [idx t]
    simp
    omega
  · blk_simp [idx t]
    try simp

end Cert.Kernel2Ideal.Mlp
-- ==== Proof.Layer.MlpReference.lean ====
module

public import proofs.«01_k».proof.Proof.Gen.Reference2Ideal.Run
public import proofs.«01_k».proof.Proof.Layer.Rows

@[expose] public section

/-!
What the feed-forward reference computes, lane by lane.
-/

set_option maxRecDepth 16384

noncomputable section

namespace Cert.Reference2Ideal.Mlp

open Idealize.ShloMosaic Idealize.ShloMosaic.TcCoe
open Cert.Reference2Ideal Cert.Reference2Ideal.Gen Cert.Reference2Ideal.Value Cert.Rows

/-- The rows, normed. -/
def normed (x : FVec Ideal S65536x1024 .f32) (g : FVec Ideal S1024 .f32) : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- The rectified hidden lanes. -/
def rectified (n : FVec Ideal S65536x1024 .f32) (w1 : FVec Ideal S1024x4096 .f32) : FVec Ideal S65536x4096 .f32 :=
  maximumf (Host.dotGeneral dot_S65536x1024_S1024x4096_S65536x4096_1_0_0_1_n_n none n w1)
    (broadcastInDim S65536x4096 ![] bcast_S_S65536x4096 (constant S_ .f32 0x00000000#32))

/-- The feed-forward part, added to the rows. -/
def added (x : FVec Ideal S65536x1024 .f32) (a : FVec Ideal S65536x4096 .f32) (w2 : FVec Ideal S4096x1024 .f32) :
    FVec Ideal S65536x1024 .f32 :=
  addf x (Host.dotGeneral dot_S65536x4096_S4096x1024_S65536x1024_1_0_0_1_n_n none (mulf a a) w2)

/-- A normed lane. -/
theorem normed_at (x : FVec Ideal S65536x1024 .f32) (g : FVec Ideal S1024 .f32) (r : Fin 65536) (d : Fin 1024) :
    normed x g (ix2 r d) = norm (fun e => x (ix2 r e)) (fun e => g (ix1 e)) d := by
  pointwise [normed]
  rfl

/-- A hidden lane. -/
theorem rectified_at (n : FVec Ideal S65536x1024 .f32) (w1 : FVec Ideal S1024x4096 .f32) (r : Fin 65536) (f : Fin 4096) :
    rectified n w1 (ix2 r f) = max (∑ e : Fin 1024, n (ix2 r e) * w1 (ix2 e f)) 0 := by
  pointwise [rectified]

/-- A lane with the feed-forward part added. -/
theorem added_at (x : FVec Ideal S65536x1024 .f32) (a : FVec Ideal S65536x4096 .f32) (w2 : FVec Ideal S4096x1024 .f32)
    (r : Fin 65536) (d : Fin 1024) :
    added x a w2 (ix2 r d) = x (ix2 r d) + ∑ f : Fin 4096, a (ix2 r f) * a (ix2 r f) * w2 (ix2 f d) := by
  pointwise [added]

variable (m : (ℓ : Loc nD τ sig) → Buf (Elt Ideal) ℓ)

/-- The result, in those steps. -/
theorem res_eq (c : Dev nD) : res_out0 m c = normed (added (m ((c : Thread nD τ).loc main_arg0))
    (rectified (normed (m ((c : Thread nD τ).loc main_arg0)) (m ((c : Thread nD τ).loc main_arg1))) (m ((c : Thread nD τ).loc main_arg2)))
    (m ((c : Thread nD τ).loc main_arg3))) (m ((c : Thread nD τ).loc main_arg4)) := by
  unfold res_out0 res_main_v30
  rfl

/-- **The reference's result**, lane by lane. -/
theorem res_at (c : Dev nD) (r : Fin 65536) (d : Fin 1024) : (res_out0 m c : FVec Ideal S65536x1024 .f32) (ix2 r d)
    = mlp (m ((c : Thread nD τ).loc main_arg0)) (m ((c : Thread nD τ).loc main_arg1)) (m ((c : Thread nD τ).loc main_arg2))
          (m ((c : Thread nD τ).loc main_arg3)) (m ((c : Thread nD τ).loc main_arg4)) r d := by
  rw [res_eq, normed_at]
  refine congrFun (congrArg (norm · _) (funext fun e => ?_)) d
  rw [added_at]
  refine congrArg (fun s : EReal => _ + s) (Finset.sum_congr rfl fun f _ => ?_)
  rw [rectified_at]
  simp only [normed_at]
  unfold Rows.hidden relu2
  rw [show Fin.ofNat 4096 f.val = f from Fin.ext (Nat.mod_eq_of_lt f.isLt)]

end Cert.Reference2Ideal.Mlp
-- ==== Proof.Layer.Cross.lean ====
module

public import proofs.«01_k».proof.Proof.Layer.Rows

@[expose] public section

/-!
# The gated merge and the memory attention, on one row

Two gates weigh two projected rows; their sum goes through a product into the stream. The stream's norm gives a query of
four heads of 256 lanes, which reads 256 memory rows by a softmax.
-/

noncomputable section

namespace Cert.Rows

open Idealize.ShloMosaic

/-- The logistic function. -/
def logistic (x : EReal) : EReal := Ideal.div 1 (1 + Ideal.exp (-x))

/-- Lane `e` of the two projections, each weighed by its gate: the gates of the first are the first 1024 lanes. -/
def merge (yf ym : Fin 512 → EReal) (gp bg : Fin 2048 → EReal) (wf wm : Fin 512 → Fin 1024 → EReal) (e : Fin 1024) : EReal :=
  logistic (gp (Fin.ofNat 2048 e.val) + bg (Fin.ofNat 2048 e.val)) * ∑ k, yf k * wf k e
    + logistic (gp (Fin.ofNat 2048 (1024 + e.val)) + bg (Fin.ofNat 2048 (1024 + e.val))) * ∑ k, ym k * wm k e

/-- A row of 1024 lanes times a matrix. -/
def times (x : Fin 1024 → EReal) (w : Fin 1024 → Fin 1024 → EReal) (d : Fin 1024) : EReal := ∑ e, x e * w e d

/-- The stream with the merged row added. -/
def stream (h g : Fin 1024 → EReal) (w : Fin 1024 → Fin 1024 → EReal) (d : Fin 1024) : EReal := h d + times g w d

/-- The weight of memory row `k` for scores `s`: the exponential less the largest score, over the sum of all of them. The word
is −∞. -/
def weight (s : Fin 256 → EReal) (k : Fin 256) : EReal :=
  Ideal.div (Ideal.exp (s k - Finset.univ.fold max (Ideal.ofBits FTy.f32 4286578688#32) s))
    (∑ j, Ideal.exp (s j - Finset.univ.fold max (Ideal.ofBits FTy.f32 4286578688#32) s))

/-- A head's score of memory row `k`; `q` is the scaled query. -/
def score (q : Fin 1024 → EReal) (kv : Fin 256 → Fin 2048 → EReal) (hd : ℕ) (k : Fin 256) : EReal :=
  ∑ l : Fin 256, q (Fin.ofNat 1024 (256 * hd + l.val)) * kv k (Fin.ofNat 2048 (256 * hd + l.val))

/-- Lane `e` of what the memory gives: the average of the values under the weights of the lane's head. -/
def cross (q : Fin 1024 → EReal) (kv : Fin 256 → Fin 2048 → EReal) (e : ℕ) : EReal :=
  ∑ k, weight (score q kv (e / 256)) k * kv k (Fin.ofNat 2048 (1024 + e))

/-- The query of a row: its norm times a matrix, times 1/16. -/
def query (s g : Fin 1024 → EReal) (w : Fin 1024 → Fin 1024 → EReal) (d : Fin 1024) : EReal :=
  times (norm s g) w d * Ideal.ofBits FTy.f32 1031798784#32

/-- The stream after the memory attention. -/
def recall (s g : Fin 1024 → EReal) (wq : Fin 1024 → Fin 1024 → EReal) (kv : Fin 256 → Fin 2048 → EReal)
    (wo : Fin 1024 → Fin 1024 → EReal) (d : Fin 1024) : EReal :=
  stream s (fun e => cross (query s g wq) kv e.val) wo d

/-- **The merge and the memory attention**, at row `r` and lane `d`; a batch has 4096 rows, and the memory is the last layer's. -/
def mix (h : FVec Ideal ⟨2, ![65536, 1024]⟩ .f32) (yf ym : FVec Ideal ⟨2, ![65536, 512]⟩ .f32) (gp : FVec Ideal ⟨2, ![65536, 2048]⟩ .f32)
    (kv : FVec Ideal ⟨4, ![4, 16, 256, 2048]⟩ .f32) (b : FVec Ideal ⟨1, ![2048]⟩ .f32) (wf wm : FVec Ideal ⟨2, ![512, 1024]⟩ .f32)
    (w : FVec Ideal ⟨2, ![1024, 1024]⟩ .f32) (g : FVec Ideal ⟨1, ![1024]⟩ .f32) (wq wo : FVec Ideal ⟨2, ![1024, 1024]⟩ .f32)
    (r : Fin 65536) (d : Fin 1024) : EReal :=
  recall (stream (fun d => h (ix2 r d)) (merge (fun k => yf (ix2 r k)) (fun k => ym (ix2 r k)) (fun e => gp (ix2 r e)) (fun e => b (ix1 e))
      (fun k e => wf (ix2 k e)) (fun k e => wm (ix2 k e))) (fun e d => w (ix2 e d)))
    (fun e => g (ix1 e)) (fun e d => wq (ix2 e d)) (fun k e => kv (ix4 3 (Fin.ofNat 16 (r.val / 4096)) k e)) (fun e d => wo (ix2 e d)) d

end Cert.Rows
-- ==== Proof.Layer.MixBlock.lean ====
module

public import proofs.«01_k».proof.Proof.Gen.Kernel3Ideal.Value
public import proofs.«01_k».proof.Proof.Layer.Cross
public import Idealize.ShloMosaic.Lib.Pipeline.ValueKit

@[expose] public section

/-!
One block of 512 rows of the merge and the memory attention: what the body leaves, lane by lane.
-/

set_option maxRecDepth 16384

noncomputable section

namespace Cert.Kernel3Ideal.Mix

open Idealize.ShloMosaic Idealize.ShloMosaic.TcCoe
open Cert.Kernel3Ideal Cert.Kernel3Ideal.Gen Cert.Rows

/-- A row of the first projection. -/
theorem up_at (y : Vec Ideal S512x512 .bf16) (w : Vec Ideal S512x1024 .bf16) (r : Fin 512) (d : Fin 1024) :
    k0_pay1 y w (ix2 r d) = ∑ k : Fin 512, y (ix2 r k) * w (ix2 k d) := by
  pointwise [k0_pay1]

/-- A row of the second projection. -/
theorem up'_at (y : Vec Ideal S512x512 .bf16) (w : Vec Ideal S512x1024 .bf16) (r : Fin 512) (d : Fin 1024) :
    k0_pay2 y w (ix2 r d) = ∑ k : Fin 512, y (ix2 r k) * w (ix2 k d) := by
  pointwise [k0_pay2]

/-- A lane of the first gate. -/
theorem gate_at (x : Vec Ideal S512x1024 .bf16) (b : Vec Ideal S1x1024 .f32) (r : Fin 512) (d : Fin 1024) :
    k0_pay3 x b (ix2 r d) = logistic (x (ix2 r d) + b (ix2 0 d)) := by
  pointwise [k0_pay3]
  rw [zero_sub]
  rfl

/-- The exponential in the second gate. -/
theorem expGate_at (x : Vec Ideal S512x1024 .bf16) (b : Vec Ideal S1x1024 .f32) (r : Fin 512) (d : Fin 1024) :
    k0_pay4 x b (ix2 r d) = Ideal.exp (-(x (ix2 r d) + b (ix2 0 d))) := by
  pointwise [k0_pay4]
  rw [zero_sub]

/-- The stream with the merged row. -/
theorem merged_at (a b g e : FVec Ideal S512x1024 .f32) (h : Vec Ideal S512x1024 .f32) (w : Vec Ideal S1024x1024 .bf16)
    (r : Fin 512) (d : Fin 1024) :
    k0_pay6 a b g e k0_pay5 h w (ix2 r d) = stream (fun d => h (ix2 r d))
      (fun f => g (ix2 r f) * a (ix2 r f) + Ideal.div 1 (1 + e (ix2 r f)) * b (ix2 r f)) (fun e d => w (ix2 e d)) d := by
  pointwise [k0_pay6, k0_pay5]
  rfl

/-- The query of a row. -/
theorem query_at (a b g e o : FVec Ideal S512x1024 .f32) (h : Vec Ideal S512x1024 .f32) (w : Vec Ideal S1024x1024 .bf16)
    (n : Vec Ideal S1x1024 .f32) (wq : Vec Ideal S1024x1024 .bf16) (r : Fin 512) (d : Fin 1024) :
    k0_pay7 a b g e o h w n wq (ix2 r d)
      = query (fun d => k0_pay6 a b g e o h w (ix2 r d)) (fun d => n (ix2 0 d)) (fun e d => wq (ix2 e d)) d := by
  pointwise [k0_pay7]
  rfl

/-- The largest score of every row. -/
def largest (s : FVec Ideal S512x256 .f32) : FVec Ideal S512x1 .f32 :=
  shapeCast S512x1 (multiReduction .maximumf [1] S512 s 0xFF800000#32 reduces_S512x256_S512 (.inl rfl) rfl) shapeCasts_S512_S512x1

/-- The scores of the head whose lanes start at `o`. -/
def scores (o : ℕ) (hs : S512x1024.Slices ![0, o] S512x256) (q : FVec Ideal S512x1024 .bf16) (k : Vec Ideal S1x1x256x256 .bf16) :
    FVec Ideal S512x256 .f32 :=
  matmul (φ₂ := .bf16) dot_S512x256_S256x256_S512x256_1_1_0_0_n_n none (extractStridedSlice S512x256 ![0, o] q hs)
    (shapeCast S256x256 k shapeCasts_S1x1x256x256_S256x256) (constant S512x256 .f32 0x00000000#32)

/-- What one head reads. -/
def head (o : ℕ) (hs : S512x1024.Slices ![0, o] S512x256) (q : FVec Ideal S512x1024 .bf16) (k v : Vec Ideal S1x1x256x256 .bf16) :
    FVec Ideal S512x256 .bf16 :=
  k0_pay10 (scores o hs q k) (largest (scores o hs q k)) v

/-- Four heads side by side. -/
def four (a b c d : FVec Ideal S512x256 .bf16) : FVec Ideal S512x1024 .bf16 :=
  concatenate S512x1024 1 [⟨S512x256, a⟩, ⟨S512x256, b⟩, ⟨S512x256, c⟩, ⟨S512x256, d⟩]
    concatenates_S512x256_S512x256_S512x256_S512x256_S512x1024_d1

/-- The last product, added to the stream. -/
def last (s : FVec Ideal S512x1024 .f32) (o : FVec Ideal S512x1024 .bf16) (w : Vec Ideal S1024x1024 .bf16) : FVec Ideal S512x1024 .f32 :=
  addf s (matmul (φ₂ := .bf16) dot_S512x1024_S1024x1024_S512x1024_1_0_0_1_n_n none o
    (shapeCast S1024x1024 w shapeCasts_S1024x1024_S1024x1024) (constant S512x1024 .f32 0x00000000#32))

/-- The body's last payload, in those steps. -/
theorem pay14_eq (s : FVec Ideal S512x1024 .f32) (q : FVec Ideal S512x1024 .bf16) (a b : FVec Ideal S512x256 .bf16)
    (k2 v2 k3 v3 : Vec Ideal S1x1x256x256 .bf16) (w : Vec Ideal S1024x1024 .bf16) :
    k0_pay14 s q a b (k0_pay12 q k2) (k0_pay13 q k2) v2 k3 v3 w
      = last s (four a b (head 512 slices_S512x1024_o0_512_S512x256 q k2 v2) (head 768 slices_S512x1024_o0_768_S512x256 q k3 v3)) w := rfl

/-- The second head. -/
theorem pay11_eq (q : FVec Ideal S512x1024 .bf16) (k v : Vec Ideal S1x1x256x256 .bf16) :
    k0_pay11 q k v = head 256 slices_S512x1024_o0_256_S512x256 q k v := rfl

/-- The first head. -/
theorem pay10_eq (a b g e o : FVec Ideal S512x1024 .f32) (h : Vec Ideal S512x1024 .f32) (w : Vec Ideal S1024x1024 .bf16)
    (n : Vec Ideal S1x1024 .f32) (wq : Vec Ideal S1024x1024 .bf16) (k v : Vec Ideal S1x1x256x256 .bf16) :
    k0_pay10 (k0_pay8 a b g e o h w n wq k) (k0_pay9 a b g e o h w n wq k) v
      = head 0 slices_S512x1024_o0_0_S512x256 (k0_pay7 a b g e o h w n wq) k v := rfl

/-- Every row's largest score, read. -/
theorem largest_at (s : FVec Ideal S512x256 .f32) (r : Fin 512) :
    largest s (ix2 r 0) = Finset.univ.fold max (Ideal.ofBits FTy.f32 4286578688#32) fun j => s (ix2 r j) := by
  pointwise [largest]

/-- The scores of a head, read. -/
theorem scores_at (o : ℕ) (hs) (q : FVec Ideal S512x1024 .bf16) (k : Vec Ideal S1x1x256x256 .bf16) (ho : o + 256 ≤ 1024)
    (r : Fin 512) (j : Fin 256) :
    scores o hs q k (ix2 r j) = ∑ l : Fin 256, q (ix2 r (Fin.ofNat 1024 (o + l.val))) * k (ix4 0 0 j l) := by
  have e : ∀ l : Fin 256, Fin.ofNat 1024 (o + l.val) = ⟨o + l.val, by omega⟩ := fun l => Fin.ext (Nat.mod_eq_of_lt (by omega))
  simp only [e]
  pointwise [scores]

/-- An average of values under scores, read. -/
theorem average_at (s : FVec Ideal S512x256 .f32) (m : FVec Ideal S512x1 .f32) (v : Vec Ideal S1x1x256x256 .bf16) (r : Fin 512) (l : Fin 256) :
    k0_pay10 s m v (ix2 r l) = ∑ k : Fin 256, Ideal.div (Ideal.exp (s (ix2 r k) - m (ix2 r 0)))
      (∑ j : Fin 256, Ideal.exp (s (ix2 r j) - m (ix2 r 0))) * v (ix4 0 0 k l) := by
  pointwise [k0_pay10]

/-- What one head reads, lane by lane. -/
theorem head_at (o : ℕ) (hs) (q : FVec Ideal S512x1024 .bf16) (k v : Vec Ideal S1x1x256x256 .bf16) (ho : o + 256 ≤ 1024)
    (r : Fin 512) (l : Fin 256) :
    head o hs q k v (ix2 r l)
      = ∑ j : Fin 256, weight (fun j => ∑ l : Fin 256, q (ix2 r (Fin.ofNat 1024 (o + l.val))) * k (ix4 0 0 j l)) j * v (ix4 0 0 j l) := by
  unfold head
  rw [average_at, largest_at]
  simp only [scores_at o hs q k ho]
  rfl

/-- Four heads side by side, read. -/
theorem four_at (a b c d : FVec Ideal S512x256 .bf16) (r : Fin 512) (e : Fin 1024) :
    four a b c d (ix2 r e) = if e.val < 256 then a (ix2 r (Fin.ofNat 256 e.val)) else if e.val < 512 then b (ix2 r (Fin.ofNat 256 e.val))
      else if e.val < 768 then c (ix2 r (Fin.ofNat 256 e.val)) else d (ix2 r (Fin.ofNat 256 e.val)) := by
  have he := e.isLt
  pointwise [four]
  have hm : e.val % 256 < 256 := Nat.mod_lt _ (by omega)
  rw [show Fin.ofNat 256 e.val = ⟨e.val % 256, hm⟩ from rfl]
  by_cases h0 : e.val < 256
  · rw [dif_pos h0, if_pos h0]
    exact congrArg (fun x => a (ix2 r x)) (Fin.ext (Nat.mod_eq_of_lt h0).symm)
  rw [dif_neg h0, if_neg h0]
  by_cases h1 : e.val < 512
  · rw [dif_pos (by omega), if_pos h1]
    exact congrArg (fun x => b (ix2 r x)) (Fin.ext (by show e.val - 256 = e.val % 256; omega))
  rw [dif_neg (by omega), if_neg h1]
  by_cases h2 : e.val < 768
  · rw [dif_pos (by omega), if_pos h2]
    exact congrArg (fun x => c (ix2 r x)) (Fin.ext (by show e.val - 256 - 256 = e.val % 256; omega))
  rw [dif_neg (by omega), if_neg h2]
  exact congrArg (fun x => d (ix2 r x)) (Fin.ext (by show e.val - 256 - 256 - 256 = e.val % 256; omega))

/-- The last product, read. -/
theorem last_at (s : FVec Ideal S512x1024 .f32) (o : FVec Ideal S512x1024 .bf16) (w : Vec Ideal S1024x1024 .bf16) (r : Fin 512) (d : Fin 1024) :
    last s o w (ix2 r d) = stream (fun d => s (ix2 r d)) (fun e => o (ix2 r e)) (fun e d => w (ix2 e d)) d := by
  pointwise [last]
  rfl

/-- A quarter of the keys or the values, read where the whole is. -/
theorem ld_kv {k : ℕ} (X : Vec Ideal S1x1x256x2048 .bf16) (inb) (hk : k + 256 ≤ 2048) (j l : Fin 256) :
    View.ld X (Rect.unit (s := S1x1x256x2048) ![0, 0, 0, k] S1x1x256x256.size inb) (ix4 0 0 j l)
      = X (ix4 0 0 j (Fin.ofNat 2048 (k + l.val))) :=
  View.ld_unit_apply_of X _ _ inb _ _ fun a => by
    fin_cases a
    · rfl
    · rfl
    · show j.val = 0 + j.val; omega
    · exact Nat.mod_eq_of_lt (by omega)

/-- A half of the gates. -/
theorem ld_gate {k : ℕ} (X : Vec Ideal S512x2048 .bf16) (inb) (hk : k + 1024 ≤ 2048) (r : Fin 512) (e : Fin 1024) :
    View.ld X (Rect.unit (s := S512x2048) ![0, k] S512x1024.size inb) (ix2 r e) = X (ix2 r (Fin.ofNat 2048 (k + e.val))) :=
  View.ld_unit_apply_of X _ _ inb _ _ fun a => by
    fin_cases a
    · show r.val = 0 + r.val; omega
    · exact Nat.mod_eq_of_lt (by omega)

/-- A half of the gates' bias. -/
theorem ld_bias {k : ℕ} (X : Vec Ideal S1x2048 .f32) (inb) (hk : k + 1024 ≤ 2048) (e : Fin 1024) :
    View.ld X (Rect.unit (s := S1x2048) ![0, k] S1x1024.size inb) (ix2 0 e) = X (ix2 0 (Fin.ofNat 2048 (k + e.val))) :=
  View.ld_unit_apply_of X _ _ inb _ _ fun a => by
    fin_cases a
    · rfl
    · exact Nat.mod_eq_of_lt (by omega)

/-- A head's lane is the lane of the whole. -/
theorem head_cross {n : ℕ} (hn : n < 4) (q : FVec Ideal S512x1024 .bf16) (X : Vec Ideal S1x1x256x2048 .bf16) (hs) (ik) (iv)
    (r : Fin 512) (e : Fin 1024) (he : e.val / 256 = n) :
    head (256 * n) hs q (View.ld X (Rect.unit (s := S1x1x256x2048) ![0, 0, 0, 256 * n] S1x1x256x256.size ik))
        (View.ld X (Rect.unit (s := S1x1x256x2048) ![0, 0, 0, 1024 + 256 * n] S1x1x256x256.size iv)) (ix2 r (Fin.ofNat 256 e.val))
      = cross (fun d => q (ix2 r d)) (fun k d => X (ix4 0 0 k d)) e.val := by
  rw [head_at _ _ _ _ _ (by omega)]
  unfold cross
  refine Finset.sum_congr rfl fun j _ => ?_
  rw [ld_kv X iv (by omega), show (1024 + 256 * n + (Fin.ofNat 256 e.val).val) = 1024 + e.val from by
    show 1024 + 256 * n + e.val % 256 = _
    omega]
  simp only [ld_kv X ik (by omega : 256 * n + 256 ≤ 2048)]
  rw [he]
  rfl

/-- The stream of a block after the merge. -/
def merged (x0 : Vec Ideal S512x1024 .f32) (x1 x2 : Vec Ideal S512x512 .bf16) (x3 : Vec Ideal S512x2048 .bf16) (x4 : Vec Ideal S1x2048 .f32)
    (x5 x6 : Vec Ideal S512x1024 .bf16) (x7 : Vec Ideal S1024x1024 .bf16) (r : Fin 512) (d : Fin 1024) : EReal :=
  stream (fun d => x0 (ix2 r d)) (merge (fun k => x1 (ix2 r k)) (fun k => x2 (ix2 r k)) (fun e => x3 (ix2 r e)) (fun e => x4 (ix2 0 e))
    (fun k e => x5 (ix2 k e)) (fun k e => x6 (ix2 k e))) (fun e d => x7 (ix2 e d)) d

/-- The body's stream after the merge. -/
theorem stream_at (x0 : Vec Ideal S512x1024 .f32) (x1 x2 : Vec Ideal S512x512 .bf16) (x3 : Vec Ideal S512x2048 .bf16) (x4 : Vec Ideal S1x2048 .f32)
    (x5 x6 : Vec Ideal S512x1024 .bf16) (x7 : Vec Ideal S1024x1024 .bf16) (r : Fin 512) (d : Fin 1024) :
    k0_pay6 (k0_pay1 x1 x5) (k0_pay2 x2 x6) (k0_pay3 (View.ld x3 r0_2) (View.ld x4 r0_3)) (k0_pay4 (View.ld x3 r0_4) (View.ld x4 r0_5))
        k0_pay5 x0 x7 (ix2 r d) = merged x0 x1 x2 x3 x4 x5 x6 x7 r d := by
  rw [merged_at]
  unfold merged
  refine congrFun (congrArg (fun m => stream _ m _) (funext fun e => ?_)) d
  rw [up_at, up'_at, gate_at, expGate_at]
  unfold merge
  refine congrArg₂ (fun a b : EReal => a * _ + b * _) (congrArg logistic ?_) (congrArg logistic ?_)
  · refine congrArg₂ (fun a b : EReal => a + b) ((ld_gate x3 _ (by decide) r e).trans ?_) ((ld_bias x4 _ (by decide) e).trans ?_)
    all_goals rw [Nat.zero_add]
  · exact congrArg₂ (fun a b : EReal => a + b) (ld_gate x3 _ (by decide) r e) (ld_bias x4 _ (by decide) e)

/-- **What the body leaves**, lane by lane. -/
theorem block_at (x0 : Vec Ideal S512x1024 .f32) (x1 x2 : Vec Ideal S512x512 .bf16) (x3 : Vec Ideal S512x2048 .bf16) (x4 : Vec Ideal S1x2048 .f32)
    (x5 x6 : Vec Ideal S512x1024 .bf16) (x7 : Vec Ideal S1024x1024 .bf16) (x8 : Vec Ideal S1x1024 .f32) (x9 : Vec Ideal S1024x1024 .bf16)
    (x10 : Vec Ideal S1x1x256x2048 .bf16) (x11 : Vec Ideal S1024x1024 .bf16) (r : Fin 512) (d : Fin 1024) :
    out0_12 x0 x1 x2 x3 x4 x5 x6 x7 x8 x9 x10 x11 (ix2 r d)
      = recall (merged x0 x1 x2 x3 x4 x5 x6 x7 r) (fun e => x8 (ix2 0 e)) (fun e d => x9 (ix2 e d)) (fun k e => x10 (ix4 0 0 k e))
          (fun e d => x11 (ix2 e d)) d := by
  unfold out0_12 k0_pay20 k0_pay15 k0_pay16 k0_pay17 k0_pay18 k0_pay19
  simp (disch := decide) only [View.canon_cons_unit_lit', View.ld_unit_lit']
  rw [pay10_eq, pay11_eq, pay14_eq, last_at]
  unfold recall
  have hq : (fun d => k0_pay7 (k0_pay1 x1 x5) (k0_pay2 x2 x6) (k0_pay3 (View.ld x3 r0_2) (View.ld x4 r0_3)) (k0_pay4 (View.ld x3 r0_4) (View.ld x4 r0_5))
        k0_pay5 x0 x7 x8 x9 (ix2 r d)) = query (merged x0 x1 x2 x3 x4 x5 x6 x7 r) (fun e => x8 (ix2 0 e)) (fun e d => x9 (ix2 e d)) := by
    funext d
    rw [query_at]
    simp only [stream_at]
  refine congrFun (congrArg₂ (fun s o => stream s o _) (funext fun d => stream_at x0 x1 x2 x3 x4 x5 x6 x7 r d) (funext fun e => ?_)) d
  have he := e.isLt
  rw [four_at, ← hq]
  by_cases h0 : e.val < 256
  · rw [if_pos h0]
    exact head_cross (n := 0) (by omega) _ x10 _ _ _ r e (by omega)
  rw [if_neg h0]
  by_cases h1 : e.val < 512
  · rw [if_pos h1]
    exact head_cross (n := 1) (by omega) _ x10 _ _ _ r e (by omega)
  rw [if_neg h1]
  by_cases h2 : e.val < 768
  · rw [if_pos h2]
    exact head_cross (n := 2) (by omega) _ x10 _ _ _ r e (by omega)
  rw [if_neg h2]
  exact head_cross (n := 3) (by omega) _ x10 _ _ _ r e (by omega)

end Cert.Kernel3Ideal.Mix
-- ==== Proof.Layer.MixValue.lean ====
module

public import proofs.«01_k».proof.Proof.Layer.MixBlock
public import Idealize.ShloMosaic.Lib.StableHlo.RunRead

@[expose] public section

/-!
The result of the merge and the memory attention, as an array: from the blocks of its 128 grid points.
-/

set_option maxRecDepth 16384

noncomputable section

namespace Cert.Kernel3Ideal.Mix

open Idealize.ShloMosaic Idealize.ShloMosaic.TcCoe
open Cert.Kernel3Ideal Cert.Kernel3Ideal.Gen Cert.Rows

variable (m : (ℓ : Loc nD τ sig) → Buf (Elt Ideal) ℓ)

/-- The first projected rows as the call finds them: the cast changes nothing. -/
theorem entry_fox (c : Dev nD) : (V m c main_v0 : FVec Ideal S65536x512 .bf16) = (m ((c : Thread nD τ).loc main_arg1) : FVec Ideal S65536x512 .f32) := by
  show StableHlo.after hostOps0 _ (Proc.devRef .tc main_v0) = _
  after_reads_simp
  rfl

/-- The second projected rows as the call finds them: the cast changes nothing. -/
theorem entry_mem (c : Dev nD) : (V m c main_v1 : FVec Ideal S65536x512 .bf16) = (m ((c : Thread nD τ).loc main_arg2) : FVec Ideal S65536x512 .f32) := by
  show StableHlo.after hostOps0 _ (Proc.devRef .tc main_v1) = _
  after_reads_simp
  rfl

/-- The gate rows as the call finds them: the cast changes nothing. -/
theorem entry_gates (c : Dev nD) : (V m c main_v2 : FVec Ideal S65536x2048 .bf16) = (m ((c : Thread nD τ).loc main_arg3) : FVec Ideal S65536x2048 .f32) := by
  show StableHlo.after hostOps0 _ (Proc.devRef .tc main_v2) = _
  after_reads_simp
  rfl

/-- The weights of window 5 as the call finds them. -/
theorem entry_upFox (c : Dev nD) : (V m c main_v4 : FVec Ideal S512x1024 .bf16) = (m ((c : Thread nD τ).loc main_arg6) : FVec Ideal S512x1024 .f32) := by
  show StableHlo.after hostOps0 _ (Proc.devRef .tc main_v4) = _
  after_reads_simp
  rfl

/-- The weights of window 6 as the call finds them. -/
theorem entry_upMem (c : Dev nD) : (V m c main_v5 : FVec Ideal S512x1024 .bf16) = (m ((c : Thread nD τ).loc main_arg7) : FVec Ideal S512x1024 .f32) := by
  show StableHlo.after hostOps0 _ (Proc.devRef .tc main_v5) = _
  after_reads_simp
  rfl

/-- The weights of window 7 as the call finds them. -/
theorem entry_out (c : Dev nD) : (V m c main_v6 : FVec Ideal S1024x1024 .bf16) = (m ((c : Thread nD τ).loc main_arg8) : FVec Ideal S1024x1024 .f32) := by
  show StableHlo.after hostOps0 _ (Proc.devRef .tc main_v6) = _
  after_reads_simp
  rfl

/-- The weights of window 9 as the call finds them. -/
theorem entry_query (c : Dev nD) : (V m c main_v8 : FVec Ideal S1024x1024 .bf16) = (m ((c : Thread nD τ).loc main_arg10) : FVec Ideal S1024x1024 .f32) := by
  show StableHlo.after hostOps0 _ (Proc.devRef .tc main_v8) = _
  after_reads_simp
  rfl

/-- The weights of window 11 as the call finds them. -/
theorem entry_back (c : Dev nD) : (V m c main_v10 : FVec Ideal S1024x1024 .bf16) = (m ((c : Thread nD τ).loc main_arg11) : FVec Ideal S1024x1024 .f32) := by
  show StableHlo.after hostOps0 _ (Proc.devRef .tc main_v10) = _
  after_reads_simp
  rfl

/-- The memory keys and values as the call finds them. -/
theorem entry_kv (c : Dev nD) : (V m c main_v9 : FVec Ideal S4x16x256x2048 .bf16) = (m ((c : Thread nD τ).loc main_arg4) : FVec Ideal S4x16x256x2048 .f32) := by
  show StableHlo.after hostOps0 _ (Proc.devRef .tc main_v9) = _
  after_reads_simp
  rfl

/-- The bias, laid out as one row. -/
theorem entry_bias (c : Dev nD) : (V m c main_v3 : FVec Ideal S1x2048 .f32)
    = shapeCast S1x2048 (m ((c : Thread nD τ).loc main_arg5) : FVec Ideal S2048 .f32) shapeCasts_S2048_S1x2048 := by
  show StableHlo.after hostOps0 _ (Proc.devRef .tc main_v3) = _
  after_reads_simp
  rfl

/-- The bias's row, read. -/
theorem bias_at (g : FVec Ideal S2048 .f32) (e : Fin 2048) :
    (shapeCast S1x2048 g shapeCasts_S2048_S1x2048 : FVec Ideal S1x2048 .f32) (ix2 0 e) = g (ix1 e) := by
  pointwise

/-- The gain, laid out as one row. -/
theorem entry_gain (c : Dev nD) : (V m c main_v7 : FVec Ideal S1x1024 .f32)
    = shapeCast S1x1024 (m ((c : Thread nD τ).loc main_arg9) : FVec Ideal S1024 .f32) shapeCasts_S1024_S1x1024 := by
  show StableHlo.after hostOps0 _ (Proc.devRef .tc main_v7) = _
  after_reads_simp
  rfl

/-- The gain's row, read. -/
theorem gain_at (g : FVec Ideal S1024 .f32) (e : Fin 1024) :
    (shapeCast S1x1024 g shapeCasts_S1024_S1x1024 : FVec Ideal S1x1024 .f32) (ix2 0 e) = g (ix1 e) := by
  pointwise

/-- The block each window takes at each point. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![3, t.val / 8, 0, 0] ∧ win0_11.index t = ![0, 0] ∧ win0_12.index t = ![t.val, 0] :=
  (by decide +kernel : ∀ t : Fin grid0.N, _)

/-- The grid has 128 points. -/
theorem points (t : Fin cfg0.N) : t.val < 128 := t.isLt

/-- The stream of a point's block. -/
theorem blk_rows (c : Dev nD) (t : Fin cfg0.N) (r : Fin 512) (e : Fin 1024) :
    (iblk m c 0 t : Vec Ideal S512x1024 .f32) (ix2 r e)
      = (m ((c : Thread nD τ).loc main_arg0) : FVec Ideal S65536x1024 .f32) (ix2 (Fin.ofNat 65536 (512 * t.val + r.val)) e) := by
  have ht := points t
  have hr := r.isLt
  have h1 : 512 * t.val + r.val < 65536 := by omega
  rw [show Fin.ofNat 65536 (512 * t.val + r.val) = ⟨_, h1⟩ from Fin.ext (Nat.mod_eq_of_lt h1)]
  refine Eq.trans ?_ (congrFun (V_main_arg0 m c) _)
  blk_ext [iblk, idx t]

/-- The first projected rows of a point's block. -/
theorem blk_fox (c : Dev nD) (t : Fin cfg0.N) (r : Fin 512) (e : Fin 512) :
    (iblk m c 1 t : Vec Ideal S512x512 .bf16) (ix2 r e)
      = (m ((c : Thread nD τ).loc main_arg1) : FVec Ideal S65536x512 .f32) (ix2 (Fin.ofNat 65536 (512 * t.val + r.val)) e) := by
  have ht := points t
  have hr := r.isLt
  have h1 : 512 * t.val + r.val < 65536 := by omega
  rw [show Fin.ofNat 65536 (512 * t.val + r.val) = ⟨_, h1⟩ from Fin.ext (Nat.mod_eq_of_lt h1)]
  refine Eq.trans ?_ (congrFun (entry_fox m c) _)
  blk_ext [iblk, idx t]

/-- The second projected rows of a point's block. -/
theorem blk_mem (c : Dev nD) (t : Fin cfg0.N) (r : Fin 512) (e : Fin 512) :
    (iblk m c 2 t : Vec Ideal S512x512 .bf16) (ix2 r e)
      = (m ((c : Thread nD τ).loc main_arg2) : FVec Ideal S65536x512 .f32) (ix2 (Fin.ofNat 65536 (512 * t.val + r.val)) e) := by
  have ht := points t
  have hr := r.isLt
  have h1 : 512 * t.val + r.val < 65536 := by omega
  rw [show Fin.ofNat 65536 (512 * t.val + r.val) = ⟨_, h1⟩ from Fin.ext (Nat.mod_eq_of_lt h1)]
  refine Eq.trans ?_ (congrFun (entry_mem m c) _)
  blk_ext [iblk, idx t]

/-- The gate rows of a point's block. -/
theorem blk_gates (c : Dev nD) (t : Fin cfg0.N) (r : Fin 512) (e : Fin 2048) :
    (iblk m c 3 t : Vec Ideal S512x2048 .bf16) (ix2 r e)
      = (m ((c : Thread nD τ).loc main_arg3) : FVec Ideal S65536x2048 .f32) (ix2 (Fin.ofNat 65536 (512 * t.val + r.val)) e) := by
  have ht := points t
  have hr := r.isLt
  have h1 : 512 * t.val + r.val < 65536 := by omega
  rw [show Fin.ofNat 65536 (512 * t.val + r.val) = ⟨_, h1⟩ from Fin.ext (Nat.mod_eq_of_lt h1)]
  refine Eq.trans ?_ (congrFun (entry_gates m c) _)
  blk_ext [iblk, idx t]

/-- The bias, at every point. -/
theorem blk_bias (c : Dev nD) (t : Fin cfg0.N) (e : Fin 2048) : (iblk m c 4 t : Vec Ideal S1x2048 .f32) (ix2 0 e)
      = (m ((c : Thread nD τ).loc main_arg5) : FVec Ideal S2048 .f32) (ix1 e) := by
  refine Eq.trans ?_ ((congrFun (entry_bias m c) (ix2 0 e)).trans (bias_at _ e))
  blk_ext [iblk, idx t]

/-- The gain, at every point. -/
theorem blk_gain (c : Dev nD) (t : Fin cfg0.N) (e : Fin 1024) : (iblk m c 8 t : Vec Ideal S1x1024 .f32) (ix2 0 e)
      = (m ((c : Thread nD τ).loc main_arg9) : FVec Ideal S1024 .f32) (ix1 e) := by
  refine Eq.trans ?_ ((congrFun (entry_gain m c) (ix2 0 e)).trans (gain_at _ e))
  blk_ext [iblk, idx t]

/-- The weights of window 5, whole at every point. -/
theorem blk_upFox (c : Dev nD) (t : Fin cfg0.N) :
    (iblk m c 5 t : Vec Ideal S512x1024 .bf16) = (m ((c : Thread nD τ).loc main_arg6) : FVec Ideal S512x1024 .f32) := by
  refine Eq.trans ?_ (entry_upFox m c)
  funext i
  rw [eq_ix2 i]
  blk_ext [iblk, idx t]

/-- The weights of window 6, whole at every point. -/
theorem blk_upMem (c : Dev nD) (t : Fin cfg0.N) :
    (iblk m c 6 t : Vec Ideal S512x1024 .bf16) = (m ((c : Thread nD τ).loc main_arg7) : FVec Ideal S512x1024 .f32) := by
  refine Eq.trans ?_ (entry_upMem m c)
  funext i
  rw [eq_ix2 i]
  blk_ext [iblk, idx t]

/-- The weights of window 7, whole at every point. -/
theorem blk_out (c : Dev nD) (t : Fin cfg0.N) :
    (iblk m c 7 t : Vec Ideal S1024x1024 .bf16) = (m ((c : Thread nD τ).loc main_arg8) : FVec Ideal S1024x1024 .f32) := by
  refine Eq.trans ?_ (entry_out m c)
  funext i
  rw [eq_ix2 i]
  blk_ext [iblk, idx t]

/-- The weights of window 9, whole at every point. -/
theorem blk_query (c : Dev nD) (t : Fin cfg0.N) :
    (iblk m c 9 t : Vec Ideal S1024x1024 .bf16) = (m ((c : Thread nD τ).loc main_arg10) : FVec Ideal S1024x1024 .f32) := by
  refine Eq.trans ?_ (entry_query m c)
  funext i
  rw [eq_ix2 i]
  blk_ext [iblk, idx t]

/-- The weights of window 11, whole at every point. -/
theorem blk_back (c : Dev nD) (t : Fin cfg0.N) :
    (iblk m c 11 t : Vec Ideal S1024x1024 .bf16) = (m ((c : Thread nD τ).loc main_arg11) : FVec Ideal S1024x1024 .f32) := by
  refine Eq.trans ?_ (entry_back m c)
  funext i
  rw [eq_ix2 i]
  blk_ext [iblk, idx t]

/-- The memory rows of a point's batch. -/
theorem blk_kv (c : Dev nD) (t : Fin cfg0.N) (k : Fin 256) (e : Fin 2048) :
    (iblk m c 10 t : Vec Ideal S1x1x256x2048 .bf16) (ix4 0 0 k e)
      = (m ((c : Thread nD τ).loc main_arg4) : FVec Ideal S4x16x256x2048 .f32) (ix4 3 (Fin.ofNat 16 (t.val / 8)) k e) := by
  have ht := points t
  have h1 : t.val / 8 < 16 := by omega
  rw [show Fin.ofNat 16 (t.val / 8) = ⟨_, h1⟩ from Fin.ext (Nat.mod_eq_of_lt h1)]
  refine Eq.trans ?_ (congrFun (entry_kv m c) _)
  blk_ext [iblk, idx t]

/-- The stream after the merge and the memory attention, as an array. -/
def result (h : FVec Ideal S65536x1024 .f32) (yf ym : FVec Ideal S65536x512 .f32) (gp : FVec Ideal S65536x2048 .f32)
    (kv : FVec Ideal S4x16x256x2048 .f32) (b : FVec Ideal S2048 .f32) (wf wm : FVec Ideal S512x1024 .f32)
    (w : FVec Ideal S1024x1024 .f32) (g : FVec Ideal S1024 .f32) (wq wo : FVec Ideal S1024x1024 .f32) : FVec Ideal S65536x1024 .f32 :=
  fun i => mix h yf ym gp kv b wf wm w g wq wo (i 0) (i 1)

/-- What a point writes. -/
theorem point_at (c : Dev nD) (t : Fin cfg0.N) (r : Fin 512) (d : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
      = mix (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11)) (Fin.ofNat 65536 (512 * t.val + r.val)) d := by
  have ht := points t
  have hr := r.isLt
  rw [block_at]
  unfold merged mix
  simp only [blk_rows, blk_fox, blk_mem, blk_gates, blk_bias, blk_upFox, blk_upMem, blk_out, blk_gain, blk_query, blk_kv, blk_back]
  rw [show (Fin.ofNat 65536 (512 * t.val + r.val)).val / 4096 = t.val / 8 from by
    show (512 * t.val + r.val) % 65536 / 4096 = _
    omega]

/-- **The call's result.** -/
theorem array_eq (c : Dev nD) : (dats m 0 c).arrAt 12 cfg0.N = result (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11)) := by
  refine (dats m 0 c).arrAt_eq_of_covers 12 _ (by decide +kernel) fun t _ y => ?_
  blk_simp
  rw [after0_12]
  refine (congrArg _ (eq_ix2 y)).trans ((point_at m c t (y 0) (y 1)).trans ?_)
  unfold result
  refine congrArg₂ _ (Fin.ext ?_) (Fin.ext ?_)
  · have ht := points t
    have hr : (y 0).val < 512 := (y 0).isLt
    blk_simp [idx t]
    simp
    omega
  · blk_simp [idx t]
    try simp

end Cert.Kernel3Ideal.Mix
-- ==== Proof.Fox.Spec.lean ====
module

public import proofs.«01_k».proof.Proof.Fox.Softmax

@[expose] public section

/-!
# The gated attention, entry by entry

The attention both programs compute, as a formula in the entries of their arguments: 16 sequences of 4096
positions, 8 heads of 64 lanes, causal, each logit shifted by the difference of two cumulative gates.
-/

noncomputable section

namespace Cert.Attn

open Idealize.ShloMosaic

/-- An array of rows of 512 lanes, read at two numbers. -/
def rd512 (X : FVec Ideal ⟨2, ![65536, 512]⟩ .f32) (r x : ℕ) : EReal := X (ix2 (Fin.ofNat 65536 r) (Fin.ofNat 512 x))

/-- An array of rows of 8 lanes, read at two numbers. -/
def rd8 {φ : FTy} (X : FVec Ideal ⟨2, ![65536, 8]⟩ φ) (r x : ℕ) : EReal := X (ix2 (Fin.ofNat 65536 r) (Fin.ofNat 8 x))

/-- An entry is what is read at its two numbers. -/
theorem rd512_eq (X : FVec Ideal ⟨2, ![65536, 512]⟩ .f32) (r : Fin 65536) (x : Fin 512) {a b : ℕ} (ha : r.val = a)
    (hb : x.val = b) : X (ix2 r x) = rd512 X a b :=
  congrArg X (congrArg₂ ix2 (Fin.ext (ha ▸ (Nat.mod_eq_of_lt r.isLt).symm)) (Fin.ext (hb ▸ (Nat.mod_eq_of_lt x.isLt).symm)))

/-- An entry of the 8 lanes is what is read at its two numbers. -/
theorem rd8_eq {φ : FTy} (X : FVec Ideal ⟨2, ![65536, 8]⟩ φ) (r : Fin 65536) (x : Fin 8) {a b : ℕ} (ha : r.val = a)
    (hb : x.val = b) : X (ix2 r x) = rd8 X a b :=
  congrArg X (congrArg₂ ix2 (Fin.ext (ha ▸ (Nat.mod_eq_of_lt r.isLt).symm)) (Fin.ext (hb ▸ (Nat.mod_eq_of_lt x.isLt).symm)))

/-- Every entry is a real number. -/
def AllReal {s : Shape} {φ : FTy} (X : FVec Ideal s φ) : Prop := ∀ i, ∃ r : ℝ, X i = (r : EReal)

/-- The logit of the query in row `R` and the key in row `K`, of head `H`. -/
def logit (q k : FVec Ideal ⟨2, ![65536, 512]⟩ .f32) (c : FVec Ideal ⟨2, ![65536, 8]⟩ .f32) (R K H : ℕ) : EReal :=
  (∑ l : Fin 64, rd512 q R (64 * H + l.val) * Ideal.ofBits FTy.f32 1040187392#32 * rd512 k K (64 * H + l.val))
    + rd8 c R H - rd8 c K H

/-- The logits of the query in row `R` against the keys of its sequence, the later keys masked. -/
def masked (q k : FVec Ideal ⟨2, ![65536, 512]⟩ .f32) (c : FVec Ideal ⟨2, ![65536, 8]⟩ .f32) (R H : ℕ) (x : ℕ) : EReal :=
  if x ≤ R % 4096 then logit q k c R (4096 * (R / 4096) + x) H else ⊥

/-- The average of `v` under the softmax of `s`, the exponentials shifted by the largest of `s`. -/
def average (s v : Fin 4096 → EReal) : EReal :=
  ∑ x, Ideal.div (Ideal.exp (s x - Finset.univ.fold max ⊥ s)) (∑ y, Ideal.exp (s y - Finset.univ.fold max ⊥ s)) * v x

/-- The attention at row `R` and lane `C`. -/
def attn (q k v : FVec Ideal ⟨2, ![65536, 512]⟩ .f32) (c : FVec Ideal ⟨2, ![65536, 8]⟩ .f32) (R C : ℕ) : EReal :=
  average (fun x => masked q k c R (C / 64) x.val) (fun x => rd512 v (4096 * (R / 4096) + x.val) C)

/-- The word of −∞. -/
theorem ofBits_neg_inf : Ideal.ofBits FTy.f32 4286578688#32 = ⊥ := by simp [Ideal.ofBits, Ideal.ieee]

/-- The half-width word of −∞. -/
theorem ofBits_neg_inf_bf16 : Ideal.ofBits FTy.bf16 65408#16 = ⊥ := by simp [Ideal.ofBits, Ideal.ieee]

/-- The word of +∞. -/
theorem ofBits_inf : Ideal.ofBits FTy.f32 2139095040#32 = ⊤ := by simp [Ideal.ofBits, Ideal.ieee]

/-- A pattern whose exponent bits are not all ones is a real number. -/
theorem ieee_real {e n w : ℕ} (b : BitVec w) (h : (b.extractLsb' n e).toNat ≠ 2 ^ e - 1) : ∃ r : ℝ, Ideal.ieee e n b = r := by
  unfold Ideal.ieee
  simp only [if_neg h]
  split <;> exact ⟨_, rfl⟩

/-- The scale of the queries is a real number. -/
theorem ofBits_scale : ∃ r : ℝ, Ideal.ofBits FTy.f32 1040187392#32 = r :=
  ieee_real (e := 8) (n := 23) (1040187392#32) (by decide)

/-- The first running maximum is a real number. -/
theorem ofBits_floor : ∃ r : ℝ, Ideal.ofBits FTy.f32 0xF149F2CA#32 = r :=
  ieee_real (e := 8) (n := 23) (0xF149F2CA#32) (by decide)

/-- Sums and products of real entries are real, so each logit is. -/
theorem logit_real {q k : FVec Ideal ⟨2, ![65536, 512]⟩ .f32} {c : FVec Ideal ⟨2, ![65536, 8]⟩ .f32} (hq : AllReal q)
    (hk : AllReal k) (hc : AllReal c) (R K H : ℕ) : ∃ r : ℝ, logit q k c R K H = r := by
  obtain ⟨e, he⟩ := ofBits_scale
  choose fq hfq using hq
  choose fk hfk using hk
  choose fc hfc using hc
  unfold logit rd512 rd8
  simp only [hfq, hfk, hfc, he, ← EReal.coe_mul]
  rw [Softmax.coe_sum, ← EReal.coe_add, ← EReal.coe_sub]
  exact ⟨_, rfl⟩

end Cert.Attn
-- ==== Proof.Layer.MixReference.lean ====
module

public import proofs.«01_k».proof.Proof.Gen.Reference3Ideal.Run
public import proofs.«01_k».proof.Proof.Layer.Cross
public import proofs.«01_k».proof.Proof.Fox.Spec
public import proofs.«01_k».proof.Proof.Fox.Softmax

@[expose] public section

/-!
What the reference of the merge and the memory attention computes, lane by lane.
-/

set_option maxRecDepth 16384

noncomputable section

namespace Cert.Reference3Ideal.Mix

open Idealize.ShloMosaic Idealize.ShloMosaic.TcCoe
open Cert.Reference3Ideal Cert.Reference3Ideal.Gen Cert.Reference3Ideal.Value Cert.Rows

/-- Both gates. -/
def gates (gp : FVec Ideal S65536x2048 .f32) (b : FVec Ideal S2048 .f32) : FVec Ideal S65536x2048 .f32 :=
  Host.divf (broadcastInDim S65536x2048 ![] bcast_S_S65536x2048 (constant S_ .f32 0x3F800000#32)) (addf (broadcastInDim S65536x2048 ![] bcast_S_S65536x2048 (constant S_ .f32 0x3F800000#32)) (Host.exp (Host.negf (addf gp (broadcastInDim S65536x2048 ![0, 1] bcast_S1x2048_S65536x2048_0_1 (broadcastInDim S1x2048 ![1] bcast_S2048_S1x2048_1 b))))))

/-- The two projections, weighed by the gates. -/
def merged (g : FVec Ideal S65536x2048 .f32) (yf ym : FVec Ideal S65536x512 .f32) (wf wm : FVec Ideal S512x1024 .f32) :
    FVec Ideal S65536x1024 .f32 :=
  addf (mulf (extractStridedSlice S65536x1024 ![0, 0] g slices_S65536x2048_S65536x1024_0_0) (Host.dotGeneral dot_S65536x512_S512x1024_S65536x1024_1_0_0_1_n_n none yf wf))
    (mulf (extractStridedSlice S65536x1024 ![0, 1024] g slices_S65536x2048_S65536x1024_0_1024) (Host.dotGeneral dot_S65536x512_S512x1024_S65536x1024_1_0_0_1_n_n none ym wm))

/-- Rows times a matrix. -/
def product (x : FVec Ideal S65536x1024 .f32) (w : FVec Ideal S1024x1024 .f32) : FVec Ideal S65536x1024 .f32 :=
  Host.dotGeneral dot_S65536x1024_S1024x1024_S65536x1024_1_0_0_1_n_n none x w

/-- The rows, normed. -/
def normed (x : FVec Ideal S65536x1024 .f32) (g : FVec Ideal S1024 .f32) : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- The queries, seen as heads. -/
def queries (q : FVec Ideal S65536x1024 .f32) : FVec Ideal S16x4096x4x256 .f32 := shapeCast _ q shapeCasts_S65536x1024_S16x4096x4x256

/-- The last layer's memory rows. -/
def memory (kv : FVec Ideal S4x16x256x2048 .f32) : FVec Ideal S16x256x2048 .f32 :=
  shapeCast _ (extractStridedSlice S1x16x256x2048 ![3, 0, 0, 0] kv slices_S4x16x256x2048_S1x16x256x2048_3_0_0_0) shapeCasts_S1x16x256x2048_S16x256x2048

/-- Its keys. -/
def keys (kv : FVec Ideal S16x256x2048 .f32) : FVec Ideal S16x256x4x256 .f32 :=
  shapeCast _ (extractStridedSlice S16x256x1024 ![0, 0, 0] kv slices_S16x256x2048_S16x256x1024_0_0_0) shapeCasts_S16x256x1024_S16x256x4x256

/-- Its values. -/
def values (kv : FVec Ideal S16x256x2048 .f32) : FVec Ideal S16x256x4x256 .f32 :=
  shapeCast _ (extractStridedSlice S16x256x1024 ![0, 0, 1024] kv slices_S16x256x2048_S16x256x1024_0_0_1024) shapeCasts_S16x256x1024_S16x256x4x256

/-- Every score. -/
def scores (q : FVec Ideal S16x4096x4x256 .f32) (k : FVec Ideal S16x256x4x256 .f32) : FVec Ideal S16x4x4096x256 .f32 :=
  mulf (Host.dotGeneral dot_S16x4096x4x256_S16x256x4x256_S16x4x4096x256_3_3_1_1_02_02 none q k) (broadcastInDim S16x4x4096x256 ![] bcast_S_S16x4x4096x256 (constant S_ .f32 0x3D800000#32))

/-- The largest score of every query. -/
def largest (s : FVec Ideal S16x4x4096x256 .f32) : FVec Ideal S16x4x4096 .f32 :=
  Host.reduce FloatOps.maximumf s (constant S_ .f32 0xFF800000#32) reducesTo_S16x4x4096x256_S16x4x4096_d3 h_S_

/-- The exponentials of the scores, less `M`. -/
def shifted (s : FVec Ideal S16x4x4096x256 .f32) (M : FVec Ideal S16x4x4096 .f32) : FVec Ideal S16x4x4096x256 .f32 :=
  Host.exp (subf s (broadcastInDim S16x4x4096x256 ![0, 1, 2, 3] bcast_S16x4x4096x1_S16x4x4096x256_0_1_2_3 (broadcastInDim S16x4x4096x1 ![0, 1, 2] bcast_S16x4x4096_S16x4x4096x1_0_1_2 (maximumf (broadcastInDim S16x4x4096 ![] bcast_S_S16x4x4096 (constant S_ .f32 0xFF800000#32)) M))))

/-- The weights, from the exponentials. -/
def weights (e : FVec Ideal S16x4x4096x256 .f32) : FVec Ideal S16x4x4096x256 .f32 :=
  Host.divf e (broadcastInDim S16x4x4096x256 ![0, 1, 2, 3] bcast_S16x4x4096x1_S16x4x4096x256_0_1_2_3 (broadcastInDim S16x4x4096x1 ![0, 1, 2] bcast_S16x4x4096_S16x4x4096x1_0_1_2 (Host.reduceAdd e (constant S_ .f32 0x00000000#32) reducesTo_S16x4x4096x256_S16x4x4096_d3 h_S_)))

/-- The averages of the values, laid back in rows. -/
def rows (v : FVec Ideal S16x256x4x256 .f32) (p : FVec Ideal S16x4x4096x256 .f32) : FVec Ideal S65536x1024 .f32 :=
  shapeCast _ (transpose S16x4096x4x256 [0, 3, 1, 2] (Host.dotGeneral dot_S16x256x4x256_S16x4x4096x256_S16x4x256x4096_1_3_3_2_02_01 none v p) transposes_S16x4x256x4096_S16x4096x4x256_0_3_1_2) shapeCasts_S16x4096x4x256_S65536x1024

/-- The stream after the merge. -/
def streamOf (h : FVec Ideal S65536x1024 .f32) (yf ym : FVec Ideal S65536x512 .f32) (gp : FVec Ideal S65536x2048 .f32) (b : FVec Ideal S2048 .f32)
    (wf wm : FVec Ideal S512x1024 .f32) (w : FVec Ideal S1024x1024 .f32) : FVec Ideal S65536x1024 .f32 :=
  addf h (product (merged (gates gp b) yf ym wf wm) w)

/-- The softmax. -/
def softmaxOf (s : FVec Ideal S16x4x4096x256 .f32) : FVec Ideal S16x4x4096x256 .f32 := weights (shifted s (largest s))

/-- The stream after the memory attention. -/
def recalled (x : FVec Ideal S65536x1024 .f32) (kv : FVec Ideal S4x16x256x2048 .f32) (g : FVec Ideal S1024 .f32) (wq wo : FVec Ideal S1024x1024 .f32) :
    FVec Ideal S65536x1024 .f32 :=
  addf x (product (rows (values (memory kv)) (softmaxOf (scores (queries (product (normed x g) wq)) (keys (memory kv))))) wo)

variable (m : (ℓ : Loc nD τ sig) → Buf (Elt Ideal) ℓ)

set_option maxHeartbeats 4000000 in
/-- The result, in those steps. -/
theorem res_eq (c : Dev nD) : res_out0 m c = recalled (streamOf (m ((c : Thread nD τ).loc main_arg0)) (m ((c : Thread nD τ).loc main_arg1))
    (m ((c : Thread nD τ).loc main_arg2)) (m ((c : Thread nD τ).loc main_arg3)) (m ((c : Thread nD τ).loc main_arg5)) (m ((c : Thread nD τ).loc main_arg6))
    (m ((c : Thread nD τ).loc main_arg7)) (m ((c : Thread nD τ).loc main_arg8))) (m ((c : Thread nD τ).loc main_arg4)) (m ((c : Thread nD τ).loc main_arg9))
    (m ((c : Thread nD τ).loc main_arg10)) (m ((c : Thread nD τ).loc main_arg11)) := by
  unfold res_out0 res_main_v57
  rfl

/-- A gate. -/
theorem gates_at (gp : FVec Ideal S65536x2048 .f32) (b : FVec Ideal S2048 .f32) (r : Fin 65536) (e : Fin 2048) :
    gates gp b (ix2 r e) = logistic (gp (ix2 r e) + b (ix1 e)) := by
  pointwise [gates]
  rfl

/-- A merged lane. -/
theorem merged_at (gp : FVec Ideal S65536x2048 .f32) (b : FVec Ideal S2048 .f32) (yf ym : FVec Ideal S65536x512 .f32) (wf wm : FVec Ideal S512x1024 .f32)
    (r : Fin 65536) (e : Fin 1024) :
    merged (gates gp b) yf ym wf wm (ix2 r e)
      = merge (fun k => yf (ix2 r k)) (fun k => ym (ix2 r k)) (fun e => gp (ix2 r e)) (fun e => b (ix1 e)) (fun k e => wf (ix2 k e)) (fun k e => wm (ix2 k e)) e := by
  have he := e.isLt
  unfold merge
  rw [show Fin.ofNat 2048 e.val = ⟨e.val, by omega⟩ from Fin.ext (Nat.mod_eq_of_lt (by omega)),
    show Fin.ofNat 2048 (1024 + e.val) = ⟨1024 + e.val, by omega⟩ from Fin.ext (Nat.mod_eq_of_lt (by omega))]
  simp only [← gates_at]
  pointwise [merged]

/-- A product, read. -/
theorem product_at (x : FVec Ideal S65536x1024 .f32) (w : FVec Ideal S1024x1024 .f32) (r : Fin 65536) (d : Fin 1024) :
    product x w (ix2 r d) = times (fun e => x (ix2 r e)) (fun e d => w (ix2 e d)) d := by
  pointwise [product]
  rfl

/-- A normed lane. -/
theorem normed_at (x : FVec Ideal S65536x1024 .f32) (g : FVec Ideal S1024 .f32) (r : Fin 65536) (d : Fin 1024) :
    normed x g (ix2 r d) = norm (fun e => x (ix2 r e)) (fun e => g (ix1 e)) d := by
  pointwise [normed]
  rfl

/-- A query's lane. -/
theorem queries_at (q : FVec Ideal S65536x1024 .f32) (b : Fin 16) (i : Fin 4096) (h : Fin 4) (l : Fin 256) :
    queries q (ix4 b i h l) = q (ix2 (Fin.ofNat 65536 (4096 * b.val + i.val)) (Fin.ofNat 1024 (256 * h.val + l.val))) := by
  have hb := b.isLt
  have hi := i.isLt
  have hh := h.isLt
  have hl := l.isLt
  pointwise [queries]
  refine congrArg q (congrArg₂ ix2 (Fin.ext ?_) (Fin.ext ?_))
  · show b.val * 4096 + i.val = (4096 * b.val + i.val) % 65536
    omega
  · show h.val * 256 + l.val = (256 * h.val + l.val) % 1024
    omega

/-- A memory lane. -/
theorem memory_at (kv : FVec Ideal S4x16x256x2048 .f32) (b : Fin 16) (k : Fin 256) (e : Fin 2048) :
    memory kv (ix3 b k e) = kv (ix4 3 b k e) := by
  pointwise [memory]

/-- A key's lane. -/
theorem keys_at (kv : FVec Ideal S16x256x2048 .f32) (b : Fin 16) (k : Fin 256) (h : Fin 4) (l : Fin 256) :
    keys kv (ix4 b k h l) = kv (ix3 b k (Fin.ofNat 2048 (256 * h.val + l.val))) := by
  have hh := h.isLt
  have hl := l.isLt
  pointwise [keys]
  refine congrArg kv (congrArg (ix3 b k) (Fin.ext ?_))
  show h.val * 256 + l.val = (256 * h.val + l.val) % 2048
  omega

/-- A value's lane. -/
theorem values_at (kv : FVec Ideal S16x256x2048 .f32) (b : Fin 16) (k : Fin 256) (h : Fin 4) (l : Fin 256) :
    values kv (ix4 b k h l) = kv (ix3 b k (Fin.ofNat 2048 (1024 + (256 * h.val + l.val)))) := by
  have hh := h.isLt
  have hl := l.isLt
  pointwise [values]
  refine congrArg kv (congrArg (ix3 b k) (Fin.ext ?_))
  show 1024 + (h.val * 256 + l.val) = (1024 + (256 * h.val + l.val)) % 2048
  omega

/-- A score. -/
theorem scores_at (q : FVec Ideal S16x4096x4x256 .f32) (k : FVec Ideal S16x256x4x256 .f32) (b : Fin 16) (h : Fin 4) (i : Fin 4096) (j : Fin 256) :
    scores q k (ix4 b h i j) = (∑ l : Fin 256, q (ix4 b i h l) * k (ix4 b j h l)) * Ideal.ofBits FTy.f32 1031798784#32 := by
  pointwise [scores]

/-- The averages, laid again by rows of all heads. -/
theorem rows_at (v : FVec Ideal S16x256x4x256 .f32) (p : FVec Ideal S16x4x4096x256 .f32) (r : Fin 65536) (e : Fin 1024) :
    rows v p (ix2 r e) = ∑ j : Fin 256, v (ix4 (Fin.ofNat 16 (r.val / 4096)) j (Fin.ofNat 4 (e.val / 256)) (Fin.ofNat 256 e.val))
      * p (ix4 (Fin.ofNat 16 (r.val / 4096)) (Fin.ofNat 4 (e.val / 256)) (Fin.ofNat 4096 r.val) j) := by
  have hr := r.isLt
  have he := e.isLt
  have e0 : (⟨r.val / 4096, by omega⟩ : Fin 16) = Fin.ofNat 16 (r.val / 4096) := Fin.ext (Nat.mod_eq_of_lt (by omega)).symm
  have e1 : (⟨e.val / 256, by omega⟩ : Fin 4) = Fin.ofNat 4 (e.val / 256) := Fin.ext (Nat.mod_eq_of_lt (by omega)).symm
  rw [← e0, ← e1]
  pointwise [rows]
  rfl

/-- A maximum along the last of four axes is the largest of the line it runs over. -/
theorem largest_of_line {n0 n1 n2 n3 : ℕ} (x : FVec Ideal ⟨4, ![n0, n1, n2, n3]⟩ .f32) (z : FVec Ideal S_ .f32)
    (h : (⟨4, ![n0, n1, n2, n3]⟩ : Shape).ReducesTo [3] ⟨3, ![n0, n1, n2]⟩) (hp : 0 < S_.numel) (a : Fin n0) (b : Fin n1) (c : Fin n2) :
    Host.reduce FloatOps.maximumf x z h hp (ix3 a b c) = Finset.univ.fold max (z (Shape.Idx.first hp)) fun k => x (ix4 a b c k) := by
  pointwise

/-- The largest score of a row. -/
theorem largest_at (s : FVec Ideal S16x4x4096x256 .f32) (b : Fin 16) (h : Fin 4) (i : Fin 4096) :
    largest s (ix3 b h i) = Finset.univ.fold max (Ideal.ofBits FTy.f32 4286578688#32) fun j => s (ix4 b h i j) :=
  largest_of_line s _ _ _ b h i

/-- The exponentials of the scores less the row's number; the maximum with −∞ changes nothing. -/
theorem shifted_at (s : FVec Ideal S16x4x4096x256 .f32) (M : FVec Ideal S16x4x4096 .f32) (b : Fin 16) (h : Fin 4) (i : Fin 4096) (j : Fin 256) :
    shifted s M (ix4 b h i j) = Ideal.exp (s (ix4 b h i j) - M (ix3 b h i)) := by
  pointwise [shifted]
  rw [Cert.Attn.ofBits_neg_inf, max_eq_right bot_le]

/-- An exponential divided by the sum of its row. -/
theorem weights_at (e : FVec Ideal S16x4x4096x256 .f32) (b : Fin 16) (h : Fin 4) (i : Fin 4096) (j : Fin 256) :
    weights e (ix4 b h i j) = Ideal.div (e (ix4 b h i j)) (∑ x : Fin 256, e (ix4 b h i x)) := by
  pointwise [weights]

/-- The softmax gives each memory row its weight. -/
theorem softmax_at (s : FVec Ideal S16x4x4096x256 .f32) (b : Fin 16) (h : Fin 4) (i : Fin 4096) (j : Fin 256) :
    softmaxOf s (ix4 b h i j) = weight (fun j => s (ix4 b h i j)) j := by
  unfold softmaxOf weight
  rw [weights_at]
  simp only [shifted_at, largest_at]

/-- The word 1/16 is a nonnegative real number. -/
theorem sixteenth : Ideal.ofBits FTy.f32 1031798784#32 = ((1 / 16 : ℝ) : EReal) := by
  simp [Ideal.ofBits, Ideal.ieee]
  rw [← EReal.coe_mul]
  norm_num

/-- Scaling a query's lanes or its score is the same. -/
theorem scaled (q k : Fin 256 → EReal) :
    (∑ l, q l * k l) * Ideal.ofBits FTy.f32 1031798784#32 = ∑ l, q l * Ideal.ofBits FTy.f32 1031798784#32 * k l := by
  rw [sixteenth, mul_comm, Cert.Softmax.mul_sum _ (by norm_num)]
  exact Finset.sum_congr rfl fun l _ => by rw [← mul_assoc, mul_comm _ (q l)]

/-- The memory's part, at a row and a lane. -/
theorem read_at (s : FVec Ideal S65536x1024 .f32) (kv : FVec Ideal S4x16x256x2048 .f32) (g : FVec Ideal S1024 .f32) (wq : FVec Ideal S1024x1024 .f32)
    (r : Fin 65536) (e : Fin 1024) :
    rows (values (memory kv)) (softmaxOf (scores (queries (product (normed s g) wq)) (keys (memory kv)))) (ix2 r e)
      = cross (query (fun d => s (ix2 r d)) (fun e => g (ix1 e)) (fun e d => wq (ix2 e d)))
          (fun k e => kv (ix4 3 (Fin.ofNat 16 (r.val / 4096)) k e)) e.val := by
  have hr := r.isLt
  have he := e.isLt
  have e0 : (Fin.ofNat 16 (r.val / 4096)).val = r.val / 4096 := Nat.mod_eq_of_lt (by omega)
  have e1 : (Fin.ofNat 4 (e.val / 256)).val = e.val / 256 := Nat.mod_eq_of_lt (by omega)
  have e2 : Fin.ofNat 65536 (4096 * (Fin.ofNat 16 (r.val / 4096)).val + (Fin.ofNat 4096 r.val).val) = r := Fin.ext (by
    show (4096 * (Fin.ofNat 16 (r.val / 4096)).val + r.val % 4096) % 65536 = r.val
    omega)
  have e3 : 1024 + (256 * (Fin.ofNat 4 (e.val / 256)).val + (Fin.ofNat 256 e.val).val) = 1024 + e.val := by
    show 1024 + (256 * (Fin.ofNat 4 (e.val / 256)).val + e.val % 256) = _
    omega
  rw [rows_at]
  unfold cross
  refine Finset.sum_congr rfl fun j _ => ?_
  rw [values_at, memory_at, e3, softmax_at, mul_comm]
  refine congrArg (fun w : EReal => w * _) (congrFun (congrArg weight (funext fun k => ?_)) j)
  rw [scores_at, scaled]
  unfold score
  refine Finset.sum_congr rfl fun l _ => ?_
  rw [queries_at, keys_at, memory_at, e2, e1, product_at]
  unfold query
  simp only [normed_at]

/-- The merged stream, at a row and a lane. -/
theorem stream_at (h : FVec Ideal S65536x1024 .f32) (yf ym : FVec Ideal S65536x512 .f32) (gp : FVec Ideal S65536x2048 .f32) (b : FVec Ideal S2048 .f32)
    (wf wm : FVec Ideal S512x1024 .f32) (w : FVec Ideal S1024x1024 .f32) (r : Fin 65536) (d : Fin 1024) :
    streamOf h yf ym gp b wf wm w (ix2 r d)
      = stream (fun d => h (ix2 r d)) (merge (fun k => yf (ix2 r k)) (fun k => ym (ix2 r k)) (fun e => gp (ix2 r e)) (fun e => b (ix1 e))
          (fun k e => wf (ix2 k e)) (fun k e => wm (ix2 k e))) (fun e d => w (ix2 e d)) d := by
  show h (ix2 r d) + product _ w (ix2 r d) = _
  rw [product_at]
  simp only [merged_at]
  rfl

/-- **The reference's result**, lane by lane. -/
theorem res_at (c : Dev nD) (r : Fin 65536) (d : Fin 1024) : (res_out0 m c : FVec Ideal S65536x1024 .f32) (ix2 r d)
    = mix (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) r d := by
  rw [res_eq]
  unfold recalled mix recall
  show streamOf _ _ _ _ _ _ _ _ (ix2 r d) + product _ _ (ix2 r d) = _
  rw [product_at]
  simp only [read_at, stream_at]
  rfl

end Cert.Reference3Ideal.Mix
-- ==== Proof.Layer.Memory.lean ====
module

public import proofs.«01_k».proof.Proof.Layer.Rows

@[expose] public section

/-!
# The memory's keys and values

What every layer attends to: the memory's rows, normed with the layer's gain, times the layer's weights.
-/

noncomputable section

namespace Cert.Rows

open Idealize.ShloMosaic

/-- Lane `d` of row `r` of batch `b` for layer `l`: keys in the first 1024 lanes, values in the others. -/
def memoryLane (x : FVec Ideal ⟨3, ![16, 256, 1024]⟩ .f32) (g : FVec Ideal ⟨2, ![4, 1024]⟩ .f32) (w : FVec Ideal ⟨3, ![4, 1024, 2048]⟩ .f32)
    (l : Fin 4) (b : Fin 16) (r : Fin 256) (d : Fin 2048) : EReal :=
  ∑ e : Fin 1024, norm (fun e => x (ix3 b r e)) (fun e => g (ix2 l e)) e * w (ix3 l e d)

end Cert.Rows
-- ==== Proof.Layer.KvValue.lean ====
module

public import proofs.«01_k».proof.Proof.Gen.Kernel4Ideal.Value
public import proofs.«01_k».proof.Proof.Layer.Memory
public import Idealize.ShloMosaic.Lib.Pipeline.ValueKit
public import Idealize.ShloMosaic.Lib.StableHlo.RunRead

@[expose] public section

/-!
The memory's keys and values: one grid point's block, lane by lane, and the array from the blocks of the 64 points.
-/

set_option maxRecDepth 16384

noncomputable section

namespace Cert.Kernel4Ideal.Kv

open Idealize.ShloMosaic Idealize.ShloMosaic.TcCoe
open Cert.Kernel4Ideal Cert.Kernel4Ideal.Gen Cert.Rows

/-- The normed rows. -/
theorem normed_at (x : Vec Ideal S1x256x1024 .f32) (g : Vec Ideal S1x1x1024 .f32) (r : Fin 256) (e : Fin 1024) :
    k0_pay3 x g (ix2 r e) = norm (fun e => x (ix3 0 r e)) (fun e => g (ix3 0 0 e)) e := by
  pointwise [k0_pay3]
  rfl

/-- The third quarter of the lanes. -/
theorem third_at (n : FVec Ideal S256x1024 .bf16) (w : Vec Ideal S1x1024x512 .bf16) (r : Fin 256) (d : Fin 512) :
    k0_pay1 n w (ix4 0 0 r d) = ∑ e : Fin 1024, n (ix2 r e) * w (ix3 0 e d) := by
  pointwise [k0_pay1]

/-- The last quarter. -/
theorem last_at (n : FVec Ideal S256x1024 .bf16) (w : Vec Ideal S1x1024x512 .bf16) (r : Fin 256) (d : Fin 512) :
    k0_pay2 n w (ix4 0 0 r d) = ∑ e : Fin 1024, n (ix2 r e) * w (ix3 0 e d) := by
  pointwise [k0_pay2]

/-- The first quarter. -/
theorem first_at (x : Vec Ideal S1x256x1024 .f32) (g : Vec Ideal S1x1x1024 .f32) (w : Vec Ideal S1x1024x512 .bf16) (r : Fin 256) (d : Fin 512) :
    k0_pay4 x g w (ix4 0 0 r d) = ∑ e : Fin 1024, k0_pay3 x g (ix2 r e) * w (ix3 0 e d) := by
  pointwise [k0_pay4]

/-- The second quarter. -/
theorem second_at (x : Vec Ideal S1x256x1024 .f32) (g : Vec Ideal S1x1x1024 .f32) (w : Vec Ideal S1x1024x512 .bf16) (r : Fin 256) (d : Fin 512) :
    k0_pay5 x g w (ix4 0 0 r d) = ∑ e : Fin 1024, k0_pay3 x g (ix2 r e) * w (ix3 0 e d) := by
  pointwise [k0_pay5]

/-- A quarter, stored from lane `k` on, holds that part of the whole product. -/
theorem quarter (k : ℕ) (hk : k + 512 ≤ 2048) (w : Vec Ideal S1x1024x2048 .bf16)
    (inb : ∀ a, (![0, 0, k] : Fin 3 → ℕ) a + S1x1024x512.size a ≤ S1x1024x2048.size a) (n : FVec Ideal S256x1024 .bf16) (p : Vec Ideal S1x1x256x512 .bf16)
    (hp : ∀ (r : Fin 256) (d : Fin 512), p (ix4 0 0 r d) = ∑ e : Fin 1024, n (ix2 r e)
      * View.ld (Val := Elt Ideal) (e' := .bf16) w (Rect.unit (s := S1x1024x2048) ![0, 0, k] S1x1024x512.size inb) (ix3 0 e d))
    (r : Fin 256) (d : Fin 2048) :
    View.TileAt (Val := Elt Ideal) (e := .bf16) (S := S1x1x256x2048) (ix4 0 0 r d) ![0, 0, 0, k] S1x1x256x512.size p
      (∑ e : Fin 1024, n (ix2 r e) * w (ix3 0 e d)) := by
  intro x hx
  have h2 : r.val = 0 + (x 2).val := hx 2
  have h3 : d.val = k + (x 3).val := hx 3
  have x0 : x 0 = (0 : Fin 1) := Fin.ext (Nat.lt_one_iff.mp (x 0).isLt)
  have x1 : x 1 = (0 : Fin 1) := Fin.ext (Nat.lt_one_iff.mp (x 1).isLt)
  have x2 : x 2 = r := Fin.ext (by omega)
  refine (congrArg p ((eq_ix4 x).trans (by rw [x0, x1, x2]))).trans ((hp r (x 3)).trans (Finset.sum_congr rfl fun e _ => congrArg (n _ * ·) ?_))
  refine View.ld_unit_apply_of w _ _ inb _ _ fun a => ?_
  match a with
  | ⟨0, _⟩ => rfl
  | ⟨1, _⟩ => exact (Nat.zero_add _).symm
  | ⟨2, _⟩ => exact h3

/-- **What the body leaves**, lane by lane. -/
theorem block_at (x0 : Vec Ideal S1x256x1024 .f32) (x1 : Vec Ideal S1x1x1024 .f32) (x2 : Vec Ideal S1x1024x2048 .bf16) (r : Fin 256) (d : Fin 2048) :
    out0_3 x0 x1 x2 (ix4 0 0 r d) = ∑ e : Fin 1024, norm (fun e => x0 (ix3 0 r e)) (fun e => x1 (ix3 0 0 e)) e * x2 (ix3 0 e d) := by
  simp only [← normed_at]
  unfold out0_3 k0_pay6
  simp (disch := decide) only [View.ld_unit_lit']
  refine View.canon_eq_of_allAt _ _ _ (cover0_3 _ _ _ _ _) ?_
  refine View.allAt_cons_unit _ _ _ _ _ (quarter 1536 (by decide) x2 _ _ _ (last_at _ _) r d) ?_
  refine View.allAt_cons_unit _ _ _ _ _ (quarter 1024 (by decide) x2 _ _ _ (third_at _ _) r d) ?_
  refine View.allAt_cons_unit _ _ _ _ _ (quarter 512 (by decide) x2 _ _ _ (second_at _ _ _) r d) ?_
  refine View.allAt_cons_unit _ _ _ _ _ (quarter 0 (by decide) x2 _ _ _ (first_at _ _ _) r d) ?_
  exact View.allAt_nil _ _

variable (m : (ℓ : Loc nD τ sig) → Buf (Elt Ideal) ℓ)

/-- The weights as the call finds them: the cast changes nothing. -/
theorem entry_weights (c : Dev nD) : (V m c main_v1 : FVec Ideal S4x1024x2048 .bf16) = (m ((c : Thread nD τ).loc main_arg2) : FVec Ideal S4x1024x2048 .f32) := by
  show StableHlo.after hostOps0 _ (Proc.devRef .tc main_v1) = _
  after_reads_simp
  rfl

/-- The gains, each laid out as one row. -/
theorem entry_gain (c : Dev nD) : (V m c main_v0 : FVec Ideal S4x1x1024 .f32)
    = shapeCast S4x1x1024 (m ((c : Thread nD τ).loc main_arg1) : FVec Ideal S4x1024 .f32) shapeCasts_S4x1024_S4x1x1024 := by
  show StableHlo.after hostOps0 _ (Proc.devRef .tc main_v0) = _
  after_reads_simp
  rfl

/-- A gain's row, read. -/
theorem gain_at (g : FVec Ideal S4x1024 .f32) (l : Fin 4) (e : Fin 1024) :
    (shapeCast S4x1x1024 g shapeCasts_S4x1024_S4x1x1024 : FVec Ideal S4x1x1024 .f32) (ix3 l 0 e) = g (ix2 l e) := by
  pointwise

/-- The block each window takes at each point. -/
theorem idx : ∀ t : Fin cfg0.N, win0_0.index t = ![t.val % 16, 0, 0] ∧ win0_1.index t = ![t.val / 16, 0, 0] ∧ win0_2.index t = ![t.val / 16, 0, 0] ∧ win0_3.index t = ![t.val / 16, t.val % 16, 0, 0] :=
  (by decide +kernel : ∀ t : Fin grid0.N, _)

/-- The grid has 64 points. -/
theorem points (t : Fin cfg0.N) : t.val < 64 := t.isLt

/-- A point's layer. -/
def layer (t : Fin cfg0.N) : Fin 4 := ⟨t.val / 16, by have := points t; omega⟩

/-- A point's batch. -/
def batch (t : Fin cfg0.N) : Fin 16 := ⟨t.val % 16, by omega⟩

/-- The memory's rows of a point's batch. -/
theorem blk_rows (c : Dev nD) (t : Fin cfg0.N) (r : Fin 256) (e : Fin 1024) :
    (iblk m c 0 t : Vec Ideal S1x256x1024 .f32) (ix3 0 r e) = (m ((c : Thread nD τ).loc main_arg0) : FVec Ideal S16x256x1024 .f32) (ix3 (batch t) r e) := by
  refine Eq.trans ?_ (congrFun (V_main_arg0 m c) _)
  blk_ext [iblk, idx t, batch]

/-- The gain of a point's layer. -/
theorem blk_gain (c : Dev nD) (t : Fin cfg0.N) (e : Fin 1024) :
    (iblk m c 1 t : Vec Ideal S1x1x1024 .f32) (ix3 0 0 e) = (m ((c : Thread nD τ).loc main_arg1) : FVec Ideal S4x1024 .f32) (ix2 (layer t) e) := by
  refine Eq.trans ?_ ((congrFun (entry_gain m c) (ix3 (layer t) 0 e)).trans (gain_at _ _ e))
  blk_ext [iblk, idx t, layer]

/-- The weights of a point's layer. -/
theorem blk_weights (c : Dev nD) (t : Fin cfg0.N) (e : Fin 1024) (d : Fin 2048) :
    (iblk m c 2 t : Vec Ideal S1x1024x2048 .bf16) (ix3 0 e d) = (m ((c : Thread nD τ).loc main_arg2) : FVec Ideal S4x1024x2048 .f32) (ix3 (layer t) e d) := by
  refine Eq.trans ?_ (congrFun (entry_weights m c) _)
  blk_ext [iblk, idx t, layer]

/-- Every layer's keys and values, as an array. -/
def result (x : FVec Ideal S16x256x1024 .f32) (g : FVec Ideal S4x1024 .f32) (w : FVec Ideal S4x1024x2048 .f32) : FVec Ideal S4x16x256x2048 .bf16 :=
  fun i => memoryLane x g w (i 0) (i 1) (i 2) (i 3)

/-- What a point writes. -/
theorem point_at (c : Dev nD) (t : Fin cfg0.N) (r : Fin 256) (d : Fin 2048) :
    out0_3 (iblk m c 0 t) (iblk m c 1 t) (iblk m c 2 t) (ix4 0 0 r d)
      = memoryLane (m ((c : Thread nD τ).loc main_arg0)) (m ((c : Thread nD τ).loc main_arg1)) (m ((c : Thread nD τ).loc main_arg2)) (layer t) (batch t) r d := by
  rw [block_at]
  simp only [blk_rows, blk_gain, blk_weights]
  rfl

/-- **The call's result.** -/
theorem array_eq (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have y0 : y 0 = (0 : Fin 1) := Fin.ext (Nat.lt_one_iff.mp (y 0).isLt)
  have y1 : y 1 = (0 : Fin 1) := Fin.ext (Nat.lt_one_iff.mp (y 1).isLt)
  refine (congrArg _ ((eq_ix4 y).trans (by rw [y0, y1]))).trans ((point_at m c t (y 2) (y 3)).trans ?_)
  unfold result
  have e0 : (y 0).val = 0 := Nat.lt_one_iff.mp (y 0).isLt
  have e1 : (y 1).val = 0 := Nat.lt_one_iff.mp (y 1).isLt
  congr 1 <;> (refine Fin.ext ?_; blk_simp [idx t, layer, batch]; try simp; try omega)

end Cert.Kernel4Ideal.Kv
-- ==== Proof.Layer.KvReference.lean ====
module

public import proofs.«01_k».proof.Proof.Gen.Reference4Ideal.Run
public import proofs.«01_k».proof.Proof.Layer.Memory
public import proofs.«01_k».proof.Proof.Fox.Spec

@[expose] public section

/-!
What the reference of the memory's keys and values computes, lane by lane.
-/

set_option maxRecDepth 16384

noncomputable section

namespace Cert.Reference4Ideal.Kv

open Idealize.ShloMosaic Idealize.ShloMosaic.TcCoe
open Cert.Reference4Ideal Cert.Reference4Ideal.Gen Cert.Reference4Ideal.Value Cert.Rows

/-- The memory's rows, with an axis for the layers. -/
def spread (x : FVec Ideal S16x256x1024 .f32) : FVec Ideal S1x16x256x1024 .f32 :=
  broadcastInDim S1x16x256x1024 ![1, 2, 3] bcast_S16x256x1024_S1x16x256x1024_1_2_3 x

/-- The rows by their root mean squares. -/
def unit (x : FVec Ideal S1x16x256x1024 .f32) : FVec Ideal S1x16x256x1024 .f32 :=
  mulf x (broadcastInDim S1x16x256x1024 ![0, 1, 2, 3] bcast_S1x16x256x1_S1x16x256x1024_0_1_2_3 (Host.rsqrt (addf (Host.divf (broadcastInDim S1x16x256x1 ![0, 1, 2] bcast_S1x16x256_S1x16x256x1_0_1_2 (Host.reduceAdd (mulf x x) (constant S_ .f32 0x00000000#32) reducesTo_S1x16x256x1024_S1x16x256_d3 h_S_)) (broadcastInDim S1x16x256x1 ![] bcast_S_S1x16x256x1 (constant S_ .f32 0x44800000#32))) (broadcastInDim S1x16x256x1 ![] bcast_S_S1x16x256x1 (constant S_ .f32 0x358637BD#32)))))

/-- Every layer's normed rows. -/
def normed (x : FVec Ideal S16x256x1024 .f32) (g : FVec Ideal S4x1024 .f32) : FVec Ideal S4x16x256x1024 .f32 :=
  mulf (broadcastInDim S4x16x256x1024 ![0, 1, 2, 3] bcast_S1x16x256x1024_S4x16x256x1024_0_1_2_3 (unit (spread x)))
    (broadcastInDim S4x16x256x1024 ![0, 1, 2, 3] bcast_S4x1x1x1024_S4x16x256x1024_0_1_2_3 (broadcastInDim S4x1x1x1024 ![0, 3] bcast_S4x1024_S4x1x1x1024_0_3 g))

/-- Every layer's keys and values. -/
def projected (x : FVec Ideal S16x256x1024 .f32) (g : FVec Ideal S4x1024 .f32) (w : FVec Ideal S4x1024x2048 .f32) : FVec Ideal S4x16x256x2048 .bf16 :=
  truncf .bf16 (Host.dotGeneral dot_S4x16x256x1024_S4x1024x2048_S4x16x256x2048_3_1_12_2_0_0 none (normed x g) w) bitsLt_bf16_f32

/-- A row by its root mean square. -/
theorem unit_at (x : FVec Ideal S16x256x1024 .f32) (b : Fin 16) (r : Fin 256) (e : Fin 1024) :
    unit (spread x) (ix4 0 b r e) = x (ix3 b r e)
      * Ideal.rsqrt (Ideal.div (∑ e, x (ix3 b r e) * x (ix3 b r e)) (Ideal.ofBits FTy.f32 1149239296#32) + Ideal.ofBits FTy.f32 897988541#32) := by
  pointwise [unit, spread]

/-- A normed lane. -/
theorem normed_at (x : FVec Ideal S16x256x1024 .f32) (g : FVec Ideal S4x1024 .f32) (l : Fin 4) (b : Fin 16) (r : Fin 256) (e : Fin 1024) :
    normed x g (ix4 l b r e) = norm (fun e => x (ix3 b r e)) (fun e => g (ix2 l e)) e := by
  unfold Cert.Rows.norm
  rw [← unit_at]
  pointwise [normed]

/-- **The reference's result**, lane by lane. -/
theorem projected_at (x : FVec Ideal S16x256x1024 .f32) (g : FVec Ideal S4x1024 .f32) (w : FVec Ideal S4x1024x2048 .f32)
    (l : Fin 4) (b : Fin 16) (r : Fin 256) (d : Fin 2048) : projected x g w (ix4 l b r d) = memoryLane x g w l b r d := by
  have key : projected x g w (ix4 l b r d) = ∑ e : Fin 1024, normed x g (ix4 l b r e) * w (ix3 l e d) := by
    pointwise [projected]
  rw [key]
  unfold memoryLane
  simp only [normed_at]

end Cert.Reference4Ideal.Kv
-- ==== Proof.Layer.Project.lean ====
module

public import proofs.«01_k».proof.Proof.Layer.Cross

@[expose] public section

/-!
# The input projection

What the layer does to the rows that enter it: the norm, the product with the wide weights, the causal convolution over
four rows of a sequence, and the three results laid side by side. Rows and lanes are numbered by natural numbers.
-/

noncomputable section

namespace Cert.Rows

open Idealize.ShloMosaic

variable (h : FVec Ideal ⟨2, ![65536, 1024]⟩ .f32) (g : FVec Ideal ⟨1, ![1024]⟩ .f32) (w : FVec Ideal ⟨2, ![1024, 5648]⟩ .f32)
  (cw : FVec Ideal ⟨2, ![4, 1024]⟩ .f32) (cb : FVec Ideal ⟨1, ![1024]⟩ .f32)

/-- Lane `c` of the projection of row `r`. -/
def lane (r c : ℕ) : EReal :=
  ∑ e : Fin 1024, norm (fun e => h (ix2 (Fin.ofNat 65536 r) e)) (fun e => g (ix1 e)) e * w (ix2 e (Fin.ofNat 5648 c))

/-- The row the convolution's tap `k` reads at row `r`: the one `3 - k` before it, and zero before the sequence starts. -/
def tap (r k d : ℕ) : EReal := if r % 4096 + k < 3 then 0 else lane h g w (r + k - 3) (1544 + d)

/-- Four products added to a bias, one after the other. -/
def fourTaps (b c0 u0 c1 u1 c2 u2 c3 u3 : EReal) : EReal := b + c0 * u0 + c1 * u1 + c2 * u2 + c3 * u3

/-- The causal convolution. -/
def conv (r d : ℕ) : EReal :=
  fourTaps (cb (ix1 (Fin.ofNat 1024 d))) (cw (ix2 0 (Fin.ofNat 1024 d))) (tap h g w r 0 d) (cw (ix2 1 (Fin.ofNat 1024 d))) (tap h g w r 1 d)
    (cw (ix2 2 (Fin.ofNat 1024 d))) (tap h g w r 2 d) (cw (ix2 3 (Fin.ofNat 1024 d))) (tap h g w r 3 d)

/-- A number by its logistic. -/
def silu (x : EReal) : EReal := x * logistic x

/-- The queries, keys and values of the attention: the queries by an eighth. -/
def foxLane (r j : ℕ) : EReal :=
  if j < 512 then lane h g w r j * Ideal.ofBits FTy.f32 1040187392#32 else lane h g w r j

/-- The queries, keys, values and output gate of the memory cell: the keys by the root of a 128th. -/
def cellLane (r j : ℕ) : EReal :=
  if j < 512 then silu (conv h g w cw cb r j)
  else if j < 1024 then silu (conv h g w cw cb r j) * Ideal.ofBits FTy.f32 1035273459#32
  else lane h g w r (1544 + j)

end Cert.Rows
-- ==== Proof.Layer.InprojBlock.lean ====
module

public import proofs.«01_k».proof.Proof.Gen.Kernel5Ideal.Value
public import proofs.«01_k».proof.Proof.Layer.Project
public import Idealize.ShloMosaic.Lib.Pipeline.ValueKit
public import Idealize.ShloMosaic.Lib.Pipeline.ReadBack
public import Idealize.ShloMosaic.Lib.WritesUnit

@[expose] public section

/-!
One block of 512 rows of the input projection: what the body leaves, lane by lane. Rows 8 to 519 of the scratch hold
the block's rows for the convolution, and rows 0 to 7 hold the last eight of the block before it.
-/

set_option maxRecDepth 16384

noncomputable section

namespace Cert.Kernel5Ideal.Inproj

open Idealize.ShloMosaic Idealize.ShloMosaic.TcCoe
open Cert.Kernel5Ideal Cert.Kernel5Ideal.Gen Cert.Rows

/-- A normed row. -/
theorem normed_at (x : Vec Ideal S512x1024 .f32) (g : Vec Ideal S1x1024 .f32) (r : Fin 512) (d : Fin 1024) :
    k0_pay5 x g (ix2 r d) = norm (fun e => x (ix2 r e)) (fun e => g (ix2 0 e)) d := by
  pointwise [k0_pay5]
  rfl

/-- The first result's block: rows times 1536 lanes of weights. -/
theorem wide_at (n : Vec Ideal S512x1024 .bf16) (w : Vec Ideal S1024x1536 .bf16) (r : Fin 512) (j : Fin 1536) :
    k0_pay34 n w (ix2 r j) = ∑ e : Fin 1024, n (ix2 r e) * w (ix2 e j) := by
  pointwise [k0_pay34]

/-- Rows times the first 512 lanes of the convolved weights. -/
theorem left_at (n : Vec Ideal S512x1024 .bf16) (w : Vec Ideal S1024x512 .bf16) (r : Fin 512) (j : Fin 512) :
    k0_pay35 n w (ix2 r j) = ∑ e : Fin 1024, n (ix2 r e) * w (ix2 e j) := by
  pointwise [k0_pay35]

/-- Rows times the other 512 lanes. -/
theorem right_at (n : Vec Ideal S512x1024 .bf16) (w : Vec Ideal S1024x512 .bf16) (r : Fin 512) (j : Fin 512) :
    k0_pay36 n w (ix2 r j) = ∑ e : Fin 1024, n (ix2 r e) * w (ix2 e j) := by
  pointwise [k0_pay36]

/-- Rows times the memory cell's values and output gate. -/
theorem plain_at (n : Vec Ideal S512x1024 .bf16) (w : Vec Ideal S1024x1024 .bf16) (r : Fin 512) (j : Fin 1024) :
    k0_pay49 n w (ix2 r j) = ∑ e : Fin 1024, n (ix2 r e) * w (ix2 e j) := by
  pointwise [k0_pay49]

/-- Rows times the first gate's weights. -/
theorem gate_at (n : Vec Ideal S512x1024 .bf16) (w : Vec Ideal S1024x1024 .bf16) (r : Fin 512) (j : Fin 1024) :
    k0_pay50 n w (ix2 r j) = ∑ e : Fin 1024, n (ix2 r e) * w (ix2 e j) := by
  pointwise [k0_pay50]

/-- Rows times the second gate's weights. -/
theorem gate'_at (n : Vec Ideal S512x1024 .bf16) (w : Vec Ideal S1024x1024 .bf16) (r : Fin 512) (j : Fin 1024) :
    k0_pay1 n (k0_pay51 w) (ix2 r j) = ∑ e : Fin 1024, n (ix2 r e) * w (ix2 e j) := by
  pointwise [k0_pay1, k0_pay51]

/-- The rows before a sequence's first are zero. -/
theorem zero_at (r : Fin 8) (d : Fin 1024) : k0_pay2 (F := Ideal) (ix2 r d) = 0 := by
  pointwise [k0_pay2]

/-- The rows kept for the next block. -/
theorem kept_at (x : Vec Ideal S8x1024 .f32) : k0_pay48 x = x := by
  funext y
  pointwise [k0_pay48]

/-- The convolved queries. -/
theorem convq_at (b c0 : Vec Ideal S1x512 .f32) (u0 : Vec Ideal S512x512 .f32) (c1 : Vec Ideal S1x512 .f32) (u1 : Vec Ideal S512x512 .f32)
    (c2 : Vec Ideal S1x512 .f32) (u2 : Vec Ideal S512x512 .f32) (c3 : Vec Ideal S1x512 .f32) (u3 : Vec Ideal S512x512 .f32) (r d : Fin 512) :
    k0_pay44 (k0_pay42 b c0 u0 c1 u1 c2 u2) (k0_pay43 c3 u3) (ix2 r d)
      = silu (fourTaps (b (ix2 0 d)) (c0 (ix2 0 d)) (u0 (ix2 r d)) (c1 (ix2 0 d)) (u1 (ix2 r d)) (c2 (ix2 0 d)) (u2 (ix2 r d))
          (c3 (ix2 0 d)) (u3 (ix2 r d))) := by
  pointwise [k0_pay44, k0_pay42, k0_pay43]
  rw [zero_sub]
  rfl

/-- The convolved keys, by the root of a 128th. -/
theorem convk_at (b c0 : Vec Ideal S1x512 .f32) (u0 : Vec Ideal S512x512 .f32) (c1 : Vec Ideal S1x512 .f32) (u1 : Vec Ideal S512x512 .f32)
    (c2 : Vec Ideal S1x512 .f32) (u2 : Vec Ideal S512x512 .f32) (c3 : Vec Ideal S1x512 .f32) (u3 : Vec Ideal S512x512 .f32) (r d : Fin 512) :
    k0_pay47 (k0_pay45 b c0 u0 c1 u1 c2 u2 c3 u3) k0_pay46 (ix2 r d)
      = silu (fourTaps (b (ix2 0 d)) (c0 (ix2 0 d)) (u0 (ix2 r d)) (c1 (ix2 0 d)) (u1 (ix2 r d)) (c2 (ix2 0 d)) (u2 (ix2 r d))
          (c3 (ix2 0 d)) (u3 (ix2 r d))) * Ideal.ofBits FTy.f32 1035273459#32 := by
  pointwise [k0_pay47, k0_pay45, k0_pay46]
  rw [zero_sub]
  rfl

/-- The scratch after the block's rows are stored in two halves: rows 8 on are the block's, the first eight are as before. -/
theorem stored_at (v : View sig .tc .vmem S520x1024 .f32) (f : v.ty.Contents (Elt Ideal)) (L : List (View.Piece (Elt Ideal) S520x1024 .f32))
    (p q : Vec Ideal S512x512 .f32) (r : Fin 520) (d : Fin 1024) :
    v.read (Elt Ideal) (v.writes (Elt Ideal) f
        (⟨Rect.unit ![8, 512] ![512, 512] inb_S520x1024_S512x512_8_512, q⟩ :: ⟨Rect.unit ![8, 0] ![512, 512] inb_S520x1024_S512x512_8_0, p⟩ :: L)) (ix2 r d)
      = if r.val < 8 then v.read (Elt Ideal) (v.writes (Elt Ideal) f L) (ix2 r d)
        else if d.val < 512 then p (ix2 (Fin.ofNat 512 (r.val - 8)) (Fin.ofNat 512 d.val))
        else q (ix2 (Fin.ofNat 512 (r.val - 8)) (Fin.ofNat 512 (d.val - 512))) := by
  have hr := r.isLt
  have hd := d.isLt
  by_cases h8 : r.val < 8
  · rw [if_pos h8, View.read_writes_cons_unit_of_not_mem v f _ _ _ _ rfl 0 (.inl h8),
      View.read_writes_cons_unit_of_not_mem v f _ _ _ _ rfl 0 (.inl h8)]
  rw [if_neg h8]
  have er : (Fin.ofNat 512 (r.val - 8)).val = r.val - 8 := Nat.mod_eq_of_lt (by omega)
  by_cases h5 : d.val < 512
  · rw [if_pos h5, View.read_writes_cons_unit_of_not_mem v f _ _ _ _ rfl 1 (.inl h5)]
    refine View.read_writes_cons_unit_of_mem v f _ _ _ _ (ix2 (Fin.ofNat 512 (r.val - 8)) (Fin.ofNat 512 d.val)) rfl fun a => ?_
    match a with
    | ⟨0, _⟩ => show r.val = 8 + (Fin.ofNat 512 (r.val - 8)).val; omega
    | ⟨1, _⟩ => show d.val = 0 + (Fin.ofNat 512 d.val).val; rw [show (Fin.ofNat 512 d.val).val = d.val from Nat.mod_eq_of_lt h5]; omega
  · rw [if_neg h5]
    refine View.read_writes_cons_unit_of_mem v f _ _ _ _ (ix2 (Fin.ofNat 512 (r.val - 8)) (Fin.ofNat 512 (d.val - 512))) rfl fun a => ?_
    match a with
    | ⟨0, _⟩ => show r.val = 8 + (Fin.ofNat 512 (r.val - 8)).val; omega
    | ⟨1, _⟩ =>
      show d.val = 512 + (Fin.ofNat 512 (d.val - 512)).val
      rw [show (Fin.ofNat 512 (d.val - 512)).val = d.val - 512 from Nat.mod_eq_of_lt (by omega)]; omega

/-- The memory cell's block, stored in three parts. -/
theorem parts_at (v : View sig .tc .vmem S512x2048 .bf16) (f : v.ty.Contents (Elt Ideal))
    (a : Vec Ideal S512x1024 .bf16) (k q : Vec Ideal S512x512 .bf16) (r : Fin 512) (j : Fin 2048) :
    v.read (Elt Ideal) (v.writes (Elt Ideal) f
        [⟨Rect.unit ![0, 1024] ![512, 1024] inb_S512x2048_S512x1024_0_1024, a⟩, ⟨Rect.unit ![0, 512] ![512, 512] inb_S512x2048_S512x512_0_512, k⟩,
          ⟨Rect.unit ![0, 0] ![512, 512] inb_S512x2048_S512x512_0_0, q⟩]) (ix2 r j)
      = if j.val < 512 then q (ix2 r (Fin.ofNat 512 j.val)) else if j.val < 1024 then k (ix2 r (Fin.ofNat 512 (j.val - 512)))
        else a (ix2 r (Fin.ofNat 1024 (j.val - 1024))) := by
  have hj := j.isLt
  by_cases h5 : j.val < 512
  · rw [if_pos h5, View.read_writes_cons_unit_of_not_mem v f _ _ _ _ rfl 1 (.inl (show j.val < 1024 by omega)),
      View.read_writes_cons_unit_of_not_mem v f _ _ _ _ rfl 1 (.inl h5)]
    refine View.read_writes_cons_unit_of_mem v f _ _ _ _ (ix2 r (Fin.ofNat 512 j.val)) rfl fun a => ?_
    match a with
    | ⟨0, _⟩ => exact (Nat.zero_add _).symm
    | ⟨1, _⟩ => show j.val = 0 + (Fin.ofNat 512 j.val).val; rw [show (Fin.ofNat 512 j.val).val = j.val from Nat.mod_eq_of_lt h5]; omega
  rw [if_neg h5]
  by_cases h1 : j.val < 1024
  · rw [if_pos h1, View.read_writes_cons_unit_of_not_mem v f _ _ _ _ rfl 1 (.inl h1)]
    refine View.read_writes_cons_unit_of_mem v f _ _ _ _ (ix2 r (Fin.ofNat 512 (j.val - 512))) rfl fun a => ?_
    match a with
    | ⟨0, _⟩ => exact (Nat.zero_add _).symm
    | ⟨1, _⟩ =>
      show j.val = 512 + (Fin.ofNat 512 (j.val - 512)).val
      rw [show (Fin.ofNat 512 (j.val - 512)).val = j.val - 512 from Nat.mod_eq_of_lt (by omega)]; omega
  · rw [if_neg h1]
    refine View.read_writes_cons_unit_of_mem v f _ _ _ _ (ix2 r (Fin.ofNat 1024 (j.val - 1024))) rfl fun a => ?_
    match a with
    | ⟨0, _⟩ => exact (Nat.zero_add _).symm
    | ⟨1, _⟩ =>
      show j.val = 1024 + (Fin.ofNat 1024 (j.val - 1024)).val
      rw [show (Fin.ofNat 1024 (j.val - 1024)).val = j.val - 1024 from Nat.mod_eq_of_lt (by omega)]; omega

/-- The gates' block, stored in two halves. -/
theorem halves_at (v : View sig .tc .vmem S512x2048 .bf16) (f : v.ty.Contents (Elt Ideal))
    (b a : Vec Ideal S512x1024 .bf16) (r : Fin 512) (j : Fin 2048) :
    v.read (Elt Ideal) (v.writes (Elt Ideal) f
        [⟨Rect.unit ![0, 1024] ![512, 1024] inb_S512x2048_S512x1024_0_1024, b⟩, ⟨Rect.unit ![0, 0] ![512, 1024] inb_S512x2048_S512x1024_0_0, a⟩]) (ix2 r j)
      = if j.val < 1024 then a (ix2 r (Fin.ofNat 1024 j.val)) else b (ix2 r (Fin.ofNat 1024 (j.val - 1024))) := by
  have hj := j.isLt
  by_cases h1 : j.val < 1024
  · rw [if_pos h1, View.read_writes_cons_unit_of_not_mem v f _ _ _ _ rfl 1 (.inl h1)]
    refine View.read_writes_cons_unit_of_mem v f _ _ _ _ (ix2 r (Fin.ofNat 1024 j.val)) rfl fun a => ?_
    match a with
    | ⟨0, _⟩ => exact (Nat.zero_add _).symm
    | ⟨1, _⟩ => show j.val = 0 + (Fin.ofNat 1024 j.val).val; rw [show (Fin.ofNat 1024 j.val).val = j.val from Nat.mod_eq_of_lt h1]; omega
  · rw [if_neg h1]
    refine View.read_writes_cons_unit_of_mem v f _ _ _ _ (ix2 r (Fin.ofNat 1024 (j.val - 1024))) rfl fun a => ?_
    match a with
    | ⟨0, _⟩ => exact (Nat.zero_add _).symm
    | ⟨1, _⟩ =>
      show j.val = 1024 + (Fin.ofNat 1024 (j.val - 1024)).val
      rw [show (Fin.ofNat 1024 (j.val - 1024)).val = j.val - 1024 from Nat.mod_eq_of_lt (by omega)]; omega

/-- A load of 512 lanes of one row of the taps' weights. -/
theorem ld_weights (x : Vec Ideal S4x1024 .f32) (k o : ℕ) (inb : ∀ a, (![k, o] : Fin 2 → ℕ) a + (![1, 512] : Fin 2 → ℕ) a ≤ S4x1024.size a) (d : Fin 512) :
    View.ld (Val := Elt Ideal) (e' := .f32) x (Rect.unit (s := S4x1024) ![k, o] ![1, 512] inb) (ix2 0 d) = x (ix2 (Fin.ofNat 4 k) (Fin.ofNat 1024 (o + d.val))) := by
  have h0 := inb 0
  have h1 := inb 1
  simp at h0 h1
  refine View.ld_unit_apply_of _ _ _ _ _ _ fun a => ?_
  match a with
  | ⟨0, _⟩ => exact Nat.mod_eq_of_lt (by omega)
  | ⟨1, _⟩ => exact Nat.mod_eq_of_lt (by omega)

/-- A load of 512 lanes of the bias. -/
theorem ld_bias (x : Vec Ideal S1x1024 .f32) (o : ℕ) (inb : ∀ a, (![0, o] : Fin 2 → ℕ) a + (![1, 512] : Fin 2 → ℕ) a ≤ S1x1024.size a) (d : Fin 512) :
    View.ld (Val := Elt Ideal) (e' := .f32) x (Rect.unit (s := S1x1024) ![0, o] ![1, 512] inb) (ix2 0 d) = x (ix2 0 (Fin.ofNat 1024 (o + d.val))) := by
  have h1 := inb 1
  simp at h1
  refine View.ld_unit_apply_of _ _ _ _ _ _ fun a => ?_
  match a with
  | ⟨0, _⟩ => rfl
  | ⟨1, _⟩ => exact Nat.mod_eq_of_lt (by omega)

/-- A load of 512 lanes of the weights. -/
theorem ld_half (x : Vec Ideal S1024x2048 .bf16) (o : ℕ) (inb : ∀ a, (![0, o] : Fin 2 → ℕ) a + (![1024, 512] : Fin 2 → ℕ) a ≤ S1024x2048.size a) (e : Fin 1024) (d : Fin 512) :
    View.ld (Val := Elt Ideal) (e' := .bf16) x (Rect.unit (s := S1024x2048) ![0, o] ![1024, 512] inb) (ix2 e d) = x (ix2 e (Fin.ofNat 2048 (o + d.val))) := by
  have h1 := inb 1
  simp at h1
  refine View.ld_unit_apply_of _ _ _ _ _ _ fun a => ?_
  match a with
  | ⟨0, _⟩ => exact (Nat.zero_add _).symm
  | ⟨1, _⟩ => exact Nat.mod_eq_of_lt (by omega)

/-- A load of 1024 lanes of the weights. -/
theorem ld_whole (x : Vec Ideal S1024x2048 .bf16) (o : ℕ) (inb : ∀ a, (![0, o] : Fin 2 → ℕ) a + (![1024, 1024] : Fin 2 → ℕ) a ≤ S1024x2048.size a) (e : Fin 1024) (d : Fin 1024) :
    View.ld (Val := Elt Ideal) (e' := .bf16) x (Rect.unit (s := S1024x2048) ![0, o] ![1024, 1024] inb) (ix2 e d) = x (ix2 e (Fin.ofNat 2048 (o + d.val))) := by
  have h1 := inb 1
  simp at h1
  refine View.ld_unit_apply_of _ _ _ _ _ _ fun a => ?_
  match a with
  | ⟨0, _⟩ => exact (Nat.zero_add _).symm
  | ⟨1, _⟩ => exact Nat.mod_eq_of_lt (by omega)

/-- A load of 512 rows and 512 lanes of the scratch. -/
theorem ld_tap (x : Vec Ideal S520x1024 .f32) (k o : ℕ) (inb : ∀ a, (![k, o] : Fin 2 → ℕ) a + (![512, 512] : Fin 2 → ℕ) a ≤ S520x1024.size a) (r d : Fin 512) :
    View.ld (Val := Elt Ideal) (e' := .f32) x (Rect.unit (s := S520x1024) ![k, o] ![512, 512] inb) (ix2 r d)
      = x (ix2 (Fin.ofNat 520 (k + r.val)) (Fin.ofNat 1024 (o + d.val))) := by
  have h0 := inb 0
  have h1 := inb 1
  simp at h0 h1
  refine View.ld_unit_apply_of _ _ _ _ _ _ fun a => ?_
  match a with
  | ⟨0, _⟩ => exact Nat.mod_eq_of_lt (by omega)
  | ⟨1, _⟩ => exact Nat.mod_eq_of_lt (by omega)

/-- A load after stores, as a load of what they leave. -/
theorem readCov_ld {S : Shape} {e : EltTy} (v : View sig .tc .vmem S e) (L : List (View.Piece (Elt Ideal) S e)) (r : Rect S) :
    v.readCov L r.toLoadRect = View.ld (v.read (Elt Ideal) (v.writes (Elt Ideal) v.junk L)) r := rfl

end Cert.Kernel5Ideal.Inproj
-- ==== Proof.Layer.InprojPoint.lean ====
module

public import proofs.«01_k».proof.Proof.Layer.InprojBlock

@[expose] public section

/-!
What one grid point of the input projection leaves in its three blocks and in the rows it keeps for the next point.
-/

set_option maxRecDepth 16384

noncomputable section

namespace Cert.Kernel5Ideal.Inproj

open Idealize.ShloMosaic Idealize.ShloMosaic.TcCoe
open Cert.Kernel5Ideal Cert.Kernel5Ideal.Gen Cert.Rows

/-- Row `r`, lane `d` of normed rows times the cell's weights. -/
def part (n : Vec Ideal S512x1024 .bf16) (w : Vec Ideal S1024x2048 .bf16) (r d : ℕ) : EReal :=
  ∑ e : Fin 1024, n (ix2 (Fin.ofNat 512 r) e) * w (ix2 e (Fin.ofNat 2048 d))

/-- What a tap loads: a row of the block, or one of the eight rows `B` kept before it. -/
def pick (B : ℕ → ℕ → EReal) (n : Vec Ideal S512x1024 .bf16) (w : Vec Ideal S1024x2048 .bf16) (r d : ℕ) : EReal :=
  if r < 8 then B r d else part n w (r - 8) d

/-- The scratch after the block's rows are stored, read anywhere. -/
theorem scratch_at (v : View sig .tc .vmem S520x1024 .f32) (f : v.ty.Contents (Elt Ideal)) (L : List (View.Piece (Elt Ideal) S520x1024 .f32))
    (B : ℕ → ℕ → EReal) (n : Vec Ideal S512x1024 .bf16) (w : Vec Ideal S1024x2048 .bf16) (r : Fin 520) (d : Fin 1024)
    (hB : r.val < 8 → v.read (Elt Ideal) (v.writes (Elt Ideal) f L) (ix2 r d) = B r.val d.val) :
    v.read (Elt Ideal) (v.writes (Elt Ideal) f
        (⟨Rect.unit ![8, 512] ![512, 512] inb_S520x1024_S512x512_8_512,
            k0_pay36 n (View.ld (Val := Elt Ideal) (e' := .bf16) w (Rect.unit (s := S1024x2048) ![0, 512] ![1024, 512] inb_S1024x2048_S1024x512_0_512))⟩
          :: ⟨Rect.unit ![8, 0] ![512, 512] inb_S520x1024_S512x512_8_0,
            k0_pay35 n (View.ld (Val := Elt Ideal) (e' := .bf16) w (Rect.unit (s := S1024x2048) ![0, 0] ![1024, 512] inb_S1024x2048_S1024x512_0_0))⟩ :: L)) (ix2 r d)
      = pick B n w r.val d.val := by
  have hd := d.isLt
  rw [stored_at]
  unfold pick
  by_cases h8 : r.val < 8
  · rw [if_pos h8, if_pos h8, hB h8]
  rw [if_neg h8, if_neg h8]
  by_cases h5 : d.val < 512
  · rw [if_pos h5]
    refine (left_at _ _ _ _).trans ((Finset.sum_congr rfl fun e _ => congrArg (n _ * ·) (ld_half w 0 _ e _)).trans ?_)
    rw [show (Fin.ofNat 512 d.val).val = d.val from Nat.mod_eq_of_lt h5, Nat.zero_add]
    rfl
  · rw [if_neg h5]
    refine (right_at _ _ _ _).trans ((Finset.sum_congr rfl fun e _ => congrArg (n _ * ·) (ld_half w 512 _ e _)).trans ?_)
    rw [show (Fin.ofNat 512 (d.val - 512)).val = d.val - 512 from Nat.mod_eq_of_lt (by omega), show 512 + (d.val - 512) = d.val by omega]
    rfl

/-- What a tap loads. -/
theorem tap_at (v : View sig .tc .vmem S520x1024 .f32) (f : v.ty.Contents (Elt Ideal)) (L : List (View.Piece (Elt Ideal) S520x1024 .f32))
    (B : ℕ → ℕ → EReal) (n : Vec Ideal S512x1024 .bf16) (w : Vec Ideal S1024x2048 .bf16) (k o : ℕ)
    (inb : ∀ a, (![k, o] : Fin 2 → ℕ) a + (![512, 512] : Fin 2 → ℕ) a ≤ S520x1024.size a) (r d : Fin 512)
    (hB : ∀ (r : Fin 520) (d : Fin 1024), k ≤ r.val → r.val < 8 → v.read (Elt Ideal) (v.writes (Elt Ideal) f L) (ix2 r d) = B r.val d.val) :
    View.ld (Val := Elt Ideal) (e' := .f32) (v.read (Elt Ideal) (v.writes (Elt Ideal) f
        (⟨Rect.unit ![8, 512] ![512, 512] inb_S520x1024_S512x512_8_512,
            k0_pay36 n (View.ld (Val := Elt Ideal) (e' := .bf16) w (Rect.unit (s := S1024x2048) ![0, 512] ![1024, 512] inb_S1024x2048_S1024x512_0_512))⟩
          :: ⟨Rect.unit ![8, 0] ![512, 512] inb_S520x1024_S512x512_8_0,
            k0_pay35 n (View.ld (Val := Elt Ideal) (e' := .bf16) w (Rect.unit (s := S1024x2048) ![0, 0] ![1024, 512] inb_S1024x2048_S1024x512_0_0))⟩ :: L)))
        (Rect.unit (s := S520x1024) ![k, o] ![512, 512] inb) (ix2 r d)
      = pick B n w (k + r.val) (o + d.val) := by
  have h0 := inb 0
  have h1 := inb 1
  simp at h0 h1
  have e0 : (Fin.ofNat 520 (k + r.val)).val = k + r.val := Nat.mod_eq_of_lt (by omega)
  have e1 : (Fin.ofNat 1024 (o + d.val)).val = o + d.val := Nat.mod_eq_of_lt (by omega)
  rw [ld_tap, scratch_at v f L B n w _ _ fun h => hB _ _ (by omega) h, e0, e1]

/-- Equal rows give equal sums. -/
theorem taps_congr {b c0 c1 c2 c3 u0 u1 u2 u3 v0 v1 v2 v3 : EReal} (h0 : u0 = v0) (h1 : u1 = v1) (h2 : u2 = v2) (h3 : u3 = v3) :
    fourTaps b c0 u0 c1 u1 c2 u2 c3 u3 = fourTaps b c0 v0 c1 v1 c2 v2 c3 v3 := by
  rw [h0, h1, h2, h3]

/-- The convolution of 512 lanes from lane `o` on, from what its loads give. -/
theorem conv_at (b : Vec Ideal S1x1024 .f32) (cw : Vec Ideal S4x1024 .f32) (o : ℕ)
    (ib : ∀ a, (![0, o] : Fin 2 → ℕ) a + (![1, 512] : Fin 2 → ℕ) a ≤ S1x1024.size a)
    (i0 : ∀ a, (![0, o] : Fin 2 → ℕ) a + (![1, 512] : Fin 2 → ℕ) a ≤ S4x1024.size a)
    (i1 : ∀ a, (![1, o] : Fin 2 → ℕ) a + (![1, 512] : Fin 2 → ℕ) a ≤ S4x1024.size a)
    (i2 : ∀ a, (![2, o] : Fin 2 → ℕ) a + (![1, 512] : Fin 2 → ℕ) a ≤ S4x1024.size a)
    (i3 : ∀ a, (![3, o] : Fin 2 → ℕ) a + (![1, 512] : Fin 2 → ℕ) a ≤ S4x1024.size a) (d : Fin 512) (u0 u1 u2 u3 : EReal) :
    fourTaps (View.ld (Val := Elt Ideal) (e' := .f32) b (Rect.unit (s := S1x1024) ![0, o] ![1, 512] ib) (ix2 0 d))
        (View.ld (Val := Elt Ideal) (e' := .f32) cw (Rect.unit (s := S4x1024) ![0, o] ![1, 512] i0) (ix2 0 d)) u0
        (View.ld (Val := Elt Ideal) (e' := .f32) cw (Rect.unit (s := S4x1024) ![1, o] ![1, 512] i1) (ix2 0 d)) u1
        (View.ld (Val := Elt Ideal) (e' := .f32) cw (Rect.unit (s := S4x1024) ![2, o] ![1, 512] i2) (ix2 0 d)) u2
        (View.ld (Val := Elt Ideal) (e' := .f32) cw (Rect.unit (s := S4x1024) ![3, o] ![1, 512] i3) (ix2 0 d)) u3
      = fourTaps (b (ix2 0 (Fin.ofNat 1024 (o + d.val)))) (cw (ix2 0 (Fin.ofNat 1024 (o + d.val)))) u0 (cw (ix2 1 (Fin.ofNat 1024 (o + d.val)))) u1
          (cw (ix2 2 (Fin.ofNat 1024 (o + d.val)))) u2 (cw (ix2 3 (Fin.ofNat 1024 (o + d.val)))) u3 := by
  rw [ld_bias b o ib, ld_weights cw 0 o i0, ld_weights cw 1 o i1, ld_weights cw 2 o i2, ld_weights cw 3 o i3]
  rfl

variable (m : (ℓ : Loc nD τ sig) → Buf (Elt Ideal) ℓ)

/-- The normed rows of a point. -/
def rowsOf (c : Dev nD) (t : Fin cfg0.N) : Vec Ideal S512x1024 .bf16 := k0_pay5 (iblk m c 0 t) (iblk m c 1 t)

/-- The scratch a point finds. -/
def found (c : Dev nD) (t : Fin cfg0.N) : Vec Ideal S520x1024 .f32 :=
  (outsAt0 m c (t.val - 1) (Nat.lt_of_le_of_lt (Nat.sub_le _ _) t.isLt)).2.2.2.2.2.2.2.1

/-- The eight rows before a point's block: none at the start of a sequence. -/
def kept (c : Dev nD) (t : Fin cfg0.N) (r d : ℕ) : EReal :=
  if t.val % 8 = 0 then 0 else found m c t (ix2 (Fin.ofNat 520 r) (Fin.ofNat 1024 d))

/-- The convolution of a point's row. -/
def convOf (c : Dev nD) (t : Fin cfg0.N) (r d : ℕ) : EReal :=
  fourTaps ((iblk m c 7 t : Vec Ideal S1x1024 .f32) (ix2 0 (Fin.ofNat 1024 d)))
    ((iblk m c 6 t : Vec Ideal S4x1024 .f32) (ix2 0 (Fin.ofNat 1024 d))) (pick (kept m c t) (rowsOf m c t) (iblk m c 3 t) (5 + r) d)
    ((iblk m c 6 t : Vec Ideal S4x1024 .f32) (ix2 1 (Fin.ofNat 1024 d))) (pick (kept m c t) (rowsOf m c t) (iblk m c 3 t) (6 + r) d)
    ((iblk m c 6 t : Vec Ideal S4x1024 .f32) (ix2 2 (Fin.ofNat 1024 d))) (pick (kept m c t) (rowsOf m c t) (iblk m c 3 t) (7 + r) d)
    ((iblk m c 6 t : Vec Ideal S4x1024 .f32) (ix2 3 (Fin.ofNat 1024 d))) (pick (kept m c t) (rowsOf m c t) (iblk m c 3 t) (8 + r) d)

set_option maxHeartbeats 2000000 in
/-- The first result's block. -/
theorem wide_out (c : Dev nD) (t : Fin cfg0.N) :
    (outsAt0 m c t.val t.isLt).1 = k0_pay34 (rowsOf m c t) (iblk m c 2 t) := by
  by_cases h : t.val % 8 = 0
  · rw [outsAt0_A m c t h]
    frame_open
    simp (disch := decide) only [View.read_writes_junk_eq_canon, View.canon_cons_unit_lit', View.ld_unit_lit', View.readAt_eq_ld,
      Memref.IsWhole.read_unread, read_unread_whole]
    rfl
  · rw [outsAt0_B m c t h]
    frame_open
    simp (disch := decide) only [View.read_writes_junk_eq_canon, View.canon_cons_unit_lit', View.ld_unit_lit', View.readAt_eq_ld,
      Memref.IsWhole.read_unread, read_unread_whole]
    rfl

set_option maxHeartbeats 2000000 in
/-- The gates' block, at a row and a lane. -/
theorem gate_out (c : Dev nD) (t : Fin cfg0.N) (r : Fin 512) (j : Fin 2048) :
    ((outsAt0 m c t.val t.isLt).2.2.1 : Vec Ideal S512x2048 .bf16) (ix2 r j)
      = ∑ e : Fin 1024, rowsOf m c t (ix2 r e) * (iblk m c 4 t : Vec Ideal S1024x2048 .bf16) (ix2 e j) := by
  have hj := j.isLt
  have key : ∀ n : Vec Ideal S512x1024 .bf16, ∀ w : Vec Ideal S1024x2048 .bf16, ∀ f,
      View.read (Elt Ideal) VO0_13 (VO0_13.writes (Elt Ideal) f
        [⟨Rect.unit ![0, 1024] ![512, 1024] inb_S512x2048_S512x1024_0_1024, k0_pay1 n (k0_pay51 (View.ld w (Rect.unit ![0, 1024] ![1024, 1024] inb_S1024x2048_S1024x1024_0_1024)))⟩,
          ⟨Rect.unit ![0, 0] ![512, 1024] inb_S512x2048_S512x1024_0_0, k0_pay50 n (View.ld w (Rect.unit ![0, 0] ![1024, 1024] inb_S1024x2048_S1024x1024_0_0))⟩]) (ix2 r j)
        = ∑ e : Fin 1024, n (ix2 r e) * w (ix2 e j) := by
    intro n w f
    rw [halves_at]
    by_cases h1 : j.val < 1024
    · rw [if_pos h1]
      refine (gate_at _ _ _ _).trans ((Finset.sum_congr rfl fun e _ => congrArg (n _ * ·) (ld_whole w 0 _ e _)).trans ?_)
      rw [show (Fin.ofNat 1024 j.val).val = j.val from Nat.mod_eq_of_lt h1, Nat.zero_add, show Fin.ofNat 2048 j.val = j from Fin.ext (Nat.mod_eq_of_lt hj)]
    · rw [if_neg h1]
      refine (gate'_at _ _ _ _).trans ((Finset.sum_congr rfl fun e _ => congrArg (n _ * ·) (ld_whole w 1024 _ e _)).trans ?_)
      rw [show (Fin.ofNat 1024 (j.val - 1024)).val = j.val - 1024 from Nat.mod_eq_of_lt (by omega), show 1024 + (j.val - 1024) = j.val by omega,
        show Fin.ofNat 2048 j.val = j from Fin.ext (Nat.mod_eq_of_lt hj)]
  by_cases h : t.val % 8 = 0
  · rw [outsAt0_A m c t h]
    frame_open
    simp (disch := decide) only [View.ld_unit_lit', View.readAt_eq_ld, Memref.IsWhole.read_unread, read_unread_whole]
    exact key _ _ _
  · rw [outsAt0_B m c t h]
    frame_open
    simp (disch := decide) only [View.ld_unit_lit', View.readAt_eq_ld, Memref.IsWhole.read_unread, read_unread_whole]
    exact key _ _ _

set_option maxHeartbeats 4000000 in
/-- The rows a point keeps: the last eight of its block. -/
theorem kept_out (c : Dev nD) (t : Fin cfg0.N) (r : Fin 8) (d : Fin 1024) :
    ((outsAt0 m c t.val t.isLt).2.2.2.2.2.2.2.1 : Vec Ideal S520x1024 .f32) (ix2 ⟨r.val, by omega⟩ d)
      = part (rowsOf m c t) (iblk m c 3 t) (504 + r.val) d.val := by
  have hr := r.isLt
  have key : ∀ (v : View sig .tc .vmem S520x1024 .f32) (f : v.ty.Contents (Elt Ideal)) (L L' : List (View.Piece (Elt Ideal) S520x1024 .f32))
      (n : Vec Ideal S512x1024 .bf16) (w : Vec Ideal S1024x2048 .bf16),
      v.read (Elt Ideal) (v.writes (Elt Ideal) f (⟨Rect.unit ![0, 0] ![8, 1024] inb_S520x1024_S8x1024_0_0,
        k0_pay48 (View.ld (Val := Elt Ideal) (e' := .f32) ((View.whole cc0_scratch0).read (Elt Ideal) ((View.whole cc0_scratch0).writes (Elt Ideal) (View.whole cc0_scratch0).junk
          (⟨Rect.unit ![8, 512] ![512, 512] inb_S520x1024_S512x512_8_512,
            k0_pay36 n (View.ld (Val := Elt Ideal) (e' := .bf16) w (Rect.unit (s := S1024x2048) ![0, 512] ![1024, 512] inb_S1024x2048_S1024x512_0_512))⟩
          :: ⟨Rect.unit ![8, 0] ![512, 512] inb_S520x1024_S512x512_8_0,
            k0_pay35 n (View.ld (Val := Elt Ideal) (e' := .bf16) w (Rect.unit (s := S1024x2048) ![0, 0] ![1024, 512] inb_S1024x2048_S1024x512_0_0))⟩ :: L)))
          (Rect.unit (s := S520x1024) ![512, 0] ![8, 1024] inb_S520x1024_S8x1024_512_0))⟩ :: L')) (ix2 ⟨r.val, by omega⟩ d)
        = part n w (504 + r.val) d.val := by
    intro v f L L' n w
    refine (View.read_writes_cons_unit_of_mem v f _ _ _ _ (ix2 r d) rfl fun a => ?_).trans ?_
    · match a with
      | ⟨0, _⟩ => exact (Nat.zero_add _).symm
      | ⟨1, _⟩ => exact (Nat.zero_add _).symm
    refine (congrFun (kept_at _) _).trans ?_
    refine (View.ld_unit_apply_of _ _ _ _ _ (ix2 (⟨512 + r.val, by omega⟩ : Fin 520) d) fun a => ?_).trans ?_
    · match a with
      | ⟨0, _⟩ => rfl
      | ⟨1, _⟩ => exact (Nat.zero_add _).symm
    refine (scratch_at _ _ L (fun _ _ => 0) n w _ _ fun h => absurd h (by show ¬ 512 + r.val < 8; omega)).trans ?_
    unfold pick
    rw [if_neg (by show ¬ 512 + r.val < 8; omega)]
    exact congrArg (part n w · d.val) (by show 512 + r.val - 8 = _; omega)
  by_cases h : t.val % 8 = 0
  · rw [outsAt0_A m c t h]
    frame_open
    simp (disch := decide) only [View.ld_unit_lit', View.readAt_eq_ld, Memref.IsWhole.read_unread, read_unread_whole, readCov_ld]
    exact key _ _ _ _ _ _
  · rw [outsAt0_B m c t h]
    frame_open
    simp (disch := decide) only [View.ld_unit_lit', View.readAt_eq_ld, Memref.IsWhole.read_unread, read_unread_whole, readCov_ld]
    exact key _ _ _ _ _ _

/-- Before a sequence's first block the scratch is filled with zeros. -/
theorem filled_at (c : Dev nD) (t : Fin cfg0.N) (h : t.val % 8 = 0) (v : View sig .tc .vmem S520x1024 .f32) (f : v.ty.Contents (Elt Ideal))
    (r : Fin 520) (d : Fin 1024) (hr : r.val < 8) :
    v.read (Elt Ideal) (v.writes (Elt Ideal) f [⟨Rect.unit ![0, 0] ![8, 1024] inb_S520x1024_S8x1024_0_0, k0_pay2 (F := Ideal)⟩]) (ix2 r d)
      = kept m c t r.val d.val := by
  unfold kept
  rw [if_pos h]
  refine (View.read_writes_cons_unit_of_mem v f _ _ _ _ (ix2 (⟨r.val, hr⟩ : Fin 8) d) rfl fun a => ?_).trans (zero_at _ _)
  match a with
  | ⟨0, _⟩ => exact (Nat.zero_add _).symm
  | ⟨1, _⟩ => exact (Nat.zero_add _).symm

/-- Before any other block it is what the point before left. -/
theorem found_at (c : Dev nD) (t : Fin cfg0.N) (h : ¬ t.val % 8 = 0) (r : Fin 520) (d : Fin 1024) :
    found m c t (ix2 r d) = kept m c t r.val d.val := by
  unfold kept
  rw [if_neg h, show Fin.ofNat 520 r.val = r from Fin.ext (Nat.mod_eq_of_lt r.isLt), show Fin.ofNat 1024 d.val = d from Fin.ext (Nat.mod_eq_of_lt d.isLt)]

set_option maxHeartbeats 8000000 in
/-- The memory cell's block, at a row and a lane. -/
theorem cell_out (c : Dev nD) (t : Fin cfg0.N) (r : Fin 512) (j : Fin 2048) :
    ((outsAt0 m c t.val t.isLt).2.1 : Vec Ideal S512x2048 .bf16) (ix2 r j)
      = if j.val < 512 then silu (convOf m c t r.val j.val)
        else if j.val < 1024 then silu (convOf m c t r.val j.val) * Ideal.ofBits FTy.f32 1035273459#32
        else part (rowsOf m c t) (iblk m c 3 t) r.val j.val := by
  have hj := j.isLt
  have er : Fin.ofNat 512 r.val = r := Fin.ext (Nat.mod_eq_of_lt r.isLt)
  have plain : ¬ j.val < 1024 → k0_pay49 (rowsOf m c t) (View.ld (Val := Elt Ideal) (e' := .bf16) (iblk m c 3 t : Vec Ideal S1024x2048 .bf16)
      (Rect.unit (s := S1024x2048) ![0, 1024] ![1024, 1024] inb_S1024x2048_S1024x1024_0_1024)) (ix2 r (Fin.ofNat 1024 (j.val - 1024)))
        = part (rowsOf m c t) (iblk m c 3 t) r.val j.val := by
    intro h1
    refine (plain_at _ _ _ _).trans ((Finset.sum_congr rfl fun e _ => congrArg (rowsOf m c t _ * ·) (ld_whole _ 1024 _ e _)).trans ?_)
    unfold part
    rw [show (Fin.ofNat 1024 (j.val - 1024)).val = j.val - 1024 from Nat.mod_eq_of_lt (by omega), show 1024 + (j.val - 1024) = j.val by omega, er]
  by_cases h : t.val % 8 = 0
  · rw [outsAt0_A m c t h]
    frame_open
    simp (disch := decide) only [View.ld_unit_lit', View.readAt_eq_ld, Memref.IsWhole.read_unread, read_unread_whole, readCov_ld]
    refine (parts_at _ _ _ _ _ _ _).trans ?_
    by_cases h5 : j.val < 512
    · rw [if_pos h5, if_pos h5]
      have ej : (Fin.ofNat 512 j.val).val = j.val := Nat.mod_eq_of_lt h5
      refine (convq_at _ _ _ _ _ _ _ _ _ _ _).trans (congrArg silu ?_)
      refine (conv_at _ _ 0 _ _ _ _ _ _ _ _ _ _).trans ?_
      unfold convOf
      rw [ej, Nat.zero_add]
      refine taps_congr ?_ ?_ ?_ ?_
      · exact (tap_at _ _ _ (kept m c t) (rowsOf m c t) _ 5 0 _ _ _ (fun r d _ hr => filled_at m c t h _ _ r d hr)).trans (congrArg (pick _ _ _ _) (by rw [ej, Nat.zero_add]))
      · exact (tap_at _ _ _ (kept m c t) (rowsOf m c t) _ 6 0 _ _ _ (fun r d _ hr => filled_at m c t h _ _ r d hr)).trans (congrArg (pick _ _ _ _) (by rw [ej, Nat.zero_add]))
      · exact (tap_at _ _ _ (kept m c t) (rowsOf m c t) _ 7 0 _ _ _ (fun r d _ hr => filled_at m c t h _ _ r d hr)).trans (congrArg (pick _ _ _ _) (by rw [ej, Nat.zero_add]))
      · exact (tap_at _ _ _ (kept m c t) (rowsOf m c t) _ 8 0 _ _ _ (fun r d _ hr => filled_at m c t h _ _ r d hr)).trans (congrArg (pick _ _ _ _) (by rw [ej, Nat.zero_add]))
    rw [if_neg h5, if_neg h5]
    by_cases h1 : j.val < 1024
    · rw [if_pos h1, if_pos h1]
      have ej : (Fin.ofNat 512 (j.val - 512)).val = j.val - 512 := Nat.mod_eq_of_lt (by omega)
      have e5 : 512 + (j.val - 512) = j.val := by omega
      refine (convk_at _ _ _ _ _ _ _ _ _ _ _).trans (congrArg (silu · * _) ?_)
      refine (conv_at _ _ 512 _ _ _ _ _ _ _ _ _ _).trans ?_
      unfold convOf
      rw [ej, e5]
      refine taps_congr ?_ ?_ ?_ ?_
      · exact (tap_at _ _ _ (kept m c t) (rowsOf m c t) _ 5 512 _ _ _ (fun r d _ hr => filled_at m c t h _ _ r d hr)).trans (congrArg (pick _ _ _ _) (by rw [ej, e5]))
      · exact (tap_at _ _ _ (kept m c t) (rowsOf m c t) _ 6 512 _ _ _ (fun r d _ hr => filled_at m c t h _ _ r d hr)).trans (congrArg (pick _ _ _ _) (by rw [ej, e5]))
      · exact (tap_at _ _ _ (kept m c t) (rowsOf m c t) _ 7 512 _ _ _ (fun r d _ hr => filled_at m c t h _ _ r d hr)).trans (congrArg (pick _ _ _ _) (by rw [ej, e5]))
      · exact (tap_at _ _ _ (kept m c t) (rowsOf m c t) _ 8 512 _ _ _ (fun r d _ hr => filled_at m c t h _ _ r d hr)).trans (congrArg (pick _ _ _ _) (by rw [ej, e5]))
    rw [if_neg h1, if_neg h1]
    exact plain h1
  · rw [outsAt0_B m c t h]
    frame_open
    simp (disch := decide) only [View.ld_unit_lit', View.readAt_eq_ld, Memref.IsWhole.read_unread, read_unread_whole, readCov_ld]
    refine (parts_at _ _ _ _ _ _ _).trans ?_
    by_cases h5 : j.val < 512
    · rw [if_pos h5, if_pos h5]
      have ej : (Fin.ofNat 512 j.val).val = j.val := Nat.mod_eq_of_lt h5
      refine (convq_at _ _ _ _ _ _ _ _ _ _ _).trans (congrArg silu ?_)
      refine (conv_at _ _ 0 _ _ _ _ _ _ _ _ _ _).trans ?_
      unfold convOf
      rw [ej, Nat.zero_add]
      refine taps_congr ?_ ?_ ?_ ?_
      · exact (tap_at _ _ _ (kept m c t) (rowsOf m c t) _ 5 0 _ _ _ (fun r d _ _ => (congrFun (read_unread_whole _ _ _) _).trans (found_at m c t h r d))).trans (congrArg (pick _ _ _ _) (by rw [ej, Nat.zero_add]))
      · exact (tap_at _ _ _ (kept m c t) (rowsOf m c t) _ 6 0 _ _ _ (fun r d _ _ => (congrFun (read_unread_whole _ _ _) _).trans (found_at m c t h r d))).trans (congrArg (pick _ _ _ _) (by rw [ej, Nat.zero_add]))
      · exact (tap_at _ _ _ (kept m c t) (rowsOf m c t) _ 7 0 _ _ _ (fun r d _ _ => (congrFun (read_unread_whole _ _ _) _).trans (found_at m c t h r d))).trans (congrArg (pick _ _ _ _) (by rw [ej, Nat.zero_add]))
      · exact (tap_at _ _ _ (kept m c t) (rowsOf m c t) _ 8 0 _ _ _ (fun r d hk hr => absurd hr (by omega))).trans (congrArg (pick _ _ _ _) (by rw [ej, Nat.zero_add]))
    rw [if_neg h5, if_neg h5]
    by_cases h1 : j.val < 1024
    · rw [if_pos h1, if_pos h1]
      have ej : (Fin.ofNat 512 (j.val - 512)).val = j.val - 512 := Nat.mod_eq_of_lt (by omega)
      have e5 : 512 + (j.val - 512) = j.val := by omega
      refine (convk_at _ _ _ _ _ _ _ _ _ _ _).trans (congrArg (silu · * _) ?_)
      refine (conv_at _ _ 512 _ _ _ _ _ _ _ _ _ _).trans ?_
      unfold convOf
      rw [ej, e5]
      refine taps_congr ?_ ?_ ?_ ?_
      · exact (tap_at _ _ _ (kept m c t) (rowsOf m c t) _ 5 512 _ _ _ (fun r d _ _ => (congrFun (read_unread_whole _ _ _) _).trans (found_at m c t h r d))).trans (congrArg (pick _ _ _ _) (by rw [ej, e5]))
      · exact (tap_at _ _ _ (kept m c t) (rowsOf m c t) _ 6 512 _ _ _ (fun r d _ _ => (congrFun (read_unread_whole _ _ _) _).trans (found_at m c t h r d))).trans (congrArg (pick _ _ _ _) (by rw [ej, e5]))
      · exact (tap_at _ _ _ (kept m c t) (rowsOf m c t) _ 7 512 _ _ _ (fun r d _ _ => (congrFun (read_unread_whole _ _ _) _).trans (found_at m c t h r d))).trans (congrArg (pick _ _ _ _) (by rw [ej, e5]))
      · exact (tap_at _ _ _ (kept m c t) (rowsOf m c t) _ 8 512 _ _ _ (fun r d hk hr => absurd hr (by omega))).trans (congrArg (pick _ _ _ _) (by rw [ej, e5]))
    rw [if_neg h1, if_neg h1]
    exact plain h1

end Cert.Kernel5Ideal.Inproj
-- ==== Proof.Layer.InprojValue.lean ====
module

public import proofs.«01_k».proof.Proof.Layer.InprojPoint
public import proofs.«01_k».proof.Proof.Fox.Softmax
public import Idealize.ShloMosaic.Lib.StableHlo.RunRead

@[expose] public section

/-!
The three results of the input projection, as arrays: from the blocks of its 128 grid points.
-/

set_option maxRecDepth 16384

noncomputable section

namespace Cert.Kernel5Ideal.Inproj

open Idealize.ShloMosaic Idealize.ShloMosaic.TcCoe
open Cert.Kernel5Ideal Cert.Kernel5Ideal.Gen Cert.Rows

/-- The attention's weights: the queries' by an eighth. -/
def wide (w : FVec Ideal S1024x5648 .f32) : FVec Ideal S1024x1536 .f32 :=
  concatenate S1024x1536 1 [⟨S1024x512, (mulf (extractStridedSlice S1024x512 ![0, 0] w slices_S1024x5648_S1024x512_0_0) (broadcastInDim S1024x512 ![] bcast_S_S1024x512 (constant S_ .f32 0x3E000000#32)) : FVec Ideal S1024x512 .f32)⟩,
    ⟨S1024x512, (extractStridedSlice S1024x512 ![0, 512] w slices_S1024x5648_S1024x512_0_512 : FVec Ideal S1024x512 .f32)⟩,
    ⟨S1024x512, (extractStridedSlice S1024x512 ![0, 1024] w slices_S1024x5648_S1024x512_0_1024 : FVec Ideal S1024x512 .f32)⟩]
    concatenates_S1024x512_S1024x512_S1024x512_S1024x1536_d1

/-- The cell's weights. -/
def cells (w : FVec Ideal S1024x5648 .f32) : FVec Ideal S1024x2048 .f32 :=
  concatenate S1024x2048 1 [⟨S1024x1024, (extractStridedSlice S1024x1024 ![0, 1544] w slices_S1024x5648_S1024x1024_0_1544 : FVec Ideal S1024x1024 .f32)⟩,
    ⟨S1024x512, (extractStridedSlice S1024x512 ![0, 2568] w slices_S1024x5648_S1024x512_0_2568 : FVec Ideal S1024x512 .f32)⟩,
    ⟨S1024x512, (extractStridedSlice S1024x512 ![0, 3080] w slices_S1024x5648_S1024x512_0_3080 : FVec Ideal S1024x512 .f32)⟩]
    concatenates_S1024x1024_S1024x512_S1024x512_S1024x2048_d1

/-- The gates' weights. -/
def gates (w : FVec Ideal S1024x5648 .f32) : FVec Ideal S1024x2048 .f32 :=
  extractStridedSlice S1024x2048 ![0, 3600] w slices_S1024x5648_S1024x2048_0_3600

/-- A lane of the attention's weights. -/
theorem wide_w (w : FVec Ideal S1024x5648 .f32) (e : Fin 1024) (j : Fin 1536) :
    wide w (ix2 e j) = if j.val < 512 then w (ix2 e (Fin.ofNat 5648 j.val)) * Ideal.ofBits FTy.f32 1040187392#32 else w (ix2 e (Fin.ofNat 5648 j.val)) := by
  have hj := j.isLt
  rw [show Fin.ofNat 5648 j.val = ⟨j.val, by omega⟩ from Fin.ext (Nat.mod_eq_of_lt (by omega))]
  pointwise [wide]
  by_cases h1 : j.val < 512
  · exact (dif_pos h1).trans (if_pos h1).symm
  refine (dif_neg h1).trans (Eq.trans ?_ (if_neg h1).symm)
  by_cases h2 : j.val - 512 < 512
  · refine (dif_pos h2).trans ?_
    exact congrArg (fun k => w (ix2 e k)) (Fin.ext (by show 512 + (j.val - 512) = j.val; omega))
  · refine (dif_neg h2).trans ?_
    exact congrArg (fun k => w (ix2 e k)) (Fin.ext (by show 1024 + (j.val - 512 - 512) = j.val; omega))

/-- A lane of the cell's weights. -/
theorem cells_w (w : FVec Ideal S1024x5648 .f32) (e : Fin 1024) (j : Fin 2048) :
    cells w (ix2 e j) = w (ix2 e (Fin.ofNat 5648 (1544 + j.val))) := by
  have hj := j.isLt
  rw [show Fin.ofNat 5648 (1544 + j.val) = ⟨1544 + j.val, by omega⟩ from Fin.ext (Nat.mod_eq_of_lt (by omega))]
  pointwise [cells]
  by_cases h1 : j.val < 1024
  · exact dif_pos h1
  refine (dif_neg h1).trans ?_
  by_cases h2 : j.val - 1024 < 512
  · refine (dif_pos h2).trans ?_
    exact congrArg (fun k => w (ix2 e k)) (Fin.ext (by show 2568 + (j.val - 1024) = 1544 + j.val; omega))
  · refine (dif_neg h2).trans ?_
    exact congrArg (fun k => w (ix2 e k)) (Fin.ext (by show 3080 + (j.val - 1024 - 512) = 1544 + j.val; omega))

/-- A lane of the gates' weights. -/
theorem gates_w (w : FVec Ideal S1024x5648 .f32) (e : Fin 1024) (j : Fin 2048) :
    gates w (ix2 e j) = w (ix2 e (Fin.ofNat 5648 (3600 + j.val))) := by
  have hj := j.isLt
  rw [show Fin.ofNat 5648 (3600 + j.val) = ⟨3600 + j.val, by omega⟩ from Fin.ext (Nat.mod_eq_of_lt (by omega))]
  pointwise [gates]

variable (m : (ℓ : Loc nD τ sig) → Buf (Elt Ideal) ℓ)

/-- The attention's weights as the call finds them: the cast changes nothing. -/
theorem entry_wide (c : Dev nD) : (V m c main_v6 : FVec Ideal S1024x1536 .bf16) = wide (m ((c : Thread nD τ).loc main_arg2)) := by
  show StableHlo.after hostOps0 _ (Proc.devRef .tc main_v6) = _
  after_reads_simp
  rfl

/-- The cell's weights as the call finds them: the cast changes nothing. -/
theorem entry_cells (c : Dev nD) : (V m c main_v11 : FVec Ideal S1024x2048 .bf16) = cells (m ((c : Thread nD τ).loc main_arg2)) := by
  show StableHlo.after hostOps0 _ (Proc.devRef .tc main_v11) = _
  after_reads_simp
  rfl

/-- The gates' weights as the call finds them: the cast changes nothing. -/
theorem entry_gates (c : Dev nD) : (V m c main_v13 : FVec Ideal S1024x2048 .bf16) = gates (m ((c : Thread nD τ).loc main_arg2)) := by
  show StableHlo.after hostOps0 _ (Proc.devRef .tc main_v13) = _
  after_reads_simp
  rfl

/-- The gain, laid out as one row. -/
theorem entry_gain (c : Dev nD) : (V m c main_v23 : FVec Ideal S1x1024 .f32)
    = shapeCast S1x1024 (m ((c : Thread nD τ).loc main_arg1) : FVec Ideal S1024 .f32) shapeCasts_S1024_S1x1024 := by
  show StableHlo.after hostOps0 _ (Proc.devRef .tc main_v23) = _
  after_reads_simp
  rfl

/-- The convolution's bias, laid out as one row. -/
theorem entry_bias (c : Dev nD) : (V m c main_v24 : FVec Ideal S1x1024 .f32)
    = shapeCast S1x1024 (m ((c : Thread nD τ).loc main_arg7) : FVec Ideal S1024 .f32) shapeCasts_S1024_S1x1024 := by
  show StableHlo.after hostOps0 _ (Proc.devRef .tc main_v24) = _
  after_reads_simp
  rfl

/-- A vector laid out as one row, read. -/
theorem row_at (g : FVec Ideal S1024 .f32) (e : Fin 1024) :
    (shapeCast S1x1024 g shapeCasts_S1024_S1x1024 : FVec Ideal S1x1024 .f32) (ix2 0 e) = g (ix1 e) := by
  pointwise

/-- The block each window takes at each point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_6.index t = ![0, 0] ∧ win0_7.index t = ![0, 0] ∧ win0_11.index t = ![t.val, 0] ∧ win0_12.index t = ![t.val, 0] ∧ win0_13.index t = ![t.val, 0] :=
  (by decide +kernel : ∀ t : Fin grid0.N, _)

/-- The grid has 128 points. -/
theorem points (t : Fin cfg0.N) : t.val < 128 := t.isLt

/-- The rows of a point's block. -/
theorem blk_rows (c : Dev nD) (t : Fin cfg0.N) (r : Fin 512) (e : Fin 1024) :
    (iblk m c 0 t : Vec Ideal S512x1024 .f32) (ix2 r e)
      = (m ((c : Thread nD τ).loc main_arg0) : FVec Ideal S65536x1024 .f32) (ix2 (Fin.ofNat 65536 (512 * t.val + r.val)) e) := by
  have ht := points t
  have hr := r.isLt
  have h1 : 512 * t.val + r.val < 65536 := by omega
  rw [show Fin.ofNat 65536 (512 * t.val + r.val) = ⟨_, h1⟩ from Fin.ext (Nat.mod_eq_of_lt h1)]
  refine Eq.trans ?_ (congrFun (V_main_arg0 m c) _)
  blk_ext [iblk, idx t]

/-- The gain, at every point. -/
theorem blk_gain (c : Dev nD) (t : Fin cfg0.N) (e : Fin 1024) : (iblk m c 1 t : Vec Ideal S1x1024 .f32) (ix2 0 e)
      = (m ((c : Thread nD τ).loc main_arg1) : FVec Ideal S1024 .f32) (ix1 e) := by
  refine Eq.trans ?_ ((congrFun (entry_gain m c) (ix2 0 e)).trans (row_at _ e))
  blk_ext [iblk, idx t]

/-- The convolution's bias, at every point. -/
theorem blk_bias (c : Dev nD) (t : Fin cfg0.N) (e : Fin 1024) : (iblk m c 7 t : Vec Ideal S1x1024 .f32) (ix2 0 e)
      = (m ((c : Thread nD τ).loc main_arg7) : FVec Ideal S1024 .f32) (ix1 e) := by
  refine Eq.trans ?_ ((congrFun (entry_bias m c) (ix2 0 e)).trans (row_at _ e))
  blk_ext [iblk, idx t]

/-- The attention's weights, whole at every point. -/
theorem blk_wide (c : Dev nD) (t : Fin cfg0.N) : (iblk m c 2 t : Vec Ideal S1024x1536 .bf16) = wide (m ((c : Thread nD τ).loc main_arg2)) := by
  refine Eq.trans ?_ (entry_wide m c)
  funext i
  rw [eq_ix2 i]
  blk_ext [iblk, idx t]

/-- The cell's weights, whole at every point. -/
theorem blk_cells (c : Dev nD) (t : Fin cfg0.N) : (iblk m c 3 t : Vec Ideal S1024x2048 .bf16) = cells (m ((c : Thread nD τ).loc main_arg2)) := by
  refine Eq.trans ?_ (entry_cells m c)
  funext i
  rw [eq_ix2 i]
  blk_ext [iblk, idx t]

/-- The gates' weights, whole at every point. -/
theorem blk_gates (c : Dev nD) (t : Fin cfg0.N) : (iblk m c 4 t : Vec Ideal S1024x2048 .bf16) = gates (m ((c : Thread nD τ).loc main_arg2)) := by
  refine Eq.trans ?_ (entry_gates m c)
  funext i
  rw [eq_ix2 i]
  blk_ext [iblk, idx t]

/-- The convolution's weights, whole at every point. -/
theorem blk_conv (c : Dev nD) (t : Fin cfg0.N) :
    (iblk m c 6 t : Vec Ideal S4x1024 .f32) = (m ((c : Thread nD τ).loc main_arg6) : FVec Ideal S4x1024 .f32) := by
  refine Eq.trans ?_ (V_main_arg6 m c)
  funext i
  rw [eq_ix2 i]
  blk_ext [iblk, idx t]

/-- The normed rows of a point. -/
theorem rows_at (c : Dev nD) (t : Fin cfg0.N) (r : Fin 512) (e : Fin 1024) :
    rowsOf m c t (ix2 r e) = norm (fun e => (m ((c : Thread nD τ).loc main_arg0) : FVec Ideal S65536x1024 .f32) (ix2 (Fin.ofNat 65536 (512 * t.val + r.val)) e))
      (fun e => (m ((c : Thread nD τ).loc main_arg1) : FVec Ideal S1024 .f32) (ix1 e)) e := by
  unfold rowsOf
  rw [normed_at]
  simp only [blk_rows, blk_gain]

/-- A row of a point's product with the cell's weights is a row of the projection. -/
theorem part_lane (c : Dev nD) (t : Fin cfg0.N) (r d : ℕ) (hr : r < 512) (hd : d < 2048) :
    part (rowsOf m c t) (iblk m c 3 t) r d = lane (m ((c : Thread nD τ).loc main_arg0)) (m ((c : Thread nD τ).loc main_arg1)) (m ((c : Thread nD τ).loc main_arg2)) (512 * t.val + r) (1544 + d) := by
  unfold part lane
  refine Finset.sum_congr rfl fun e _ => ?_
  rw [rows_at, blk_cells, cells_w, show (Fin.ofNat 512 r).val = r from Nat.mod_eq_of_lt hr, show (Fin.ofNat 2048 d).val = d from Nat.mod_eq_of_lt hd]

/-- What a tap finds: the row it asks for, kept from the point before where it lies there. -/
theorem pick_tap (c : Dev nD) (t : Fin cfg0.N) (k r d q : ℕ) (hk : k ≤ 3) (hr : r < 512) (hd : d < 1024) (hq : q = 5 + k + r) :
    pick (kept m c t) (rowsOf m c t) (iblk m c 3 t) q d = tap (m ((c : Thread nD τ).loc main_arg0)) (m ((c : Thread nD τ).loc main_arg1)) (m ((c : Thread nD τ).loc main_arg2)) (512 * t.val + r) k d := by
  have ht := points t
  unfold pick tap
  by_cases h8 : q < 8
  · rw [if_pos h8]
    unfold kept
    by_cases h0 : t.val % 8 = 0
    · rw [if_pos h0, if_pos (by omega)]
    · rw [if_neg h0, if_neg (by omega)]
      have hlt : t.val - 1 < cfg0.N := Nat.lt_of_le_of_lt (Nat.sub_le _ _) t.isLt
      have hf := kept_out m c ⟨t.val - 1, hlt⟩ ⟨q, h8⟩ ⟨d, hd⟩
      rw [part_lane m c ⟨t.val - 1, hlt⟩ _ _ (by show 504 + q < 512; omega) (by show d < 2048; omega)] at hf
      refine Eq.trans (congrArg (found m c t) (congrArg₂ ix2 (Fin.ext ?_) (Fin.ext ?_))) (hf.trans (congrArg₂ (lane (m ((c : Thread nD τ).loc main_arg0)) (m ((c : Thread nD τ).loc main_arg1)) (m ((c : Thread nD τ).loc main_arg2))) ?_ rfl))
      · exact Nat.mod_eq_of_lt (by omega)
      · exact Nat.mod_eq_of_lt hd
      · show 512 * (t.val - 1) + (504 + q) = 512 * t.val + r + k - 3
        omega
  · rw [if_neg h8, if_neg (by omega), part_lane m c t _ _ (by omega) (by omega)]
    exact congrArg₂ (lane (m ((c : Thread nD τ).loc main_arg0)) (m ((c : Thread nD τ).loc main_arg1)) (m ((c : Thread nD τ).loc main_arg2))) (by omega) rfl

/-- The convolution of a point's row is that of the row among all rows. -/
theorem conv_lane (c : Dev nD) (t : Fin cfg0.N) (r d : ℕ) (hr : r < 512) (hd : d < 1024) :
    convOf m c t r d = conv (m ((c : Thread nD τ).loc main_arg0)) (m ((c : Thread nD τ).loc main_arg1)) (m ((c : Thread nD τ).loc main_arg2)) (m ((c : Thread nD τ).loc main_arg6)) (m ((c : Thread nD τ).loc main_arg7)) (512 * t.val + r) d := by
  unfold convOf conv
  rw [pick_tap m c t 0 r d _ (by omega) hr hd (by omega), pick_tap m c t 1 r d _ (by omega) hr hd (by omega), pick_tap m c t 2 r d _ (by omega) hr hd (by omega),
    pick_tap m c t 3 r d _ (by omega) hr hd (by omega), blk_bias, blk_conv]

/-- The word 1/8 is a nonnegative real number. -/
theorem eighth : Ideal.ofBits FTy.f32 1040187392#32 = ((1 / 8 : ℝ) : EReal) := by
  simp [Ideal.ofBits, Ideal.ieee]
  rw [← EReal.coe_mul]
  norm_num

/-- Scaling the weights or the product is the same. -/
theorem scaled (n w : Fin 1024 → EReal) :
    (∑ e, n e * (w e * Ideal.ofBits FTy.f32 1040187392#32)) = (∑ e, n e * w e) * Ideal.ofBits FTy.f32 1040187392#32 := by
  rw [eighth, mul_comm _ ((1 / 8 : ℝ) : EReal), Cert.Softmax.mul_sum _ (by norm_num)]
  exact Finset.sum_congr rfl fun e _ => by rw [← mul_assoc, mul_comm]

/-- What a point writes of the first result. -/
theorem fox_point (c : Dev nD) (t : Fin cfg0.N) (r : Fin 512) (j : Fin 1536) :
    ((outsAt0 m c t.val t.isLt).1 : Vec Ideal S512x1536 .bf16) (ix2 r j) = foxLane (m ((c : Thread nD τ).loc main_arg0)) (m ((c : Thread nD τ).loc main_arg1)) (m ((c : Thread nD τ).loc main_arg2)) (512 * t.val + r.val) j.val := by
  rw [wide_out, wide_at]
  unfold foxLane lane
  by_cases h1 : j.val < 512
  · rw [if_pos h1, ← scaled]
    refine Finset.sum_congr rfl fun e _ => ?_
    rw [rows_at, blk_wide, wide_w, if_pos h1]
  · rw [if_neg h1]
    refine Finset.sum_congr rfl fun e _ => ?_
    rw [rows_at, blk_wide, wide_w, if_neg h1]

/-- What a point writes of the second result. -/
theorem cell_point (c : Dev nD) (t : Fin cfg0.N) (r : Fin 512) (j : Fin 2048) :
    ((outsAt0 m c t.val t.isLt).2.1 : Vec Ideal S512x2048 .bf16) (ix2 r j) = cellLane (m ((c : Thread nD τ).loc main_arg0)) (m ((c : Thread nD τ).loc main_arg1)) (m ((c : Thread nD τ).loc main_arg2)) (m ((c : Thread nD τ).loc main_arg6)) (m ((c : Thread nD τ).loc main_arg7)) (512 * t.val + r.val) j.val := by
  have hr := r.isLt
  have hj := j.isLt
  rw [cell_out]
  unfold cellLane
  by_cases h1 : j.val < 512
  · rw [if_pos h1, if_pos h1, conv_lane m c t _ _ hr (by omega)]
  rw [if_neg h1, if_neg h1]
  by_cases h2 : j.val < 1024
  · rw [if_pos h2, if_pos h2, conv_lane m c t _ _ hr h2]
  rw [if_neg h2, if_neg h2, part_lane m c t _ _ hr hj]

/-- What a point writes of the third result. -/
theorem gate_point (c : Dev nD) (t : Fin cfg0.N) (r : Fin 512) (j : Fin 2048) :
    ((outsAt0 m c t.val t.isLt).2.2.1 : Vec Ideal S512x2048 .bf16) (ix2 r j) = lane (m ((c : Thread nD τ).loc main_arg0)) (m ((c : Thread nD τ).loc main_arg1)) (m ((c : Thread nD τ).loc main_arg2)) (512 * t.val + r.val) (3600 + j.val) := by
  rw [gate_out]
  unfold lane
  refine Finset.sum_congr rfl fun e _ => ?_
  rw [rows_at, blk_gates, gates_w]

/-- The attention's queries, keys and values, as an array. -/
def foxResult (h : FVec Ideal S65536x1024 .f32) (g : FVec Ideal S1024 .f32) (w : FVec Ideal S1024x5648 .f32) : FVec Ideal S65536x1536 .bf16 :=
  fun i => foxLane h g w (i 0).val (i 1).val

/-- The cell's queries, keys, values and output gate, as an array. -/
def cellResult (h : FVec Ideal S65536x1024 .f32) (g : FVec Ideal S1024 .f32) (w : FVec Ideal S1024x5648 .f32) (cw : FVec Ideal S4x1024 .f32)
    (cb : FVec Ideal S1024 .f32) : FVec Ideal S65536x2048 .bf16 :=
  fun i => cellLane h g w cw cb (i 0).val (i 1).val

/-- The gates, as an array. -/
def gateResult (h : FVec Ideal S65536x1024 .f32) (g : FVec Ideal S1024 .f32) (w : FVec Ideal S1024x5648 .f32) : FVec Ideal S65536x2048 .bf16 :=
  fun i => lane h g w (i 0).val (3600 + (i 1).val)

/-- **The call's first result.** -/
theorem fox_array (c : Dev nD) : (dats m 0 c).arrAt 11 cfg0.N = foxResult (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  refine (congrArg _ (eq_ix2 y)).trans ((fox_point m c t (y 0) (y 1)).trans ?_)
  unfold foxResult
  have ht := points t
  have hr : (y 0).val < 512 := (y 0).isLt
  refine congrArg₂ _ ?_ ?_
  · blk_simp [idx t]
    try simp
    try omega
  · blk_simp [idx t]
    try simp

/-- **The call's second result.** -/
theorem cell_array (c : Dev nD) : (dats m 0 c).arrAt 12 cfg0.N = cellResult (m ((c : Thread nD τ).loc main_arg0)) (m ((c : Thread nD τ).loc main_arg1)) (m ((c : Thread nD τ).loc main_arg2)) (m ((c : Thread nD τ).loc main_arg6)) (m ((c : Thread nD τ).loc main_arg7)) := by
  refine (dats m 0 c).arrAt_eq_of_covers 12 _ (by decide +kernel) fun t _ y => ?_
  blk_simp
  rw [after0_12]
  refine (congrArg _ (eq_ix2 y)).trans ((cell_point m c t (y 0) (y 1)).trans ?_)
  unfold cellResult
  have ht := points t
  have hr : (y 0).val < 512 := (y 0).isLt
  refine congrArg₂ _ ?_ ?_
  · blk_simp [idx t]
    try simp
    try omega
  · blk_simp [idx t]
    try simp

/-- **The call's third result.** -/
theorem gate_array (c : Dev nD) : (dats m 0 c).arrAt 13 cfg0.N = gateResult (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]
  refine (congrArg _ (eq_ix2 y)).trans ((gate_point m c t (y 0) (y 1)).trans ?_)
  unfold gateResult
  have ht := points t
  have hr : (y 0).val < 512 := (y 0).isLt
  refine congrArg₂ _ ?_ ?_
  · blk_simp [idx t]
    try simp
    try omega
  · blk_simp [idx t]
    try simp

end Cert.Kernel5Ideal.Inproj
-- ==== Proof.Layer.InprojReference.lean ====
module

public import proofs.«01_k».proof.Proof.Gen.Reference5Ideal.Run
public import proofs.«01_k».proof.Proof.Layer.Project
public import proofs.«01_k».proof.Proof.Fox.Spec

@[expose] public section

/-!
What the reference of the input projection computes, lane by lane.
-/

set_option maxRecDepth 16384

noncomputable section

namespace Cert.Reference5Ideal.Inproj

open Idealize.ShloMosaic Idealize.ShloMosaic.TcCoe
open Cert.Reference5Ideal Cert.Reference5Ideal.Gen Cert.Reference5Ideal.Value Cert.Rows

/-- The rows, normed. -/
def normed (x : FVec Ideal S65536x1024 .f32) (g : FVec Ideal S1024 .f32) : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- Their product with every weight. -/
def projected (x : FVec Ideal S65536x1024 .f32) (g : FVec Ideal S1024 .f32) (w : FVec Ideal S1024x5648 .f32) : FVec Ideal S65536x5648 .f32 :=
  Host.dotGeneral dot_S65536x1024_S1024x5648_S65536x5648_1_0_0_1_n_n none (normed x g) w

/-- The attention's queries, keys and values. -/
def foxOf (p : FVec Ideal S65536x5648 .f32) : FVec Ideal S65536x1536 .bf16 :=
  truncf .bf16 (concatenate S65536x1536 1 [⟨S65536x512, (mulf (extractStridedSlice S65536x512 ![0, 0] p slices_S65536x5648_S65536x512_0_0) (broadcastInDim S65536x512 ![] bcast_S_S65536x512 (constant S_ .f32 0x3E000000#32)) : FVec Ideal S65536x512 .f32)⟩,
    ⟨S65536x512, (extractStridedSlice S65536x512 ![0, 512] p slices_S65536x5648_S65536x512_0_512 : FVec Ideal S65536x512 .f32)⟩,
    ⟨S65536x512, (extractStridedSlice S65536x512 ![0, 1024] p slices_S65536x5648_S65536x512_0_1024 : FVec Ideal S65536x512 .f32)⟩]
    concatenates_S65536x512_S65536x512_S65536x512_S65536x1536_d1) bitsLt_bf16_f32

/-- The gates. -/
def gateOf (p : FVec Ideal S65536x5648 .f32) : FVec Ideal S65536x2048 .bf16 :=
  truncf .bf16 (extractStridedSlice S65536x2048 ![0, 3600] p slices_S65536x5648_S65536x2048_0_3600) bitsLt_bf16_f32

/-- The cell's queries and keys, by sequence, after three rows of zeros. -/
def padded (p : FVec Ideal S65536x5648 .f32) : FVec Ideal S16x4099x1024 .f32 :=
  pad S16x4099x1024 ![0, 3, 0] ![0, 0, 0] ![0, 0, 0] (shapeCast S16x4096x1024 (extractStridedSlice S65536x1024 ![0, 1544] p slices_S65536x5648_S65536x1024_0_1544) shapeCasts_S65536x1024_S16x4096x1024) (sitofp .f32 (constantI S_ 32 0#32)) pads_S16x4096x1024_S16x4099x1024_000_300_000 h_S_

/-- One vector of lanes, for every row of every sequence. -/
def everywhere (b : FVec Ideal S1024 .f32) : FVec Ideal S16x4096x1024 .f32 :=
  broadcastInDim S16x4096x1024 ![0, 1, 2] bcast_S1x1x1024_S16x4096x1024_0_1_2 (broadcastInDim S1x1x1024 ![2] bcast_S1024_S1x1x1024_2 b)

/-- The convolution's terms, added up. -/
def convolved (q : FVec Ideal S16x4099x1024 .f32) (cw : FVec Ideal S4x1024 .f32) (cb : FVec Ideal S1024 .f32) : FVec Ideal S16x4096x1024 .f32 :=
  addf (addf (addf (addf (everywhere cb)
    (mulf (everywhere (shapeCast S1024 (extractStridedSlice S1x1024 ![0, 0] cw slices_S4x1024_S1x1024_0_0) shapeCasts_S1x1024_S1024)) (extractStridedSlice S16x4096x1024 ![0, 0, 0] q slices_S16x4099x1024_S16x4096x1024_0_0_0)))
    (mulf (everywhere (shapeCast S1024 (extractStridedSlice S1x1024 ![1, 0] cw slices_S4x1024_S1x1024_1_0) shapeCasts_S1x1024_S1024)) (extractStridedSlice S16x4096x1024 ![0, 1, 0] q slices_S16x4099x1024_S16x4096x1024_0_1_0)))
    (mulf (everywhere (shapeCast S1024 (extractStridedSlice S1x1024 ![2, 0] cw slices_S4x1024_S1x1024_2_0) shapeCasts_S1x1024_S1024)) (extractStridedSlice S16x4096x1024 ![0, 2, 0] q slices_S16x4099x1024_S16x4096x1024_0_2_0)))
    (mulf (everywhere (shapeCast S1024 (extractStridedSlice S1x1024 ![3, 0] cw slices_S4x1024_S1x1024_3_0) shapeCasts_S1x1024_S1024)) (extractStridedSlice S16x4096x1024 ![0, 3, 0] q slices_S16x4099x1024_S16x4096x1024_0_3_0))

/-- Every number by its logistic, laid back in rows. -/
def activated (v : FVec Ideal S16x4096x1024 .f32) : FVec Ideal S65536x1024 .f32 :=
  shapeCast S65536x1024 (mulf v (Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf v))))) shapeCasts_S16x4096x1024_S65536x1024

/-- The cell's queries, keys, values and output gate. -/
def cellOf (p : FVec Ideal S65536x5648 .f32) (a : FVec Ideal S65536x1024 .f32) : FVec Ideal S65536x2048 .bf16 :=
  truncf .bf16 (concatenate S65536x2048 1 [⟨S65536x512, (extractStridedSlice S65536x512 ![0, 0] a slices_S65536x1024_S65536x512_0_0 : FVec Ideal S65536x512 .f32)⟩,
    ⟨S65536x512, (mulf (extractStridedSlice S65536x512 ![0, 512] a slices_S65536x1024_S65536x512_0_512) (broadcastInDim S65536x512 ![] bcast_S_S65536x512 (constant S_ .f32 0x3DB504F3#32)) : FVec Ideal S65536x512 .f32)⟩,
    ⟨S65536x512, (extractStridedSlice S65536x512 ![0, 2568] p slices_S65536x5648_S65536x512_0_2568 : FVec Ideal S65536x512 .f32)⟩,
    ⟨S65536x512, (extractStridedSlice S65536x512 ![0, 3080] p slices_S65536x5648_S65536x512_0_3080 : FVec Ideal S65536x512 .f32)⟩]
    concatenates_S65536x512_S65536x512_S65536x512_S65536x512_S65536x2048_d1) bitsLt_bf16_f32

variable (m : (ℓ : Loc nD τ sig) → Buf (Elt Ideal) ℓ)

/-- The projection of the rows the call is given. -/
abbrev projection (c : Dev nD) : FVec Ideal S65536x5648 .f32 :=
  projected (m ((c : Thread nD τ).loc main_arg0)) (m ((c : Thread nD τ).loc main_arg1)) (m ((c : Thread nD τ).loc main_arg2))

set_option maxHeartbeats 4000000 in
/-- The second result, in those steps. -/
theorem res_eq (c : Dev nD) : res_out1 m c = cellOf (projection m c)
    (activated (convolved (padded (projection m c)) (m ((c : Thread nD τ).loc main_arg6)) (m ((c : Thread nD τ).loc main_arg7)))) := by
  unfold res_out1 res_main_v67
  rfl

/-- A normed lane. -/
theorem normed_at (x : FVec Ideal S65536x1024 .f32) (g : FVec Ideal S1024 .f32) (r : Fin 65536) (d : Fin 1024) :
    normed x g (ix2 r d) = norm (fun e => x (ix2 r e)) (fun e => g (ix1 e)) d := by
  pointwise [normed]
  rfl

/-- A lane of the projection. -/
theorem projected_at (x : FVec Ideal S65536x1024 .f32) (g : FVec Ideal S1024 .f32) (w : FVec Ideal S1024x5648 .f32) (r : Fin 65536) (j : Fin 5648) :
    projected x g w (ix2 r j) = lane x g w r j := by
  have hr := r.isLt
  have hj := j.isLt
  have key : projected x g w (ix2 r j) = ∑ e : Fin 1024, normed x g (ix2 r e) * w (ix2 e j) := by
    pointwise [projected]
  rw [key]
  unfold lane
  rw [show Fin.ofNat 65536 r.val = r from Fin.ext (Nat.mod_eq_of_lt hr), show Fin.ofNat 5648 j.val = j from Fin.ext (Nat.mod_eq_of_lt hj)]
  simp only [normed_at]

/-- A gate's lane. -/
theorem gate_at (p : FVec Ideal S65536x5648 .f32) (r : Fin 65536) (j : Fin 2048) :
    gateOf p (ix2 r j) = p (ix2 r ⟨3600 + j.val, by have := j.isLt; omega⟩) := by
  have hj := j.isLt
  pointwise [gateOf]

/-- A lane of the attention's part. -/
theorem fox_at (p : FVec Ideal S65536x5648 .f32) (r : Fin 65536) (j : Fin 1536) :
    foxOf p (ix2 r j) = if j.val < 512 then p (ix2 r ⟨j.val, by have := j.isLt; omega⟩) * Ideal.ofBits FTy.f32 1040187392#32
      else p (ix2 r ⟨j.val, by have := j.isLt; omega⟩) := by
  have hj := j.isLt
  pointwise [foxOf]
  by_cases h1 : j.val < 512
  · exact (dif_pos h1).trans (if_pos h1).symm
  refine (dif_neg h1).trans (Eq.trans ?_ (if_neg h1).symm)
  by_cases h2 : j.val - 512 < 512
  · refine (dif_pos h2).trans ?_
    exact congrArg (fun k => p (ix2 r k)) (Fin.ext (by show 512 + (j.val - 512) = j.val; omega))
  · refine (dif_neg h2).trans ?_
    exact congrArg (fun k => p (ix2 r k)) (Fin.ext (by show 1024 + (j.val - 512 - 512) = j.val; omega))

/-- A lane of the cell's part. -/
theorem cell_at (p : FVec Ideal S65536x5648 .f32) (a : FVec Ideal S65536x1024 .f32) (r : Fin 65536) (j : Fin 2048) :
    cellOf p a (ix2 r j) = if j.val < 512 then a (ix2 r (Fin.ofNat 1024 j.val))
      else if j.val < 1024 then a (ix2 r (Fin.ofNat 1024 j.val)) * Ideal.ofBits FTy.f32 1035273459#32
      else p (ix2 r ⟨1544 + j.val, by have := j.isLt; omega⟩) := by
  have hj := j.isLt
  pointwise [cellOf]
  by_cases h1 : j.val < 512
  · refine (dif_pos h1).trans (Eq.trans ?_ (if_pos h1).symm)
    exact congrArg (fun k => a (ix2 r k)) (Fin.ext (by show j.val = j.val % 1024; omega))
  refine (dif_neg h1).trans (Eq.trans ?_ (if_neg h1).symm)
  by_cases h2 : j.val - 512 < 512
  · refine (dif_pos h2).trans (Eq.trans ?_ (if_pos (by omega)).symm)
    exact congrArg (fun k => a (ix2 r k) * _) (Fin.ext (by show 512 + (j.val - 512) = j.val % 1024; omega))
  refine (dif_neg h2).trans (Eq.trans ?_ (if_neg (by omega)).symm)
  by_cases h3 : j.val - 512 - 512 < 512
  · refine (dif_pos h3).trans ?_
    exact congrArg (fun k => p (ix2 r k)) (Fin.ext (by show 2568 + (j.val - 512 - 512) = 1544 + j.val; omega))
  · refine (dif_neg h3).trans ?_
    exact congrArg (fun k => p (ix2 r k)) (Fin.ext (by show 3080 + (j.val - 512 - 512 - 512) = 1544 + j.val; omega))

/-- A lane after three rows of zeros. -/
theorem padded_at (p : FVec Ideal S65536x5648 .f32) (b : Fin 16) (i : Fin 4099) (d : Fin 1024) :
    padded p (ix3 b i d) = if i.val < 3 then 0 else p (ix2 (Fin.ofNat 65536 (4096 * b.val + i.val - 3)) (Fin.ofNat 5648 (1544 + d.val))) := by
  have hb := b.isLt
  have hi := i.isLt
  have hd := d.isLt
  pointwise [padded]
  by_cases h1 : i.val < 3
  · refine (dif_neg (by omega)).trans (Eq.trans ?_ (if_pos h1).symm)
    simp [FloatOps.sitofp]
  · refine (dif_pos (by omega)).trans (Eq.trans ?_ (if_neg h1).symm)
    refine congrArg p (congrArg₂ ix2 (Fin.ext ?_) (Fin.ext ?_))
    · show b.val * 4096 + (i.val - 3) = (4096 * b.val + i.val - 3) % 65536
      omega
    · show 1544 + d.val = (1544 + d.val) % 5648
      omega

/-- A lane of the convolution. -/
theorem convolved_at (q : FVec Ideal S16x4099x1024 .f32) (cw : FVec Ideal S4x1024 .f32) (cb : FVec Ideal S1024 .f32) (b : Fin 16) (i : Fin 4096) (d : Fin 1024) :
    convolved q cw cb (ix3 b i d) = fourTaps (cb (ix1 d)) (cw (ix2 0 d)) (q (ix3 b ⟨i.val, by have := i.isLt; omega⟩ d))
      (cw (ix2 1 d)) (q (ix3 b ⟨1 + i.val, by have := i.isLt; omega⟩ d)) (cw (ix2 2 d)) (q (ix3 b ⟨2 + i.val, by have := i.isLt; omega⟩ d))
      (cw (ix2 3 d)) (q (ix3 b ⟨3 + i.val, by have := i.isLt; omega⟩ d)) := by
  unfold fourTaps
  pointwise [convolved, everywhere]

/-- An activated lane, at its row. -/
theorem activated_at (v : FVec Ideal S16x4096x1024 .f32) (r : Fin 65536) (d : Fin 1024) :
    activated v (ix2 r d) = silu (v (ix3 (Fin.ofNat 16 (r.val / 4096)) (Fin.ofNat 4096 r.val) d)) := by
  have hr := r.isLt
  have e0 : (⟨r.val / 4096, by omega⟩ : Fin 16) = Fin.ofNat 16 (r.val / 4096) := Fin.ext (Nat.mod_eq_of_lt (by omega)).symm
  rw [← e0]
  pointwise [activated]
  rfl

/-- A lane of the convolution's operand, at row `r` of all rows. -/
theorem tap_at (h : FVec Ideal S65536x1024 .f32) (g : FVec Ideal S1024 .f32) (w : FVec Ideal S1024x5648 .f32) (r : Fin 65536) (d : Fin 1024) (k : ℕ)
    (i : Fin 4099) (hi : i.val = k + r.val % 4096) :
    padded (projected h g w) (ix3 (Fin.ofNat 16 (r.val / 4096)) i d) = tap h g w r k d := by
  have hr := r.isLt
  have hd := d.isLt
  have hi' := i.isLt
  have e0 : (Fin.ofNat 16 (r.val / 4096)).val = r.val / 4096 := Nat.mod_eq_of_lt (by omega)
  rw [padded_at, e0]
  unfold tap
  by_cases h1 : i.val < 3
  · rw [if_pos h1, if_pos (by omega)]
  · rw [if_neg h1, if_neg (by omega), projected_at]
    refine congrArg₂ (lane h g w) ?_ ?_
    · show (4096 * (r.val / 4096) + i.val - 3) % 65536 = r.val + k - 3
      omega
    · show (1544 + d.val) % 5648 = 1544 + d.val
      omega

/-- A lane of the cell's queries and keys. -/
theorem conv_at (h : FVec Ideal S65536x1024 .f32) (g : FVec Ideal S1024 .f32) (w : FVec Ideal S1024x5648 .f32) (cw : FVec Ideal S4x1024 .f32)
    (cb : FVec Ideal S1024 .f32) (r : Fin 65536) (d : Fin 1024) :
    activated (convolved (padded (projected h g w)) cw cb) (ix2 r d) = silu (conv h g w cw cb r d) := by
  have hd := d.isLt
  rw [activated_at, convolved_at, tap_at h g w r d 0 _ (by show r.val % 4096 = _; omega), tap_at h g w r d 1 _ rfl, tap_at h g w r d 2 _ rfl, tap_at h g w r d 3 _ rfl]
  unfold conv
  rw [show Fin.ofNat 1024 d.val = d from Fin.ext (Nat.mod_eq_of_lt hd)]

/-- **The first result**, lane by lane. -/
theorem fox_lane (h : FVec Ideal S65536x1024 .f32) (g : FVec Ideal S1024 .f32) (w : FVec Ideal S1024x5648 .f32) (r : Fin 65536) (j : Fin 1536) :
    foxOf (projected h g w) (ix2 r j) = foxLane h g w r j := by
  rw [fox_at, projected_at]
  rfl

/-- **The second result**, lane by lane. -/
theorem cell_lane (h : FVec Ideal S65536x1024 .f32) (g : FVec Ideal S1024 .f32) (w : FVec Ideal S1024x5648 .f32) (cw : FVec Ideal S4x1024 .f32)
    (cb : FVec Ideal S1024 .f32) (r : Fin 65536) (j : Fin 2048) :
    cellOf (projected h g w) (activated (convolved (padded (projected h g w)) cw cb)) (ix2 r j) = cellLane h g w cw cb r j := by
  rw [cell_at, projected_at, conv_at]
  unfold cellLane
  by_cases h1 : j.val < 512
  · rw [if_pos h1, if_pos h1, show (Fin.ofNat 1024 j.val).val = j.val from Nat.mod_eq_of_lt (by omega)]
  rw [if_neg h1, if_neg h1]
  by_cases h2 : j.val < 1024
  · rw [if_pos h2, if_pos h2, show (Fin.ofNat 1024 j.val).val = j.val from Nat.mod_eq_of_lt h2]
  rw [if_neg h2, if_neg h2]

/-- **The third result**, lane by lane. -/
theorem gate_lane (h : FVec Ideal S65536x1024 .f32) (g : FVec Ideal S1024 .f32) (w : FVec Ideal S1024x5648 .f32) (r : Fin 65536) (j : Fin 2048) :
    gateOf (projected h g w) (ix2 r j) = lane h g w r (3600 + j.val) := by
  rw [gate_at, projected_at]

end Cert.Reference5Ideal.Inproj
-- ==== Proof.Layer.CellHost.lean ====
module

public import proofs.«01_k».proof.Proof.Gen.Kernel6Ideal.Value
public import proofs.«01_k».proof.Proof.Fox.Spec
public import Idealize.ShloMosaic.Lib.Pipeline.ValueKit
public import Idealize.ShloMosaic.Lib.StableHlo.RunRead
public import Idealize.ShloMosaic.Lib.Pointwise

@[expose] public section

/-!
What the memory cell's call is given besides its arguments: the six lanes per head that multiply out to the
exponents, and the columns of factors.
-/

set_option maxRecDepth 16384

noncomputable section

namespace Cert.Kernel6Ideal.Cell

open Idealize.ShloMosaic Idealize.ShloMosaic.TcCoe
open Cert.Kernel6Ideal Cert.Kernel6Ideal.Gen

/-- A number in three half-width parts. -/
def parts (t : FVec Ideal S65536x4 .f32) : FVec Ideal S65536x4x3 .bf16 :=
  let t1 : FVec Ideal S65536x4 .f32 := subf t (extf .f32 (truncf .bf16 t bitsLt_bf16_f32) bitsLt_bf16_f32)
  let t2 : FVec Ideal S65536x4 .f32 := subf t1 (extf .f32 (truncf .bf16 t1 bitsLt_bf16_f32) bitsLt_bf16_f32)
  concatenate S65536x4x3 2 [⟨S65536x4x1, (broadcastInDim S65536x4x1 ![0, 1] bcast_S65536x4_S65536x4x1_0_1 (truncf .bf16 t bitsLt_bf16_f32) : FVec Ideal S65536x4x1 .bf16)⟩,
    ⟨S65536x4x1, (broadcastInDim S65536x4x1 ![0, 1] bcast_S65536x4_S65536x4x1_0_1 (truncf .bf16 t1 bitsLt_bf16_f32) : FVec Ideal S65536x4x1 .bf16)⟩,
    ⟨S65536x4x1, (broadcastInDim S65536x4x1 ![0, 1] bcast_S65536x4_S65536x4x1_0_1 (truncf .bf16 t2 bitsLt_bf16_f32) : FVec Ideal S65536x4x1 .bf16)⟩]
    concatenates_S65536x4x1_S65536x4x1_S65536x4x1_S65536x4x3_d2

/-- Three ones. -/
def ones : FVec Ideal S65536x4x3 .bf16 := broadcastInDim S65536x4x3 ![] bcast_S_S65536x4x3 (constant S_ .bf16 0x3F80#16)

/-- Six lanes per head, in the first 24 of 128 lanes. -/
def sixes (a b : FVec Ideal S65536x4x3 .bf16) : FVec Ideal S65536x128 .bf16 :=
  concatenate S65536x128 1 [⟨S65536x24, (shapeCast S65536x24 (concatenate S65536x4x6 2 [⟨S65536x4x3, a⟩, ⟨S65536x4x3, b⟩] concatenates_S65536x4x3_S65536x4x3_S65536x4x6_d2 : FVec Ideal S65536x4x6 .bf16) shapeCasts_S65536x4x6_S65536x24 : FVec Ideal S65536x24 .bf16)⟩,
    ⟨S65536x104, (broadcastInDim S65536x104 ![] bcast_S_S65536x104 (constant S_ .bf16 0x0000#16) : FVec Ideal S65536x104 .bf16)⟩]
    concatenates_S65536x24_S65536x104_S65536x128_d1

/-- The last row of each block of 256. -/
def lastRows (x : FVec Ideal S65536x4 .f32) : FVec Ideal S16x16x1x4 .f32 :=
  extractStridedSlice S16x16x1x4 ![0, 0, 255, 0] (shapeCast S16x16x256x4 x shapeCasts_S65536x4_S16x16x256x4) slices_S16x16x256x4_S16x16x1x4_0_0_255_0

/-- That row, for every row of its block. -/
def atEnd (x : FVec Ideal S65536x4 .f32) : FVec Ideal S65536x4 .f32 :=
  shapeCast S65536x4 (broadcastInDim S16x16x256x4 ![0, 1, 2, 3] bcast_S16x16x1x4_S16x16x256x4_0_1_2_3 (lastRows x)) shapeCasts_S16x16x256x4_S65536x4

/-- The last row of the block before, for every row of a block; zeros in the first block of a sequence. -/
def atStart (x : FVec Ideal S65536x4 .f32) : FVec Ideal S65536x4 .f32 :=
  shapeCast S65536x4 (broadcastInDim S16x16x256x4 ![0, 1, 2, 3] bcast_S16x16x1x4_S16x16x256x4_0_1_2_3
    (concatenate S16x16x1x4 1 [⟨S16x1x1x4, (broadcastInDim S16x1x1x4 ![] bcast_S_S16x1x1x4 (constant S_ .f32 0x00000000#32) : FVec Ideal S16x1x1x4 .f32)⟩,
      ⟨S16x15x1x4, (extractStridedSlice S16x15x1x4 ![0, 0, 0, 0] (lastRows x) slices_S16x16x1x4_S16x15x1x4_0_0_0_0 : FVec Ideal S16x15x1x4 .f32)⟩]
      concatenates_S16x1x1x4_S16x15x1x4_S16x16x1x4_d1 : FVec Ideal S16x16x1x4 .f32)) shapeCasts_S16x16x256x4_S65536x4

/-- The columns of factors. -/
def columns (z x n : FVec Ideal S65536x4 .f32) : FVec Ideal S65536x128 .f32 :=
  concatenate S65536x128 1 [⟨S65536x48, (broadcastInDim S65536x48 ![] bcast_S_S65536x48 (constant S_ .f32 0x00000000#32) : FVec Ideal S65536x48 .f32)⟩,
    ⟨S65536x4, (Host.exp (subf (atStart x) (atEnd x)) : FVec Ideal S65536x4 .f32)⟩, ⟨S65536x4, (Host.exp (subf z (atEnd x)) : FVec Ideal S65536x4 .f32)⟩,
    ⟨S65536x4, (Host.exp (Host.negf n) : FVec Ideal S65536x4 .f32)⟩, ⟨S65536x4, (Host.exp (subf (atStart x) x) : FVec Ideal S65536x4 .f32)⟩,
    ⟨S65536x64, (broadcastInDim S65536x64 ![] bcast_S_S65536x64 (constant S_ .f32 0x00000000#32) : FVec Ideal S65536x64 .f32)⟩]
    concatenates_S65536x48_S65536x4_S65536x4_S65536x4_S65536x4_S65536x64_S65536x128_d1

/-- Queries, keys, values and output gate, side by side. -/
def joined (q k v o : FVec Ideal S65536x512 .f32) : FVec Ideal S65536x2048 .bf16 :=
  truncf .bf16 (concatenate S65536x2048 1 [⟨S65536x512, q⟩, ⟨S65536x512, k⟩, ⟨S65536x512, v⟩, ⟨S65536x512, o⟩]
    concatenates_S65536x512_S65536x512_S65536x512_S65536x512_S65536x2048_d1) bitsLt_bf16_f32

variable (m : (ℓ : Loc nD τ sig) → Buf (Elt Ideal) ℓ)

/-- What the call finds as its rows. -/
theorem entry_joined (c : Dev nD) : (V m c main_v1 : FVec Ideal S65536x2048 .bf16)
    = joined (m ((c : Thread nD τ).loc main_arg0)) (m ((c : Thread nD τ).loc main_arg1)) (m ((c : Thread nD τ).loc main_arg2)) (m ((c : Thread nD τ).loc main_arg3)) := by
  show StableHlo.after hostOps0 _ (Proc.devRef .tc main_v1) = _
  after_reads_simp
  rfl

/-- What the call finds as the rows' six lanes. -/
theorem entry_left (c : Dev nD) : (V m c main_v20 : FVec Ideal S65536x128 .bf16)
    = sixes (parts (Host.negf (subf (m ((c : Thread nD τ).loc main_arg6) : FVec Ideal S65536x4 .f32) (m ((c : Thread nD τ).loc main_arg5))))) ones := by
  show StableHlo.after hostOps0 _ (Proc.devRef .tc main_v20) = _
  after_reads_simp
  rfl

/-- What the call finds as the sources' six lanes. -/
theorem entry_right (c : Dev nD) : (V m c main_v35 : FVec Ideal S65536x128 .bf16)
    = sixes ones (parts (subf (m ((c : Thread nD τ).loc main_arg4) : FVec Ideal S65536x4 .f32) (m ((c : Thread nD τ).loc main_arg5)))) := by
  show StableHlo.after hostOps0 _ (Proc.devRef .tc main_v35) = _
  after_reads_simp
  rfl

/-- What the call finds as the columns of factors. -/
theorem entry_columns (c : Dev nD) : (V m c main_v55 : FVec Ideal S65536x128 .f32)
    = columns (subf (m ((c : Thread nD τ).loc main_arg4) : FVec Ideal S65536x4 .f32) (m ((c : Thread nD τ).loc main_arg5)))
      (subf (m ((c : Thread nD τ).loc main_arg6) : FVec Ideal S65536x4 .f32) (m ((c : Thread nD τ).loc main_arg5))) (m ((c : Thread nD τ).loc main_arg6)) := by
  show StableHlo.after hostOps0 _ (Proc.devRef .tc main_v55) = _
  after_reads_simp
  rfl

/-- What the call finds as its gain. -/
theorem entry_norm (c : Dev nD) : (V m c main_v56 : FVec Ideal S1x512 .f32)
    = shapeCast S1x512 (m ((c : Thread nD τ).loc main_arg7) : FVec Ideal S512 .f32) shapeCasts_S512_S1x512 := by
  show StableHlo.after hostOps0 _ (Proc.devRef .tc main_v56) = _
  after_reads_simp
  rfl

/-- A lane of the sixes. -/
theorem sixes_at (a b : FVec Ideal S65536x4x3 .bf16) (r : Fin 65536) (h : Fin 4) (j : ℕ) (hj : j < 6) (l : Fin 128) (hl : l.val = 6 * h.val + j) :
    sixes a b (ix2 r l) = if h3 : j < 3 then a (ix3 r h ⟨j, h3⟩) else b (ix3 r h ⟨j - 3, by omega⟩) := by
  have hh := h.isLt
  pointwise [sixes]
  refine (dif_pos (show l.val < 24 by omega)).trans ?_
  have e1 : l.val % 6 = j := by omega
  have e2 : l.val / 6 = h.val := by omega
  by_cases h3 : j < 3
  · refine (dif_pos (show l.val % 6 < 3 by omega)).trans (Eq.trans ?_ (dif_pos h3).symm)
    exact congrArg₂ (fun u w => a (ix3 r u w)) (Fin.ext e2) (Fin.ext e1)
  · refine (dif_neg (show ¬l.val % 6 < 3 by omega)).trans (Eq.trans ?_ (dif_neg h3).symm)
    exact congrArg₂ (fun u w => b (ix3 r u w)) (Fin.ext e2) (Fin.ext (by show l.val % 6 - 3 = j - 3; omega))

/-- The parts of a real number: itself, and nothing twice. -/
theorem parts_at (t : FVec Ideal S65536x4 .f32) (r : Fin 65536) (h : Fin 4) (j : Fin 3) (a : ℝ) (ha : t (ix2 r h) = (a : EReal)) :
    parts t (ix3 r h j) = if j.val = 0 then (a : EReal) else 0 := by
  have hj := j.isLt
  have e : (a : EReal) - (a : EReal) = 0 := by rw [← EReal.coe_sub, sub_self, EReal.coe_zero]
  pointwise [parts]
  rw [ha, e, sub_zero]
  by_cases h0 : j.val < 1
  · exact (dif_pos h0).trans (if_pos (by omega)).symm
  refine (dif_neg h0).trans (Eq.trans ?_ (if_neg (by omega)).symm)
  split <;> rfl

/-- A one. -/
theorem ones_at (r : Fin 65536) (h : Fin 4) (j : Fin 3) : ones (ix3 r h j) = 1 := by
  pointwise [ones]

/-- Six of 128 lanes. -/
theorem sum_six (h : Fin 4) (f : Fin 128 → EReal) (g : ℕ → EReal) (hg : ∀ j, j < 6 → ∀ l : Fin 128, l.val = 6 * h.val + j → f l = g j) :
    ∑ l : Fin 128, (if 6 * h.val ≤ l.val ∧ l.val < 6 * h.val + 6 then f l else 0) = ∑ j : Fin 6, g j.val := by
  have hh := h.isLt
  refine (Fintype.sum_of_injective (fun j : Fin 6 => (⟨6 * h.val + j.val, by omega⟩ : Fin 128)) ?_ _ _ ?_ ?_).symm
  · intro u w e
    have := congrArg Fin.val e
    simp only at this
    exact Fin.ext (by omega)
  · intro l hl
    refine if_neg fun hc => hl ⟨⟨l.val - 6 * h.val, by omega⟩, Fin.ext ?_⟩
    show 6 * h.val + (l.val - 6 * h.val) = l.val
    omega
  · intro j
    have hj := j.isLt
    refine (hg j.val hj _ rfl).symm.trans (if_pos ⟨?_, ?_⟩).symm
    · show 6 * h.val ≤ 6 * h.val + j.val; omega
    · show 6 * h.val + j.val < 6 * h.val + 6; omega

/-- The six lanes multiply out to the exponent. -/
theorem six_exponent (z x : FVec Ideal S65536x4 .f32) (r s : Fin 65536) (h : Fin 4) (a b : ℝ) (ha : x (ix2 r h) = (a : EReal)) (hb : z (ix2 s h) = (b : EReal)) :
    ∑ l : Fin 128, (if 6 * h.val ≤ l.val ∧ l.val < 6 * h.val + 6
        then sixes (parts (Host.negf x)) ones (ix2 r l) * sixes ones (parts z) (ix2 s l) else 0) = ((b - a : ℝ) : EReal) := by
  have hn : Host.negf x (ix2 r h) = ((-a : ℝ) : EReal) := by
    rw [EReal.coe_neg, ← ha]; rfl
  rw [sum_six h _ (fun j => if j = 0 then ((-a : ℝ) : EReal) else if j = 3 then (b : EReal) else 0) ?_]
  · simp only [Fin.sum_univ_succ, Fin.sum_univ_zero]
    simp
    rw [← EReal.coe_neg, ← EReal.coe_add]
    congr 1
    ring
  · intro j hj l hl
    rw [sixes_at _ _ r h j hj l hl, sixes_at _ _ s h j hj l hl]
    by_cases h3 : j < 3
    · rw [dif_pos h3, dif_pos h3, ones_at, mul_one, parts_at _ r h _ _ hn]
      exact if_congr Iff.rfl rfl (if_neg (by omega)).symm
    · rw [dif_neg h3, dif_neg h3, ones_at, one_mul, parts_at _ s h _ _ hb, if_neg (show ¬j = 0 by omega)]
      exact if_congr (by show j - 3 = 0 ↔ j = 3; omega) rfl rfl

/-- The row at a block's end. -/
theorem atEnd_at (t : FVec Ideal S65536x4 .f32) (b j : ℕ) (hb : b < 16) (hj : j < 16) (r : Fin 65536) (h : Fin 4) (hr : r.val / 256 = 16 * b + j) :
    atEnd t (ix2 r h) = t (ix2 ⟨4096 * b + 256 * j + 255, by omega⟩ h) := by
  have := r.isLt
  pointwise [atEnd, lastRows]
  exact congrArg (fun u => t (ix2 u h)) (Fin.ext (by show r.val / 4096 * 4096 + r.val / 256 % 16 * 256 + 255 = 4096 * b + 256 * j + 255; omega))

/-- The row before a block, or nothing. -/
theorem atStart_at (t : FVec Ideal S65536x4 .f32) (b j : ℕ) (hb : b < 16) (hj : j < 16) (r : Fin 65536) (h : Fin 4) (hr : r.val / 256 = 16 * b + j) :
    atStart t (ix2 r h) = if j = 0 then 0 else t (ix2 ⟨4096 * b + (256 * j - 1), by omega⟩ h) := by
  have := r.isLt
  pointwise [atStart, lastRows]
  by_cases h0 : j = 0
  · exact (dif_pos (show r.val / 256 % 16 < 1 by omega)).trans (if_pos h0).symm
  · refine (dif_neg (show ¬r.val / 256 % 16 < 1 by omega)).trans (Eq.trans ?_ (if_neg h0).symm)
    exact congrArg (fun u => t (ix2 u h)) (Fin.ext (by show r.val / 4096 * 4096 + (r.val / 256 % 16 - 1) * 256 + 255 = 4096 * b + (256 * j - 1); omega))

/-- A lane of the columns. -/
theorem columns_at (z x n : FVec Ideal S65536x4 .f32) (r : Fin 65536) (h : Fin 4) :
    columns z x n (ix2 r (Fin.ofNat 128 (48 + h.val))) = Ideal.exp (atStart x (ix2 r h) - atEnd x (ix2 r h))
      ∧ columns z x n (ix2 r (Fin.ofNat 128 (52 + h.val))) = Ideal.exp (z (ix2 r h) - atEnd x (ix2 r h))
      ∧ columns z x n (ix2 r (Fin.ofNat 128 (56 + h.val))) = Ideal.exp (-n (ix2 r h))
      ∧ columns z x n (ix2 r (Fin.ofNat 128 (60 + h.val))) = Ideal.exp (atStart x (ix2 r h) - x (ix2 r h)) := by
  refine ⟨?_, ?_, ?_, ?_⟩ <;> pointwise [columns] <;> (match h with
    | ⟨0, _⟩ => rfl
    | ⟨1, _⟩ => rfl
    | ⟨2, _⟩ => rfl
    | ⟨3, _⟩ => rfl)

/-- The four arrays, side by side. -/
theorem joined_at (q k v o : FVec Ideal S65536x512 .f32) (r : Fin 65536) (l : Fin 512) :
    joined q k v o (ix2 r (Fin.ofNat 2048 l.val)) = q (ix2 r l) ∧ joined q k v o (ix2 r (Fin.ofNat 2048 (512 + l.val))) = k (ix2 r l)
      ∧ joined q k v o (ix2 r (Fin.ofNat 2048 (1024 + l.val))) = v (ix2 r l) ∧ joined q k v o (ix2 r (Fin.ofNat 2048 (1536 + l.val))) = o (ix2 r l) := by
  have hl := l.isLt
  have e0 : (Fin.ofNat 2048 l.val).val = l.val := Nat.mod_eq_of_lt (by omega)
  have e1 : (Fin.ofNat 2048 (512 + l.val)).val = 512 + l.val := Nat.mod_eq_of_lt (by omega)
  have e2 : (Fin.ofNat 2048 (1024 + l.val)).val = 1024 + l.val := Nat.mod_eq_of_lt (by omega)
  have e3 : (Fin.ofNat 2048 (1536 + l.val)).val = 1536 + l.val := Nat.mod_eq_of_lt (by omega)
  refine ⟨?_, ?_, ?_, ?_⟩ <;> pointwise [joined]
  · refine (dif_pos (by omega)).trans ?_
    exact congrArg (fun u => q (ix2 r u)) (Fin.ext e0)
  · refine (dif_neg (by omega)).trans ((dif_pos (by omega)).trans ?_)
    exact congrArg (fun u => k (ix2 r u)) (Fin.ext (by show (Fin.ofNat 2048 (512 + l.val)).val - 512 = l.val; omega))
  · refine (dif_neg (by omega)).trans ((dif_neg (by omega)).trans ((dif_pos (by omega)).trans ?_))
    exact congrArg (fun u => v (ix2 r u)) (Fin.ext (by show (Fin.ofNat 2048 (1024 + l.val)).val - 512 - 512 = l.val; omega))
  · refine (dif_neg (by omega)).trans ((dif_neg (by omega)).trans ((dif_neg (by omega)).trans ?_))
    exact congrArg (fun u => o (ix2 r u)) (Fin.ext (by show (Fin.ofNat 2048 (1536 + l.val)).val - 512 - 512 - 512 = l.val; omega))

/-- The gain, as a row. -/
theorem norm_at (g : FVec Ideal S512 .f32) (l : Fin 512) :
    (shapeCast S1x512 g shapeCasts_S512_S1x512 : FVec Ideal S1x512 .f32) (ix2 0 l) = g (ix1 l) := by
  pointwise

end Cert.Kernel6Ideal.Cell
-- ==== Proof.Fox.Words.lean ====
module

public import Idealize.ShloMosaic.Lib.Pointwise
public import Idealize.ShloMosaic.Lib.WordCmp

@[expose] public section

/-!
A choice by a comparison of two small index words is a choice by the comparison of their numbers.
-/

noncomputable section

namespace Cert.Words

open Idealize.ShloMosaic Idealize.ShloMosaic.WordCmp

variable {α : Type} (a b : ℕ) (x y : α)

/-- A choice by one number's lying below another. -/
theorem sel_slt (ha : a < 2 ^ 31) (hb : b < 2 ^ 31) :
    Scalar.select (IntOp.cmpi .slt (BitVec.ofNat 32 a) (BitVec.ofNat 32 b)) x y = if a < b then x else y := by
  rw [cmpi_slt_ofNat ha hb]
  by_cases h : a < b <;> simp [Scalar.select, h]

/-- A choice by one number's not exceeding another. -/
theorem sel_sle (ha : a < 2 ^ 31) (hb : b < 2 ^ 31) :
    Scalar.select (IntOp.cmpi .sle (BitVec.ofNat 32 a) (BitVec.ofNat 32 b)) x y = if a ≤ b then x else y := by
  rw [cmpi_sle_ofNat ha hb]
  by_cases h : a ≤ b <;> simp [Scalar.select, h]

/-- A choice by one number's being at least another. -/
theorem sel_sge (ha : a < 2 ^ 31) (hb : b < 2 ^ 31) :
    Scalar.select (IntOp.cmpi .sge (BitVec.ofNat 32 a) (BitVec.ofNat 32 b)) x y = if b ≤ a then x else y := by
  rw [cmpi_sge_ofNat ha hb]
  by_cases h : b ≤ a <;> simp [Scalar.select, h]

/-- A choice by two numbers' being equal. -/
theorem sel_eq (ha : a < 2 ^ 31) (hb : b < 2 ^ 31) :
    Scalar.select (IntOp.cmpi .eq (BitVec.ofNat 32 a) (BitVec.ofNat 32 b)) x y = if a = b then x else y := by
  rw [cmpi_eq_ofNat (by omega) (by omega)]
  by_cases h : a = b <;> simp [Scalar.select, h]

/-- A choice by a number's lying in a range. -/
theorem sel_range (lo hi : ℕ) (ha : a < 2 ^ 31) (hl : lo < 2 ^ 31) (hh : hi < 2 ^ 31) :
    Scalar.select (IntOp.andi (IntOp.cmpi .sge (BitVec.ofNat 32 a) (BitVec.ofNat 32 lo))
      (IntOp.cmpi .slt (BitVec.ofNat 32 a) (BitVec.ofNat 32 hi))) x y = if lo ≤ a ∧ a < hi then x else y := by
  rw [cmpi_sge_ofNat ha hl, cmpi_slt_ofNat ha hh]
  by_cases h : lo ≤ a <;> by_cases h' : a < hi <;> simp [Scalar.select, IntOp.andi, h, h']

end Cert.Words
-- ==== Proof.Layer.CellHead.lean ====
module

public import proofs.«01_k».proof.Proof.Gen.Kernel6Ideal.Skeleton
public import proofs.«01_k».proof.Proof.Fox.Spec
public import proofs.«01_k».proof.Proof.Fox.Words
public import proofs.«01_k».proof.Proof.Layer.Rows
public import Idealize.ShloMosaic.Lib.Pointwise

@[expose] public section

/-!
One block of 256 rows of the memory cell, head by head: what the body writes in each lane of the result, and what it
makes of the head's matrix. The four heads are the same functions of their number.
-/

set_option maxRecDepth 16384

noncomputable section

namespace Cert.Kernel6Ideal.Cell

open Idealize.ShloMosaic Idealize.ShloMosaic.TcCoe
open Cert.Kernel6Ideal Cert.Kernel6Ideal.Gen

/-- The values of a row with a one after them: lane 128 sums the weights. -/
def vaug (v : Vec Ideal S256x128 .bf16) (s e : Fin 256) : EReal :=
  if h : e.val < 128 then v (ix2 s ⟨e.val, h⟩) else if e.val = 128 then 1 else 0

/-- The weight of row `s` for row `r`: the exponential of the six lanes of head `h` multiplied out, and nothing for a later row. -/
def weight (h : ℕ) (la ra : Vec Ideal S256x128 .bf16) (r s : Fin 256) : EReal :=
  Ideal.exp (if s.val ≤ r.val then ∑ l : Fin 128, (if 6 * h ≤ l.val ∧ l.val < 6 * h + 6 then la (ix2 r l) * ra (ix2 s l) else 0) else ⊥)

/-- What row `r` reads from the matrix before the block and from the block's rows, in lane `e`. -/
def read (h : ℕ) (q k v la ra : Vec Ideal S256x128 .bf16) (x : Vec Ideal S256x128 .f32) (C : Vec Ideal S1x128x256 .f32) (r e : Fin 256) : EReal :=
  x (ix2 r (Fin.ofNat 128 (60 + h))) * ∑ d : Fin 128, q (ix2 r d) * C (ix3 0 d e)
    + ∑ s : Fin 256, (∑ d : Fin 128, q (ix2 r d) * k (ix2 s d)) * weight h la ra r s * vaug v s e

/-- Values over the larger of their weight and a bound. -/
def over (n : Fin 256 → EReal) (b : EReal) (e : Fin 128) : EReal :=
  Ideal.div (n ⟨e.val, Nat.lt_trans e.isLt (by decide)⟩) (max (FloatOps.absf (F := Ideal) (φ := .f32) (n 128)) b)

/-- A head's row by its root mean square, times the gain, through the output gate. -/
def gated (y g o : Fin 128 → EReal) (e : Fin 128) : EReal :=
  y e * Ideal.rsqrt (Ideal.div (∑ d, y d * y d) (Ideal.ofBits FTy.f32 1124073472#32) + Ideal.ofBits FTy.f32 897988541#32) * g e
    * Ideal.div 1 (1 + Ideal.exp (0 - o e))

/-- The head's block of the result. -/
def outOf (h : ℕ) (q k v o la ra : Vec Ideal S256x128 .bf16) (x : Vec Ideal S256x128 .f32) (C : Vec Ideal S1x128x256 .f32)
    (g : Vec Ideal S1x128 .f32) (r : Fin 256) (e : Fin 128) : EReal :=
  gated (over (read h q k v la ra x C r) (x (ix2 r (Fin.ofNat 128 (56 + h))))) (fun e => g (ix2 0 e)) (fun e => o (ix2 r e)) e

/-- The head's matrix after the block. -/
def nextOf (h : ℕ) (k v : Vec Ideal S256x128 .bf16) (x : Vec Ideal S256x128 .f32) (C : Vec Ideal S1x128x256 .f32) (d : Fin 128) (e : Fin 256) : EReal :=
  x (ix2 0 (Fin.ofNat 128 (48 + h))) * C (ix3 0 d e)
    + ∑ s : Fin 256, k (ix2 s d) * x (ix2 s (Fin.ofNat 128 (52 + h))) * vaug v s e

variable (q k v o la ra : Vec Ideal S256x128 .bf16) (x : Vec Ideal S256x128 .f32) (C : Vec Ideal S1x128x256 .f32) (g : Vec Ideal S1x128 .f32)

/-- The lane numbers of a row. -/
abbrev lanes : IVec S256x128 32 := iota .tc S256x128 32 [1] iota_S256x128_d1_w32

/-- A choice by the triangle. -/
theorem tri_sel (r s : Fin 256) (a b : EReal) : Scalar.select (k0_pay3 (ix2 r s)) a b = if s.val ≤ r.val then a else b := by
  have e : k0_pay3 (ix2 r s) = IntOp.cmpi CmpIPredicate.sle (BitVec.ofNat 32 s.val) (BitVec.ofNat 32 r.val) := by pointwise [k0_pay3]
  rw [e, Cert.Words.sel_sle _ _ _ _ (by omega) (by omega)]

/-- The one after the values. -/
theorem one_at (s : Fin 256) (e : Fin 128) : k0_pay4 (F := Ideal) (ix2 s e) = if e.val = 0 then 1 else 0 := by
  pointwise [k0_pay4]
  exact Cert.Words.sel_eq _ 0 _ _ (by omega) (by omega)

/-- Lane `e` of the values with the one. -/
theorem aug_cases (s e : Fin 256) :
    (if h : e.val < 128 then v (ix2 s ⟨e.val, h⟩) else k0_pay4 (F := Ideal) (ix2 s ⟨e.val - 128, by omega⟩)) = vaug v s e := by
  unfold vaug
  by_cases h : e.val < 128
  · rw [dif_pos h, dif_pos h]
  · rw [dif_neg h, dif_neg h, one_at]
    exact if_congr (by show e.val - 128 = 0 ↔ _; omega) rfl rfl

/-- The first head's values with the one, as the body makes them. -/
theorem aug0 (s e : Fin 256) : k0_pay10 v (ix2 s e) = vaug v s e := by
  pointwise [k0_pay10]
  exact aug_cases v s e

/-- The second head's values with the one, as the body makes them. -/
theorem aug1 (s e : Fin 256) : k0_pay19 k0_pay4 v (ix2 s e) = vaug v s e := by
  pointwise [k0_pay19]
  exact aug_cases v s e

/-- The third head's values with the one, as the body makes them. -/
theorem aug2 (s e : Fin 256) : k0_pay29 k0_pay4 v (ix2 s e) = vaug v s e := by
  pointwise [k0_pay29]
  exact aug_cases v s e

/-- The fourth head's values with the one, as the body makes them. -/
theorem aug3 (s e : Fin 256) : k0_pay42 k0_pay4 v (ix2 s e) = vaug v s e := by
  pointwise [k0_pay42]
  exact aug_cases v s e

/-- A head's six lanes, chosen by their numbers. -/
theorem six (h lo hi : ℕ) (hlo : lo = 6 * h) (hhi : hi = 6 * h + 6) (hh : h < 4) (r s : Fin 256) :
    Ideal.exp (Scalar.select (k0_pay3 (ix2 r s)) (∑ x : Fin 128, Scalar.select
      (IntOp.andi (IntOp.cmpi CmpIPredicate.sge (BitVec.ofNat 32 x.val) (BitVec.ofNat 32 lo)) (IntOp.cmpi CmpIPredicate.slt (BitVec.ofNat 32 x.val) (BitVec.ofNat 32 hi)))
      (la (ix2 r x) * ra (ix2 s x)) 0) (Ideal.ofBits FTy.f32 4286578688#32)) = weight h la ra r s := by
  subst hlo hhi
  unfold weight
  rw [tri_sel, Cert.Attn.ofBits_neg_inf]
  refine congrArg Ideal.exp (if_congr Iff.rfl (Finset.sum_congr rfl fun l _ => ?_) rfl)
  exact Cert.Words.sel_range _ _ _ _ _ (by omega) (by omega) (by omega)

/-- The second head's weights, as the body makes them. -/
theorem weight1 (r s : Fin 256) : k0_pay20 k0_pay3 lanes (k0_pay5 la) (k0_pay6 ra) (ix2 r s) = weight 1 la ra r s := by
  pointwise [k0_pay20, k0_pay5, k0_pay6, lanes]
  exact six la ra 1 6 12 rfl rfl (by decide) r s

/-- The third head's weighted scores, as the body makes them. -/
theorem scores2 (r s : Fin 256) : k0_pay30 k0_pay3 lanes (k0_pay5 la) (k0_pay6 ra) q k (ix2 r s)
    = (∑ d : Fin 128, q (ix2 r d) * k (ix2 s d)) * weight 2 la ra r s := by
  pointwise [k0_pay30, k0_pay5, k0_pay6, lanes, k0_pay27, k0_pay28]
  exact congrArg _ (six la ra 2 12 18 rfl rfl (by decide) r s)

/-- The fourth head's weighted scores, as the body makes them. -/
theorem scores3 (r s : Fin 256) : k0_pay43 k0_pay3 lanes (k0_pay5 la) (k0_pay6 ra) q k (ix2 r s)
    = (∑ d : Fin 128, q (ix2 r d) * k (ix2 s d)) * weight 3 la ra r s := by
  pointwise [k0_pay43, k0_pay5, k0_pay6, lanes, k0_pay40, k0_pay41]
  exact congrArg _ (six la ra 3 18 24 rfl rfl (by decide) r s)

/-- The first head's weights, as the body makes them. -/
theorem logit0 (r s : Fin 256) :
    Ideal.exp (Scalar.select (k0_pay3 (ix2 r s)) (k0_pay11 la ra (ix2 r s)) (Ideal.ofBits FTy.f32 4286578688#32)) = weight 0 la ra r s := by
  pointwise [k0_pay11, k0_pay5, k0_pay6]
  exact six la ra 0 0 6 rfl rfl (by decide) r s

/-- The first head's block of the result, as the body makes it. -/
theorem out0 (r : Fin 256) (e : Fin 128) :
    k0_pay16 (k0_pay13 k0_pay3 (k0_pay7 x) (k0_pay8 q) (k0_pay9 k) (k0_pay10 v) (k0_pay11 la ra) C)
      (k0_pay15 k0_pay3 (k0_pay7 x) (k0_pay8 q) (k0_pay9 k) (k0_pay10 v) (k0_pay11 la ra) C) g o (ix2 r e) = outOf 0 q k v o la ra x C g r e := by
  pointwise [k0_pay16, k0_pay13, k0_pay15, k0_pay7, k0_pay8, k0_pay9, k0_pay12]
  simp only [aug0, logit0]
  rfl

/-- The second head's block of the result, as the body makes it. -/
theorem out1 (r : Fin 256) (e : Fin 128) :
    (k0_pay26 (k0_pay24 (k0_pay7 x) (k0_pay17 q) (k0_pay19 k0_pay4 v) (k0_pay20 k0_pay3 lanes (k0_pay5 la) (k0_pay6 ra)) (k0_pay21 q k) C) (k0_pay25 g) o) (ix2 r e)
      = outOf 1 q k v o la ra x C g r e := by
  pointwise [k0_pay26, k0_pay24, k0_pay7, k0_pay17, k0_pay21, k0_pay25, k0_pay18, k0_pay22]
  simp only [aug1, weight1]
  rfl

/-- The third head's block of the result, as the body makes it. -/
theorem out2 (r : Fin 256) (e : Fin 128) :
    k0_pay39 (k0_pay37 (k0_pay27 q) (k0_pay29 k0_pay4 v) (k0_pay30 k0_pay3 lanes (k0_pay5 la) (k0_pay6 ra) q k) (k0_pay31 (k0_pay7 x)) (k0_pay32 (k0_pay7 x)) C g) (k0_pay38 o) (ix2 r e)
      = outOf 2 q k v o la ra x C g r e := by
  pointwise [k0_pay39, k0_pay37, k0_pay27, k0_pay31, k0_pay32, k0_pay7, k0_pay38, k0_pay35]
  simp only [aug2, scores2]
  rfl

/-- The fourth head's block of the result, as the body makes it. -/
theorem out3 (r : Fin 256) (e : Fin 128) :
    k0_pay1 (k0_pay51 (k0_pay40 q) (k0_pay42 k0_pay4 v) (k0_pay43 k0_pay3 lanes (k0_pay5 la) (k0_pay6 ra) q k) (k0_pay44 (k0_pay7 x)) (k0_pay45 (k0_pay7 x)) (k0_pay49 C) g) (k0_pay52 o) k0_pay53 (ix2 r e)
      = outOf 3 q k v o la ra x C g r e := by
  pointwise [k0_pay1, k0_pay51, k0_pay40, k0_pay44, k0_pay45, k0_pay7, k0_pay52, k0_pay53, k0_pay49, k0_pay48]
  simp only [aug3, scores3]
  rfl

/-- The first head's matrix after the block, as the body makes it. -/
theorem next0 (d : Fin 128) (e : Fin 256) :
    k0_pay14 (k0_pay7 x) (k0_pay9 k) (k0_pay10 v) C (ix3 0 d e) = nextOf 0 k v x C d e := by
  pointwise [k0_pay14, k0_pay7, k0_pay9, k0_pay12]
  simp only [aug0]
  rfl

/-- The second head's matrix after the block, as the body makes it. -/
theorem next1 (d : Fin 128) (e : Fin 256) :
    k0_pay23 (k0_pay7 x) (k0_pay18 k) (k0_pay19 k0_pay4 v) C (ix3 0 d e) = nextOf 1 k v x C d e := by
  pointwise [k0_pay23, k0_pay7, k0_pay18, k0_pay22]
  simp only [aug1]
  rfl

/-- The third head's matrix after the block, as the body makes it. -/
theorem next2 (d : Fin 128) (e : Fin 256) :
    k0_pay36 (k0_pay28 k) (k0_pay29 k0_pay4 v) (k0_pay33 (k0_pay7 x)) (k0_pay34 (k0_pay7 x)) C (ix3 0 d e) = nextOf 2 k v x C d e := by
  pointwise [k0_pay36, k0_pay28, k0_pay33, k0_pay34, k0_pay7, k0_pay35]
  simp only [aug2]
  rfl

/-- The fourth head's matrix after the block, as the body makes it. -/
theorem next3 (d : Fin 128) (e : Fin 256) :
    k0_pay50 (k0_pay41 k) (k0_pay42 k0_pay4 v) (k0_pay46 (k0_pay7 x)) (k0_pay47 (k0_pay7 x)) (k0_pay48 C) (ix3 0 d e) = nextOf 3 k v x C d e := by
  pointwise [k0_pay50, k0_pay41, k0_pay46, k0_pay47, k0_pay7, k0_pay48]
  simp only [aug3]
  rfl

end Cert.Kernel6Ideal.Cell
-- ==== Proof.Layer.CellPoint.lean ====
module

public import proofs.«01_k».proof.Proof.Layer.CellHost
public import proofs.«01_k».proof.Proof.Layer.CellHead
public import Idealize.ShloMosaic.Lib.Pipeline.ReadBack
public import Idealize.ShloMosaic.Lib.WritesUnit

@[expose] public section

/-!
One grid point of the memory cell: the four heads' blocks of the result, side by side, and the four matrices it leaves.
-/

set_option maxRecDepth 16384

noncomputable section

namespace Cert.Kernel6Ideal.Cell

open Idealize.ShloMosaic Idealize.ShloMosaic.TcCoe
open Cert.Kernel6Ideal Cert.Kernel6Ideal.Gen

/-- Lane `e` of head `h`, among the 512 lanes of a row. -/
def lane (h : Fin 4) (e : Fin 128) : Fin 512 := ⟨128 * h.val + e.val, by omega⟩

/-- 128 lanes of 256 rows, from lane `k` on. -/
def cut (k : ℕ) (x : Vec Ideal S256x512 .bf16) : Vec Ideal S256x128 .bf16 := fun y => x (ix2 (y 0) (Fin.ofNat 512 (k + (y 1).val)))

/-- 128 lanes of the gain, from lane `k` on. -/
def cutRow (k : ℕ) (g : Vec Ideal S1x512 .f32) : Vec Ideal S1x128 .f32 := fun y => g (ix2 0 (Fin.ofNat 512 (k + (y 1).val)))

/-- One of the four matrices. -/
def cutHead (h : ℕ) (C : Vec Ideal S4x128x256 .f32) : Vec Ideal S1x128x256 .f32 := fun y => C (ix3 (Fin.ofNat 4 h) (y 1) (y 2))

/-- A load of 128 lanes is their cut. -/
theorem ld_cut (k : ℕ) (x : Vec Ideal S256x512 .bf16) (inb : ∀ a, (![0, k] : Fin 2 → ℕ) a + (![256, 128] : Fin 2 → ℕ) a ≤ S256x512.size a) :
    View.ld (Val := Elt Ideal) (e' := .bf16) x (Rect.unit (s := S256x512) ![0, k] ![256, 128] inb) = cut k x := by
  have h1 := inb 1
  simp at h1
  refine funext fun y => View.ld_unit_apply_of x _ _ inb _ _ fun a => ?_
  have y1 : (y 1).val < 128 := (y 1).isLt
  match a with
  | ⟨0, _⟩ => exact (Nat.zero_add _).symm
  | ⟨1, _⟩ => exact Nat.mod_eq_of_lt (by omega)

/-- The same of the gain. -/
theorem ld_cutRow (k : ℕ) (x : Vec Ideal S1x512 .f32) (inb : ∀ a, (![0, k] : Fin 2 → ℕ) a + (![1, 128] : Fin 2 → ℕ) a ≤ S1x512.size a) :
    View.ld (Val := Elt Ideal) (e' := .f32) x (Rect.unit (s := S1x512) ![0, k] ![1, 128] inb) = cutRow k x := by
  have h1 := inb 1
  simp at h1
  refine funext fun y => View.ld_unit_apply_of x _ _ inb _ _ fun a => ?_
  have y1 : (y 1).val < 128 := (y 1).isLt
  have y0 : (y 0).val = 0 := Nat.lt_one_iff.mp (y 0).isLt
  match a with
  | ⟨0, _⟩ => exact (y0.symm.trans (Nat.zero_add _).symm)
  | ⟨1, _⟩ => exact Nat.mod_eq_of_lt (by omega)

/-- A load of one matrix. -/
theorem ld_cutHead (h : ℕ) (x : Vec Ideal S4x128x256 .f32) (inb : ∀ a, (![h, 0, 0] : Fin 3 → ℕ) a + (![1, 128, 256] : Fin 3 → ℕ) a ≤ S4x128x256.size a) :
    View.ld (Val := Elt Ideal) (e' := .f32) x (Rect.unit (s := S4x128x256) ![h, 0, 0] ![1, 128, 256] inb) = cutHead h x := by
  have h0 := inb 0
  simp at h0
  refine funext fun y => View.ld_unit_apply_of x _ _ inb _ _ fun a => ?_
  have y0 : (y 0).val = 0 := Nat.lt_one_iff.mp (y 0).isLt
  match a with
  | ⟨0, _⟩ => exact (Nat.mod_eq_of_lt (by omega)).trans (by show h = h + (y 0).val; omega)
  | ⟨1, _⟩ => exact (Nat.zero_add _).symm
  | ⟨2, _⟩ => exact (Nat.zero_add _).symm

/-- Four blocks of 128 lanes, stored side by side. -/
theorem blocks_at (v : View sig .tc .vmem S256x512 .bf16) (f : v.ty.Contents (Elt Ideal)) (p0 p1 p2 p3 : Vec Ideal S256x128 .bf16)
    (F : Fin 4 → Fin 256 → Fin 128 → EReal) (h0 : ∀ r e, p0 (ix2 r e) = F 0 r e) (h1 : ∀ r e, p1 (ix2 r e) = F 1 r e)
    (h2 : ∀ r e, p2 (ix2 r e) = F 2 r e) (h3 : ∀ r e, p3 (ix2 r e) = F 3 r e) (h : Fin 4) (r : Fin 256) (e : Fin 128) :
    v.read (Elt Ideal) (v.writes (Elt Ideal) f
        [⟨Rect.unit ![0, 384] ![256, 128] inb_S256x512_S256x128_0_384, p3⟩, ⟨Rect.unit ![0, 256] ![256, 128] inb_S256x512_S256x128_0_256, p2⟩,
          ⟨Rect.unit ![0, 128] ![256, 128] inb_S256x512_S256x128_0_128, p1⟩, ⟨Rect.unit ![0, 0] ![256, 128] inb_S256x512_S256x128_0_0, p0⟩]) (ix2 r (lane h e))
      = F h r e := by
  have he := e.isLt
  match h with
  | ⟨0, _⟩ =>
    rw [View.read_writes_cons_unit_of_not_mem v f _ _ _ _ rfl 1 (.inl (show 128 * 0 + e.val < 384 by omega)),
      View.read_writes_cons_unit_of_not_mem v f _ _ _ _ rfl 1 (.inl (show 128 * 0 + e.val < 256 by omega)),
      View.read_writes_cons_unit_of_not_mem v f _ _ _ _ rfl 1 (.inl (show 128 * 0 + e.val < 128 by omega))]
    refine (View.read_writes_cons_unit_of_mem v f _ _ _ _ (ix2 r e) rfl fun a => ?_).trans (h0 r e)
    match a with
    | ⟨0, _⟩ => exact (Nat.zero_add _).symm
    | ⟨1, _⟩ => exact (show 128 * 0 + e.val = 0 + e.val by omega)
  | ⟨1, _⟩ =>
    rw [View.read_writes_cons_unit_of_not_mem v f _ _ _ _ rfl 1 (.inl (show 128 * 1 + e.val < 384 by omega)),
      View.read_writes_cons_unit_of_not_mem v f _ _ _ _ rfl 1 (.inl (show 128 * 1 + e.val < 256 by omega))]
    refine (View.read_writes_cons_unit_of_mem v f _ _ _ _ (ix2 r e) rfl fun a => ?_).trans (h1 r e)
    match a with
    | ⟨0, _⟩ => exact (Nat.zero_add _).symm
    | ⟨1, _⟩ => exact (show 128 * 1 + e.val = 128 + e.val by omega)
  | ⟨2, _⟩ =>
    rw [View.read_writes_cons_unit_of_not_mem v f _ _ _ _ rfl 1 (.inl (show 128 * 2 + e.val < 384 by omega))]
    refine (View.read_writes_cons_unit_of_mem v f _ _ _ _ (ix2 r e) rfl fun a => ?_).trans (h2 r e)
    match a with
    | ⟨0, _⟩ => exact (Nat.zero_add _).symm
    | ⟨1, _⟩ => exact (show 128 * 2 + e.val = 256 + e.val by omega)
  | ⟨3, _⟩ =>
    refine (View.read_writes_cons_unit_of_mem v f _ _ _ _ (ix2 r e) rfl fun a => ?_).trans (h3 r e)
    match a with
    | ⟨0, _⟩ => exact (Nat.zero_add _).symm
    | ⟨1, _⟩ => exact (show 128 * 3 + e.val = 384 + e.val by omega)

/-- Four matrices, stored one after the other. -/
theorem heads_at (v : View sig .tc .vmem S4x128x256 .f32) (f : v.ty.Contents (Elt Ideal)) (L : List (View.Piece (Elt Ideal) S4x128x256 .f32))
    (p0 p1 p2 p3 : Vec Ideal S1x128x256 .f32)
    (F : Fin 4 → Fin 128 → Fin 256 → EReal) (h0 : ∀ d e, p0 (ix3 0 d e) = F 0 d e) (h1 : ∀ d e, p1 (ix3 0 d e) = F 1 d e)
    (h2 : ∀ d e, p2 (ix3 0 d e) = F 2 d e) (h3 : ∀ d e, p3 (ix3 0 d e) = F 3 d e) (h : Fin 4) (d : Fin 128) (e : Fin 256) :
    v.read (Elt Ideal) (v.writes (Elt Ideal) f
        (⟨Rect.unit ![3, 0, 0] ![1, 128, 256] inb_S4x128x256_S1x128x256_3_0_0, p3⟩ :: ⟨Rect.unit ![2, 0, 0] ![1, 128, 256] inb_S4x128x256_S1x128x256_2_0_0, p2⟩
          :: ⟨Rect.unit ![1, 0, 0] ![1, 128, 256] inb_S4x128x256_S1x128x256_1_0_0, p1⟩ :: ⟨Rect.unit ![0, 0, 0] ![1, 128, 256] inb_S4x128x256_S1x128x256_0_0_0, p0⟩ :: L)) (ix3 h d e)
      = F h d e := by
  match h with
  | ⟨0, _⟩ =>
    rw [View.read_writes_cons_unit_of_not_mem v f _ _ _ _ rfl 0 (.inl (show 0 < 3 by omega)),
      View.read_writes_cons_unit_of_not_mem v f _ _ _ _ rfl 0 (.inl (show 0 < 2 by omega)),
      View.read_writes_cons_unit_of_not_mem v f _ _ _ _ rfl 0 (.inl (show 0 < 1 by omega))]
    refine (View.read_writes_cons_unit_of_mem v f _ _ _ _ (ix3 0 d e) rfl fun a => ?_).trans (h0 d e)
    match a with
    | ⟨0, _⟩ => rfl
    | ⟨1, _⟩ => exact (Nat.zero_add _).symm
    | ⟨2, _⟩ => exact (Nat.zero_add _).symm
  | ⟨1, _⟩ =>
    rw [View.read_writes_cons_unit_of_not_mem v f _ _ _ _ rfl 0 (.inl (show 1 < 3 by omega)),
      View.read_writes_cons_unit_of_not_mem v f _ _ _ _ rfl 0 (.inl (show 1 < 2 by omega))]
    refine (View.read_writes_cons_unit_of_mem v f _ _ _ _ (ix3 0 d e) rfl fun a => ?_).trans (h1 d e)
    match a with
    | ⟨0, _⟩ => rfl
    | ⟨1, _⟩ => exact (Nat.zero_add _).symm
    | ⟨2, _⟩ => exact (Nat.zero_add _).symm
  | ⟨2, _⟩ =>
    rw [View.read_writes_cons_unit_of_not_mem v f _ _ _ _ rfl 0 (.inl (show 2 < 3 by omega))]
    refine (View.read_writes_cons_unit_of_mem v f _ _ _ _ (ix3 0 d e) rfl fun a => ?_).trans (h2 d e)
    match a with
    | ⟨0, _⟩ => rfl
    | ⟨1, _⟩ => exact (Nat.zero_add _).symm
    | ⟨2, _⟩ => exact (Nat.zero_add _).symm
  | ⟨3, _⟩ =>
    refine (View.read_writes_cons_unit_of_mem v f _ _ _ _ (ix3 0 d e) rfl fun a => ?_).trans (h3 d e)
    match a with
    | ⟨0, _⟩ => rfl
    | ⟨1, _⟩ => exact (Nat.zero_add _).symm
    | ⟨2, _⟩ => exact (Nat.zero_add _).symm

/-- The matrices start at nothing. -/
theorem fill_eq : k0_pay2 (F := Ideal) = fun _ => (0 : EReal) := by
  funext y
  pointwise [k0_pay2]

variable (m : (ℓ : Loc nD τ sig) → Buf (Elt Ideal) ℓ)

/-- The matrices a point finds: nothing in the first block of a sequence, else what the point before left. -/
def found (c : Dev nD) (t : Fin cfg0.N) : Vec Ideal S4x128x256 .f32 :=
  if t.val % 16 = 0 then fun _ => (0 : EReal) else (outsAt0 m c (t.val - 1) (by have := t.isLt; omega)).2

/-- A head's block of a point's result. -/
def blockOf (c : Dev nD) (t : Fin cfg0.N) (C : Vec Ideal S4x128x256 .f32) (h : Fin 4) (r : Fin 256) (e : Fin 128) : EReal :=
  outOf h.val (cut (128 * h.val) (iblk m c 0 t)) (cut (128 * h.val) (iblk m c 1 t)) (cut (128 * h.val) (iblk m c 2 t)) (cut (128 * h.val) (iblk m c 3 t))
    (iblk m c 4 t) (iblk m c 5 t) (iblk m c 6 t) (cutHead h.val C) (cutRow (128 * h.val) (iblk m c 7 t)) r e

/-- A head's matrix after a point. -/
def leftOf (c : Dev nD) (t : Fin cfg0.N) (C : Vec Ideal S4x128x256 .f32) (h : Fin 4) (d : Fin 128) (e : Fin 256) : EReal :=
  nextOf h.val (cut (128 * h.val) (iblk m c 1 t)) (cut (128 * h.val) (iblk m c 2 t)) (iblk m c 6 t) (cutHead h.val C) d e

set_option maxHeartbeats 4000000 in
/-- **What a point writes.** -/
theorem point_out (c : Dev nD) (t : Fin cfg0.N) (h : Fin 4) (r : Fin 256) (e : Fin 128) :
    (outsAt0 m c t.val t.isLt).1 (ix2 r (lane h e)) = blockOf m c t (found m c t) h r e := by
  unfold found
  by_cases ht : t.val % 16 = 0
  · rw [if_pos ht, outsAt0_A m c t ht]
    frame_open
    simp (disch := decide) only [View.ld_unit_lit', View.readAt_eq_ld, Memref.IsWhole.read_unread, read_unread_whole, ↓ View.readCov_skip, ↓ View.readCov_cons_toLoadRect, ↓ View.readCov_fill]
    simp only [ld_cut, ld_cutRow, ld_cutHead, fill_eq]
    refine blocks_at _ _ _ _ _ _ (blockOf m c t fun _ => (0 : EReal)) ?_ ?_ ?_ ?_ h r e
    · exact fun r e => out0 _ _ _ _ _ _ _ _ _ r e
    · exact fun r e => out1 _ _ _ _ _ _ _ _ _ r e
    · exact fun r e => out2 _ _ _ _ _ _ _ _ _ r e
    · exact fun r e => out3 _ _ _ _ _ _ _ _ _ r e
  · rw [if_neg ht, outsAt0_B m c t ht]
    frame_open
    simp (disch := decide) only [View.ld_unit_lit', View.readAt_eq_ld, Memref.IsWhole.read_unread, read_unread_whole, ↓ View.readCov_skip, ↓ View.readCov_cons_toLoadRect, ↓ View.readCov_fill]
    simp only [ld_cut, ld_cutRow, ld_cutHead]
    refine blocks_at _ _ _ _ _ _ (blockOf m c t _) ?_ ?_ ?_ ?_ h r e
    · exact fun r e => out0 _ _ _ _ _ _ _ _ _ r e
    · exact fun r e => out1 _ _ _ _ _ _ _ _ _ r e
    · exact fun r e => out2 _ _ _ _ _ _ _ _ _ r e
    · exact fun r e => out3 _ _ _ _ _ _ _ _ _ r e

set_option maxHeartbeats 4000000 in
/-- **What a point leaves.** -/
theorem point_left (c : Dev nD) (t : Fin cfg0.N) (h : Fin 4) (d : Fin 128) (e : Fin 256) :
    (outsAt0 m c t.val t.isLt).2 (ix3 h d e) = leftOf m c t (found m c t) h d e := by
  unfold found
  by_cases ht : t.val % 16 = 0
  · rw [if_pos ht, outsAt0_A m c t ht]
    frame_open
    simp (disch := decide) only [View.ld_unit_lit', View.readAt_eq_ld, Memref.IsWhole.read_unread, read_unread_whole, ↓ View.readCov_skip, ↓ View.readCov_cons_toLoadRect, ↓ View.readCov_fill]
    simp only [ld_cut, ld_cutRow, ld_cutHead, fill_eq]
    refine heads_at _ _ _ _ _ _ _ (leftOf m c t fun _ => (0 : EReal)) ?_ ?_ ?_ ?_ h d e
    · exact fun d e => next0 _ _ _ _ d e
    · exact fun d e => next1 _ _ _ _ d e
    · exact fun d e => next2 _ _ _ _ d e
    · exact fun d e => next3 _ _ _ _ d e
  · rw [if_neg ht, outsAt0_B m c t ht]
    frame_open
    simp (disch := decide) only [View.ld_unit_lit', View.readAt_eq_ld, Memref.IsWhole.read_unread, read_unread_whole, ↓ View.readCov_skip, ↓ View.readCov_cons_toLoadRect, ↓ View.readCov_fill]
    simp only [ld_cut, ld_cutRow, ld_cutHead]
    refine heads_at _ _ _ _ _ _ _ (leftOf m c t _) ?_ ?_ ?_ ?_ h d e
    · exact fun d e => next0 _ _ _ _ d e
    · exact fun d e => next1 _ _ _ _ d e
    · exact fun d e => next2 _ _ _ _ d e
    · exact fun d e => next3 _ _ _ _ d e

end Cert.Kernel6Ideal.Cell
-- ==== Proof.Layer.CellSum.lean ====
module

public import proofs.«01_k».proof.Proof.Fox.Spec

@[expose] public section

/-!
# The memory cell over the reals

One head of one sequence. The cell keeps a matrix of 128 rows: after `j` blocks of 256 rows it is the sum of the keys
by the values of all rows so far, each by the exponential of its gate, against the exponent at the block's end. What a
row reads is the sum over itself and the rows before it, and dividing by the larger of its weight and a bound takes
away whatever the exponents were measured from.
-/

noncomputable section

namespace Cert.MemoryCell

open Idealize.ShloMosaic

variable (Q K : ℕ → Fin 128 → ℝ) (U : ℕ → Fin 256 → ℝ) (z x : ℕ → ℝ)

/-- The exponent before block `j`. -/
def start (j : ℕ) : ℝ := if j = 0 then 0 else x (256 * j - 1)

/-- The matrix before block `j`. -/
def matrix (j : ℕ) (d : Fin 128) (e : Fin 256) : ℝ :=
  ∑ s ∈ Finset.range (256 * j), Real.exp (z s - start x j) * K s d * U s e

/-- What row `n` reads, in lane `e`. -/
def seen (n : ℕ) (e : Fin 256) : ℝ :=
  ∑ s ∈ Finset.range (n + 1), Real.exp (z s - x n) * (∑ d, Q n d * K s d) * U s e

/-- One block more. -/
theorem matrix_step (j : ℕ) (d : Fin 128) (e : Fin 256) :
    Real.exp (start x j - start x (j + 1)) * matrix K U z x j d e
      + ∑ s : Fin 256, K (256 * j + s.val) d * Real.exp (z (256 * j + s.val) - start x (j + 1)) * U (256 * j + s.val) e
    = matrix K U z x (j + 1) d e := by
  unfold matrix
  rw [show 256 * (j + 1) = 256 * j + 256 by ring, Finset.sum_range_add, Finset.mul_sum]
  refine congrArg₂ (· + ·) (Finset.sum_congr rfl fun s _ => ?_) ?_
  · rw [← mul_assoc, ← mul_assoc, ← Real.exp_add]
    congr 3
    ring
  · rw [Finset.sum_range]
    exact Finset.sum_congr rfl fun s _ => by ring

/-- The matrix gives the earlier blocks, the block's own rows the rest. -/
theorem seen_eq (j r : ℕ) (hr : r < 256) (e : Fin 256) :
    Real.exp (start x j - x (256 * j + r)) * (∑ d, Q (256 * j + r) d * matrix K U z x j d e)
      + ∑ s : Fin 256, (∑ d, Q (256 * j + r) d * K (256 * j + s.val) d)
          * (if s.val ≤ r then Real.exp (z (256 * j + s.val) - x (256 * j + r)) else 0) * U (256 * j + s.val) e
    = seen Q K U z x (256 * j + r) e := by
  unfold seen matrix
  rw [show 256 * j + r + 1 = 256 * j + (r + 1) by ring, Finset.sum_range_add]
  refine congrArg₂ (· + ·) ?_ ?_
  · simp only [Finset.mul_sum, Finset.sum_mul]
    rw [Finset.sum_comm]
    refine Finset.sum_congr rfl fun s _ => Finset.sum_congr rfl fun d _ => ?_
    rw [show z s - x (256 * j + r) = (start x j - x (256 * j + r)) + (z s - start x j) by ring, Real.exp_add]
    ring
  · rw [← Finset.sum_range (fun s => (∑ d, Q (256 * j + r) d * K (256 * j + s) d)
      * (if s ≤ r then Real.exp (z (256 * j + s) - x (256 * j + r)) else 0) * U (256 * j + s) e)]
    rw [show 256 = (r + 1) + (255 - r) by omega, Finset.sum_range_add]
    rw [Finset.sum_eq_zero (s := Finset.range (255 - r)) fun s _ => by rw [if_neg (by omega)]; ring, add_zero]
    refine Finset.sum_congr rfl fun s hs => ?_
    rw [if_pos (by have := Finset.mem_range.1 hs; omega)]
    have : (r + 1) + (255 - r) = 256 := by omega
    rw [this]
    ring

/-- The exponential of a real exponent, or nothing. -/
theorem exp_if (p : Prop) [Decidable p] (a : ℝ) : Ideal.exp (if p then (a : EReal) else ⊥) = ((if p then Real.exp a else 0 : ℝ) : EReal) := by
  by_cases h : p
  · rw [if_pos h, if_pos h, Ideal.exp_coe]
  · rw [if_neg h, if_neg h]; simp

/-- A sum of products of reals. -/
theorem coe_dot {ι : Type*} (A : Finset ι) (f g : ι → ℝ) : ∑ i ∈ A, (f i : EReal) * (g i : EReal) = ((∑ i ∈ A, f i * g i : ℝ) : EReal) := by
  rw [← Cert.Softmax.coe_sum]
  exact Finset.sum_congr rfl fun i _ => (EReal.coe_mul _ _).symm

variable (c i : ℕ → ℝ)

/-- What row `n` reads, with the gates' own exponents. -/
def full (n : ℕ) (e : Fin 256) : ℝ :=
  ∑ s ∈ Finset.range (n + 1), Real.exp (c n - c s + i s) * (∑ d, Q n d * K s d) * U s e

/-- The cell's row: what it reads over the larger of its weight and one. -/
def hidden (n : ℕ) (e : Fin 256) : ℝ := full Q K U c i n e / max |full Q K U c i n 128| 1

/-- What is measured from `m` is less by that factor. -/
theorem seen_full (m : ℕ → ℝ) (n : ℕ) (e : Fin 256) :
    seen Q K U (fun s => i s - c s) (fun s => m s - c s) n e = Real.exp (-m n) * full Q K U c i n e := by
  unfold seen full
  rw [Finset.mul_sum]
  refine Finset.sum_congr rfl fun s _ => ?_
  rw [show i s - c s - (m n - c n) = -m n + (c n - c s + i s) by ring, Real.exp_add]
  ring

/-- The quotient does not depend on what the exponents are measured from. -/
theorem quotient (n : ℕ) (e : Fin 256) (M : ℝ) :
    Ideal.div ((Real.exp (-M) * full Q K U c i n e : ℝ) : EReal)
        (max (FloatOps.absf (F := Ideal) (φ := .f32) ((Real.exp (-M) * full Q K U c i n 128 : ℝ) : EReal)) ((Real.exp (-M) : ℝ) : EReal))
      = ((hidden Q K U c i n e : ℝ) : EReal) := by
  have hp := Real.exp_pos (-M)
  have e1 : FloatOps.absf (F := Ideal) (φ := .f32) ((Real.exp (-M) * full Q K U c i n 128 : ℝ) : EReal)
      = ((|Real.exp (-M) * full Q K U c i n 128| : ℝ) : EReal) := by
    show max _ _ = _
    rw [← EReal.coe_neg, ← EReal.coe_strictMono.monotone.map_max]
    rfl
  have hm : 0 < max |full Q K U c i n 128| 1 := lt_max_of_lt_right one_pos
  have e2 : max |Real.exp (-M) * full Q K U c i n 128| (Real.exp (-M)) = Real.exp (-M) * max |full Q K U c i n 128| 1 := by
    rw [abs_mul, abs_of_pos hp, mul_max_of_nonneg _ _ hp.le, mul_one]
  rw [e1, ← EReal.coe_strictMono.monotone.map_max, e2, Cert.Softmax.div_coe _ (mul_pos hp hm).ne', ← EReal.coe_mul]
  unfold hidden
  congr 1
  field_simp

/-- The whole sum over a sequence, against any real exponent `M`. -/
theorem whole (n N : ℕ) (hn : n < N) (e : Fin 256) (M : ℝ) :
    ∑ s : Fin N, (∑ d, (Q n d : EReal) * (K s.val d : EReal))
        * Ideal.exp ((if s.val ≤ n then ((c n - c s.val + i s.val : ℝ) : EReal) else ⊥) - (M : EReal)) * (U s.val e : EReal)
      = ((Real.exp (-M) * full Q K U c i n e : ℝ) : EReal) := by
  have h : ∀ s : Fin N, (∑ d, (Q n d : EReal) * (K s.val d : EReal))
        * Ideal.exp ((if s.val ≤ n then ((c n - c s.val + i s.val : ℝ) : EReal) else ⊥) - (M : EReal)) * (U s.val e : EReal)
      = (((∑ d, Q n d * K s.val d) * (if s.val ≤ n then Real.exp (c n - c s.val + i s.val - M) else 0) * U s.val e : ℝ) : EReal) := by
    intro s
    rw [coe_dot, EReal.coe_mul, EReal.coe_mul]
    congr 2
    by_cases h : s.val ≤ n
    · rw [if_pos h, if_pos h, ← EReal.coe_sub, Ideal.exp_coe]
    · rw [if_neg h, if_neg h]; simp
  rw [Finset.sum_congr rfl fun s _ => h s, Cert.Softmax.coe_sum]
  congr 1
  rw [← Finset.sum_range (fun s => (∑ d, Q n d * K s d) * (if s ≤ n then Real.exp (c n - c s + i s - M) else 0) * U s e)]
  obtain ⟨k, rfl⟩ : ∃ k, N = (n + 1) + k := ⟨N - (n + 1), by omega⟩
  rw [Finset.sum_range_add, Finset.sum_eq_zero (s := Finset.range k) fun s _ => by rw [if_neg (by omega)]; ring, add_zero]
  unfold full
  rw [Finset.mul_sum]
  refine Finset.sum_congr rfl fun s hs => ?_
  rw [if_pos (by have := Finset.mem_range.1 hs; omega), show c n - c s + i s - M = -M + (c n - c s + i s) by ring, Real.exp_add]
  ring

end Cert.MemoryCell
-- ==== Proof.Layer.CellSpec.lean ====
module

public import proofs.«01_k».proof.Proof.Layer.CellSum
public import proofs.«01_k».proof.Proof.Layer.CellHead

@[expose] public section

/-!
A lane of the memory cell's result, of the arrays it is given.
-/

noncomputable section

namespace Cert.MemoryCell

open Idealize.ShloMosaic Cert.Attn

/-- An entry of four lanes, read at two numbers. -/
def rd4 (X : FVec Ideal ⟨2, ![65536, 4]⟩ .f32) (a b : ℕ) : EReal := X (ix2 (Fin.ofNat 65536 a) (Fin.ofNat 4 b))

/-- An entry of the four lanes is what is read at its two numbers. -/
theorem rd4_eq (X : FVec Ideal ⟨2, ![65536, 4]⟩ .f32) (r : Fin 65536) (x : Fin 4) {a b : ℕ} (ha : r.val = a) (hb : x.val = b) :
    X (ix2 r x) = rd4 X a b :=
  congrArg X (congrArg₂ ix2 (Fin.ext (ha ▸ (Nat.mod_eq_of_lt r.isLt).symm)) (Fin.ext (hb ▸ (Nat.mod_eq_of_lt x.isLt).symm)))

/-- A head's rows in one sequence. -/
def rows (X : FVec Ideal ⟨2, ![65536, 512]⟩ .f32) (b h : ℕ) (n : ℕ) (d : Fin 128) : ℝ := (rd512 X (4096 * b + n) (128 * h + d.val)).toReal

/-- The same with a one after them. -/
def augmented (X : FVec Ideal ⟨2, ![65536, 512]⟩ .f32) (b h : ℕ) (n : ℕ) (e : Fin 256) : ℝ :=
  if e.val < 128 then (rd512 X (4096 * b + n) (128 * h + e.val)).toReal else if e.val = 128 then 1 else 0

/-- A head's gate in one sequence. -/
def gate (X : FVec Ideal ⟨2, ![65536, 4]⟩ .f32) (b h : ℕ) (n : ℕ) : ℝ := (rd4 X (4096 * b + n) h).toReal

/-- What is read of an array of reals is real. -/
theorem rd512_real {X : FVec Ideal ⟨2, ![65536, 512]⟩ .f32} (hX : AllReal X) (a b : ℕ) : rd512 X a b = ((rd512 X a b).toReal : EReal) := by
  obtain ⟨r, hr⟩ := hX (ix2 (Fin.ofNat 65536 a) (Fin.ofNat 512 b))
  have e : rd512 X a b = (r : EReal) := hr
  rw [e, EReal.toReal_coe]

/-- The same of four lanes. -/
theorem rd4_real {X : FVec Ideal ⟨2, ![65536, 4]⟩ .f32} (hX : AllReal X) (a b : ℕ) : rd4 X a b = ((rd4 X a b).toReal : EReal) := by
  obtain ⟨r, hr⟩ := hX (ix2 (Fin.ofNat 65536 a) (Fin.ofNat 4 b))
  have e : rd4 X a b = (r : EReal) := hr
  rw [e, EReal.toReal_coe]

variable (q k v o : FVec Ideal ⟨2, ![65536, 512]⟩ .f32) (i c : FVec Ideal ⟨2, ![65536, 4]⟩ .f32) (g : FVec Ideal ⟨1, ![512]⟩ .f32)

/-- A head's row before it is normed. -/
def cellRow (b n h : ℕ) (e : Fin 128) : EReal :=
  ((hidden (rows q b h) (rows k b h) (augmented v b h) (gate c b h) (gate i b h) n ⟨e.val, Nat.lt_trans e.isLt (by decide)⟩ : ℝ) : EReal)

/-- Lane `e` of head `h` in row `n` of sequence `b`: the cell's row, normed, times the gain, through the output gate. -/
def cellLane (b n h : ℕ) (e : Fin 128) : EReal :=
  Cert.Kernel6Ideal.Cell.gated (cellRow q k v i c b n h) (fun e => g (ix1 (Fin.ofNat 512 (128 * h + e.val)))) (fun e => rd512 o (4096 * b + n) (128 * h + e.val)) e

/-- Every lane. -/
def cellArray : FVec Ideal ⟨2, ![65536, 512]⟩ .bf16 :=
  fun y => cellLane q k v o i c g ((y 0).val / 4096) ((y 0).val % 4096) ((y 1).val / 128) (Fin.ofNat 128 ((y 1).val % 128))

end Cert.MemoryCell
-- ==== Proof.Layer.CellValue.lean ====
module

public import proofs.«01_k».proof.Proof.Layer.CellPoint
public import proofs.«01_k».proof.Proof.Layer.CellSpec

@[expose] public section

/-!
The memory cell's result: what each grid point is given, what its matrices are by induction over the blocks of a
sequence, and the array from the blocks of the 256 points.
-/

set_option maxRecDepth 16384

noncomputable section

namespace Cert.Kernel6Ideal.Cell

open Idealize.ShloMosaic Idealize.ShloMosaic.TcCoe
open Cert.Kernel6Ideal Cert.Kernel6Ideal.Gen Cert.MemoryCell Cert.Attn

variable (m : (ℓ : Loc nD τ sig) → Buf (Elt Ideal) ℓ)

/-- The block each window takes at each point. -/
theorem idx : ∀ t : Fin cfg0.N, win0_0.index t = ![t.val, 0] ∧ win0_1.index t = ![t.val, 1] ∧ win0_2.index t = ![t.val, 2] ∧ win0_3.index t = ![t.val, 3]
    ∧ win0_4.index t = ![t.val, 0] ∧ win0_5.index t = ![t.val, 0] ∧ win0_6.index t = ![t.val, 0] ∧ win0_7.index t = ![0, 0] ∧ win0_8.index t = ![t.val, 0] :=
  (by decide +kernel : ∀ t : Fin grid0.N, _)

/-- The grid has 256 points. -/
theorem points (t : Fin cfg0.N) : t.val < 256 := t.isLt

/-- A point's row `r`, among all rows. -/
def row (t : Fin cfg0.N) (r : Fin 256) : Fin 65536 := ⟨256 * t.val + r.val, by have := points t; omega⟩

/-- A point's row, by sequence. -/
theorem row_val (t : Fin cfg0.N) (r : Fin 256) : (row t r).val = 4096 * (t.val / 16) + (256 * (t.val % 16) + r.val) := by
  show 256 * t.val + r.val = _
  omega

/-- The call's queries. -/
abbrev qs (c : Dev nD) : FVec Ideal S65536x512 .f32 := m ((c : Thread nD τ).loc main_arg0)
/-- The call's keys. -/
abbrev ks (c : Dev nD) : FVec Ideal S65536x512 .f32 := m ((c : Thread nD τ).loc main_arg1)
/-- The call's values. -/
abbrev vs (c : Dev nD) : FVec Ideal S65536x512 .f32 := m ((c : Thread nD τ).loc main_arg2)
/-- The call's output gate. -/
abbrev os (c : Dev nD) : FVec Ideal S65536x512 .f32 := m ((c : Thread nD τ).loc main_arg3)
/-- The call's input gate. -/
abbrev ig (c : Dev nD) : FVec Ideal S65536x4 .f32 := m ((c : Thread nD τ).loc main_arg4)
/-- The call's summed forget gate. -/
abbrev cs (c : Dev nD) : FVec Ideal S65536x4 .f32 := m ((c : Thread nD τ).loc main_arg5)
/-- What the call measures the exponents from. -/
abbrev ms (c : Dev nD) : FVec Ideal S65536x4 .f32 := m ((c : Thread nD τ).loc main_arg6)
/-- The call's gain. -/
abbrev gain (c : Dev nD) : FVec Ideal S512 .f32 := m ((c : Thread nD τ).loc main_arg7)

/-- A point's queries. -/
theorem blk_q (c : Dev nD) (t : Fin cfg0.N) (r : Fin 256) (l : Fin 512) : (iblk m c 0 t : Vec Ideal S256x512 .bf16) (ix2 r l) = qs m c (ix2 (row t r) l) := by
  have e : (Fin.ofNat 2048 l.val).val = l.val := Nat.mod_eq_of_lt (by omega)
  refine Eq.trans ?_ ((congrFun (entry_joined m c) (ix2 (row t r) (Fin.ofNat 2048 l.val))).trans (joined_at _ _ _ _ (row t r) l).1)
  blk_ext [iblk, idx t, row, e]

/-- A point's keys. -/
theorem blk_k (c : Dev nD) (t : Fin cfg0.N) (r : Fin 256) (l : Fin 512) : (iblk m c 1 t : Vec Ideal S256x512 .bf16) (ix2 r l) = ks m c (ix2 (row t r) l) := by
  have e : (Fin.ofNat 2048 (512 + l.val)).val = 512 + l.val := Nat.mod_eq_of_lt (by omega)
  refine Eq.trans ?_ ((congrFun (entry_joined m c) (ix2 (row t r) (Fin.ofNat 2048 (512 + l.val)))).trans (joined_at _ _ _ _ (row t r) l).2.1)
  blk_ext [iblk, idx t, row, e]

/-- A point's values. -/
theorem blk_v (c : Dev nD) (t : Fin cfg0.N) (r : Fin 256) (l : Fin 512) : (iblk m c 2 t : Vec Ideal S256x512 .bf16) (ix2 r l) = vs m c (ix2 (row t r) l) := by
  have e : (Fin.ofNat 2048 (1024 + l.val)).val = 1024 + l.val := Nat.mod_eq_of_lt (by omega)
  refine Eq.trans ?_ ((congrFun (entry_joined m c) (ix2 (row t r) (Fin.ofNat 2048 (1024 + l.val)))).trans (joined_at _ _ _ _ (row t r) l).2.2.1)
  blk_ext [iblk, idx t, row, e]

/-- A point's output gate. -/
theorem blk_o (c : Dev nD) (t : Fin cfg0.N) (r : Fin 256) (l : Fin 512) : (iblk m c 3 t : Vec Ideal S256x512 .bf16) (ix2 r l) = os m c (ix2 (row t r) l) := by
  have e : (Fin.ofNat 2048 (1536 + l.val)).val = 1536 + l.val := Nat.mod_eq_of_lt (by omega)
  refine Eq.trans ?_ ((congrFun (entry_joined m c) (ix2 (row t r) (Fin.ofNat 2048 (1536 + l.val)))).trans (joined_at _ _ _ _ (row t r) l).2.2.2)
  blk_ext [iblk, idx t, row, e]

/-- A point's rows of the left lanes. -/
theorem blk_left (c : Dev nD) (t : Fin cfg0.N) (r : Fin 256) (l : Fin 128) :
    (iblk m c 4 t : Vec Ideal S256x128 .bf16) (ix2 r l) = sixes (parts (Host.negf (subf (ms m c) (cs m c)))) ones (ix2 (row t r) l) := by
  refine Eq.trans ?_ (congrFun (entry_left m c) _)
  blk_ext [iblk, idx t, row]

/-- A point's rows of the right lanes. -/
theorem blk_right (c : Dev nD) (t : Fin cfg0.N) (r : Fin 256) (l : Fin 128) :
    (iblk m c 5 t : Vec Ideal S256x128 .bf16) (ix2 r l) = sixes ones (parts (subf (ig m c) (cs m c))) (ix2 (row t r) l) := by
  refine Eq.trans ?_ (congrFun (entry_right m c) _)
  blk_ext [iblk, idx t, row]

/-- A point's rows of the columns. -/
theorem blk_columns (c : Dev nD) (t : Fin cfg0.N) (r : Fin 256) (l : Fin 128) :
    (iblk m c 6 t : Vec Ideal S256x128 .f32) (ix2 r l) = columns (subf (ig m c) (cs m c)) (subf (ms m c) (cs m c)) (ms m c) (ix2 (row t r) l) := by
  refine Eq.trans ?_ (congrFun (entry_columns m c) _)
  blk_ext [iblk, idx t, row]

/-- A point's gain. -/
theorem blk_gain (c : Dev nD) (t : Fin cfg0.N) (l : Fin 512) : (iblk m c 7 t : Vec Ideal S1x512 .f32) (ix2 0 l) = gain m c (ix1 l) := by
  refine Eq.trans ?_ ((congrFun (entry_norm m c) (ix2 0 l)).trans (norm_at _ l))
  blk_ext [iblk, idx t]

/-- A head's lane of a row. -/
theorem lane_at (X : FVec Ideal S65536x512 .f32) (t : Fin cfg0.N) (h : Fin 4) (r : Fin 256) (d : ℕ) (hd : d < 128) :
    X (ix2 (row t r) (Fin.ofNat 512 (128 * h.val + d))) = rd512 X (4096 * (t.val / 16) + (256 * (t.val % 16) + r.val)) (128 * h.val + d) :=
  rd512_eq X _ _ (row_val t r) (Nat.mod_eq_of_lt (by omega))

/-- A head's queries, as reals. -/
theorem head_q (c : Dev nD) (hq : AllReal (qs m c)) (t : Fin cfg0.N) (h : Fin 4) (r : Fin 256) (d : Fin 128) :
    cut (128 * h.val) (iblk m c 0 t) (ix2 r d) = ((rows (qs m c) (t.val / 16) h.val (256 * (t.val % 16) + r.val) d : ℝ) : EReal) :=
  (blk_q m c t r _).trans ((lane_at _ t h r d.val d.isLt).trans (rd512_real hq _ _))

/-- A head's keys, as reals. -/
theorem head_k (c : Dev nD) (hk : AllReal (ks m c)) (t : Fin cfg0.N) (h : Fin 4) (r : Fin 256) (d : Fin 128) :
    cut (128 * h.val) (iblk m c 1 t) (ix2 r d) = ((rows (ks m c) (t.val / 16) h.val (256 * (t.val % 16) + r.val) d : ℝ) : EReal) :=
  (blk_k m c t r _).trans ((lane_at _ t h r d.val d.isLt).trans (rd512_real hk _ _))

/-- A head's values with the one, as reals. -/
theorem head_v (c : Dev nD) (hv : AllReal (vs m c)) (t : Fin cfg0.N) (h : Fin 4) (r : Fin 256) (e : Fin 256) :
    vaug (cut (128 * h.val) (iblk m c 2 t)) r e = ((augmented (vs m c) (t.val / 16) h.val (256 * (t.val % 16) + r.val) e : ℝ) : EReal) := by
  unfold vaug augmented
  by_cases h1 : e.val < 128
  · rw [dif_pos h1, if_pos h1]
    exact (blk_v m c t r _).trans ((lane_at _ t h r e.val h1).trans (rd512_real hv _ _))
  rw [dif_neg h1, if_neg h1]
  by_cases h2 : e.val = 128
  · rw [if_pos h2, if_pos h2]; rfl
  · rw [if_neg h2, if_neg h2]; rfl

/-- The source exponent of a row. -/
abbrev zs (c : Dev nD) (b h : ℕ) (n : ℕ) : ℝ := gate (ig m c) b h n - gate (cs m c) b h n
/-- The exponent a row measures from. -/
abbrev xs (c : Dev nD) (b h : ℕ) (n : ℕ) : ℝ := gate (ms m c) b h n - gate (cs m c) b h n

/-- A difference of two gates, as a real. -/
theorem sub_real (X Y : FVec Ideal S65536x4 .f32) (hX : AllReal X) (hY : AllReal Y) (ρ : Fin 65536) (h : Fin 4) (b n : ℕ) (e : ρ.val = 4096 * b + n) :
    subf X Y (ix2 ρ h) = ((gate X b h.val n - gate Y b h.val n : ℝ) : EReal) := by
  rw [EReal.coe_sub]
  exact congrArg₂ (· - ·) ((rd4_eq X ρ h e rfl).trans (rd4_real hX _ _)) ((rd4_eq Y ρ h e rfl).trans (rd4_real hY _ _))

/-- The exponents before a block. -/
theorem start_real (c : Dev nD) (hm : AllReal (ms m c)) (hc : AllReal (cs m c)) (t : Fin cfg0.N) (h : Fin 4) (r : Fin 256) :
    atStart (subf (ms m c) (cs m c)) (ix2 (row t r) h) = ((start (xs m c (t.val / 16) h.val) (t.val % 16) : ℝ) : EReal) := by
  have ht := points t
  have hr := row_val t r
  rw [atStart_at _ (t.val / 16) (t.val % 16) (by omega) (by omega) _ h (by omega)]
  unfold start
  by_cases h0 : t.val % 16 = 0
  · rw [if_pos h0, if_pos h0]; rfl
  · rw [if_neg h0, if_neg h0]
    exact sub_real _ _ hm hc _ h _ _ rfl

/-- The exponents at a block's end. -/
theorem end_real (c : Dev nD) (hm : AllReal (ms m c)) (hc : AllReal (cs m c)) (t : Fin cfg0.N) (h : Fin 4) (r : Fin 256) :
    atEnd (subf (ms m c) (cs m c)) (ix2 (row t r) h) = ((start (xs m c (t.val / 16) h.val) (t.val % 16 + 1) : ℝ) : EReal) := by
  have ht := points t
  have hr := row_val t r
  rw [atEnd_at _ (t.val / 16) (t.val % 16) (by omega) (by omega) _ h (by omega)]
  unfold start
  rw [if_neg (show ¬t.val % 16 + 1 = 0 by omega)]
  exact sub_real _ _ hm hc _ h _ _ (by show 4096 * (t.val / 16) + 256 * (t.val % 16) + 255 = 4096 * (t.val / 16) + (256 * (t.val % 16 + 1) - 1); omega)

/-- The factor of the matrix. -/
theorem decay_real (c : Dev nD) (hm : AllReal (ms m c)) (hc : AllReal (cs m c)) (t : Fin cfg0.N) (h : Fin 4) (r : Fin 256) :
    (iblk m c 6 t : Vec Ideal S256x128 .f32) (ix2 r (Fin.ofNat 128 (48 + h.val)))
      = ((Real.exp (start (xs m c (t.val / 16) h.val) (t.val % 16) - start (xs m c (t.val / 16) h.val) (t.val % 16 + 1)) : ℝ) : EReal) := by
  rw [blk_columns, (columns_at _ _ _ (row t r) h).1, start_real m c hm hc t h r, end_real m c hm hc t h r, ← EReal.coe_sub, Ideal.exp_coe]

/-- The factor of a row on its way into the matrix. -/
theorem enter_real (c : Dev nD) (hi : AllReal (ig m c)) (hm : AllReal (ms m c)) (hc : AllReal (cs m c)) (t : Fin cfg0.N) (h : Fin 4) (r : Fin 256) :
    (iblk m c 6 t : Vec Ideal S256x128 .f32) (ix2 r (Fin.ofNat 128 (52 + h.val)))
      = ((Real.exp (zs m c (t.val / 16) h.val (256 * (t.val % 16) + r.val) - start (xs m c (t.val / 16) h.val) (t.val % 16 + 1)) : ℝ) : EReal) := by
  rw [blk_columns, (columns_at _ _ _ (row t r) h).2.1, sub_real _ _ hi hc _ h _ _ (row_val t r), end_real m c hm hc t h r, ← EReal.coe_sub, Ideal.exp_coe]

/-- The bound of a row's weight. -/
theorem bound_real (c : Dev nD) (hm : AllReal (ms m c)) (t : Fin cfg0.N) (h : Fin 4) (r : Fin 256) :
    (iblk m c 6 t : Vec Ideal S256x128 .f32) (ix2 r (Fin.ofNat 128 (56 + h.val)))
      = ((Real.exp (-gate (ms m c) (t.val / 16) h.val (256 * (t.val % 16) + r.val)) : ℝ) : EReal) := by
  rw [blk_columns, (columns_at _ _ _ (row t r) h).2.2.1, (rd4_eq (ms m c) _ h (row_val t r) rfl).trans (rd4_real hm _ _), ← EReal.coe_neg, Ideal.exp_coe]
  rfl

/-- The factor of what a row reads of the matrix. -/
theorem leave_real (c : Dev nD) (hm : AllReal (ms m c)) (hc : AllReal (cs m c)) (t : Fin cfg0.N) (h : Fin 4) (r : Fin 256) :
    (iblk m c 6 t : Vec Ideal S256x128 .f32) (ix2 r (Fin.ofNat 128 (60 + h.val)))
      = ((Real.exp (start (xs m c (t.val / 16) h.val) (t.val % 16) - xs m c (t.val / 16) h.val (256 * (t.val % 16) + r.val)) : ℝ) : EReal) := by
  rw [blk_columns, (columns_at _ _ _ (row t r) h).2.2.2, start_real m c hm hc t h r, sub_real _ _ hm hc _ h _ _ (row_val t r), ← EReal.coe_sub, Ideal.exp_coe]

/-- The weight of one row of a block for another. -/
theorem weight_real (c : Dev nD) (hi : AllReal (ig m c)) (hm : AllReal (ms m c)) (hc : AllReal (cs m c)) (t : Fin cfg0.N) (h : Fin 4) (r s : Fin 256) :
    weight h.val (iblk m c 4 t) (iblk m c 5 t) r s
      = ((if s.val ≤ r.val then Real.exp (zs m c (t.val / 16) h.val (256 * (t.val % 16) + s.val) - xs m c (t.val / 16) h.val (256 * (t.val % 16) + r.val)) else 0 : ℝ) : EReal) := by
  unfold weight
  simp only [blk_left, blk_right]
  rw [six_exponent _ _ (row t r) (row t s) h _ _ (sub_real _ _ hm hc _ h _ _ (row_val t r)) (sub_real _ _ hi hc _ h _ _ (row_val t s)), exp_if]

/-- The call's arrays are real, but for the output gate and the gain. -/
structure RealCell (c : Dev nD) : Prop where
  /-- queries -/
  real_q : AllReal (qs m c)
  /-- keys -/
  real_k : AllReal (ks m c)
  /-- values -/
  real_v : AllReal (vs m c)
  /-- input gate -/
  real_i : AllReal (ig m c)
  /-- summed forget gate -/
  real_c : AllReal (cs m c)
  /-- what exponents are measured from -/
  real_m : AllReal (ms m c)

/-- The head's matrix before block `j`. -/
abbrev held (c : Dev nD) (b h j : ℕ) (d : Fin 128) (e : Fin 256) : ℝ :=
  matrix (rows (ks m c) b h) (augmented (vs m c) b h) (zs m c b h) (xs m c b h) j d e

/-- One point takes the matrix before its block to the one after. -/
theorem left_real (c : Dev nD) (H : RealCell m c) (t : Fin cfg0.N) (C : Vec Ideal S4x128x256 .f32)
    (hC : ∀ h d e, C (ix3 h d e) = ((held m c (t.val / 16) h.val (t.val % 16) d e : ℝ) : EReal)) (h : Fin 4) (d : Fin 128) (e : Fin 256) :
    leftOf m c t C h d e = ((held m c (t.val / 16) h.val (t.val % 16 + 1) d e : ℝ) : EReal) := by
  unfold leftOf nextOf
  have e0 : cutHead h.val C (ix3 0 d e) = ((held m c (t.val / 16) h.val (t.val % 16) d e : ℝ) : EReal) :=
    (congrArg (fun u => C (ix3 u d e)) (Fin.ext (Nat.mod_eq_of_lt h.isLt))).trans (hC h d e)
  simp only [head_k m c H.real_k, head_v m c H.real_v, enter_real m c H.real_i H.real_m H.real_c]
  rw [decay_real m c H.real_m H.real_c, e0]
  simp only [← EReal.coe_mul, Cert.Softmax.coe_sum]
  rw [← EReal.coe_add, matrix_step]

/-- **The matrices a point finds.** -/
theorem found_real (c : Dev nD) (H : RealCell m c) : ∀ (n : ℕ) (t : Fin cfg0.N), t.val = n → ∀ h d e,
    found m c t (ix3 h d e) = ((held m c (t.val / 16) h.val (t.val % 16) d e : ℝ) : EReal) := by
  intro n
  induction n with
  | zero =>
    intro t ht h d e
    unfold found
    have h0 : t.val % 16 = 0 := by omega
    rw [if_pos h0, h0]
    unfold held matrix
    simp
  | succ n ih =>
    intro t ht h d e
    unfold found
    by_cases h0 : t.val % 16 = 0
    · rw [if_pos h0, h0]
      unfold held matrix
      simp
    · rw [if_neg h0]
      have hp := points t
      let s : Fin cfg0.N := ⟨t.val - 1, by have := t.isLt; omega⟩
      have e1 : s.val / 16 = t.val / 16 := by show (t.val - 1) / 16 = _; omega
      have e2 : s.val % 16 + 1 = t.val % 16 := by show (t.val - 1) % 16 + 1 = _; omega
      have key := (point_left m c s h d e).trans (left_real m c H s (found m c s) (ih s (by show t.val - 1 = n; omega)) h d e)
      rw [e1, e2] at key
      exact key

/-- What a row reads. -/
theorem read_real (c : Dev nD) (H : RealCell m c) (t : Fin cfg0.N) (h : Fin 4) (r e : Fin 256) :
    read h.val (cut (128 * h.val) (iblk m c 0 t)) (cut (128 * h.val) (iblk m c 1 t)) (cut (128 * h.val) (iblk m c 2 t))
        (iblk m c 4 t) (iblk m c 5 t) (iblk m c 6 t) (cutHead h.val (found m c t)) r e
      = ((Real.exp (-gate (ms m c) (t.val / 16) h.val (256 * (t.val % 16) + r.val))
          * full (rows (qs m c) (t.val / 16) h.val) (rows (ks m c) (t.val / 16) h.val) (augmented (vs m c) (t.val / 16) h.val)
              (gate (cs m c) (t.val / 16) h.val) (gate (ig m c) (t.val / 16) h.val) (256 * (t.val % 16) + r.val) e : ℝ) : EReal) := by
  unfold read
  have e0 : ∀ d, cutHead h.val (found m c t) (ix3 0 d e) = ((held m c (t.val / 16) h.val (t.val % 16) d e : ℝ) : EReal) := fun d =>
    (congrArg (fun u => found m c t (ix3 u d e)) (Fin.ext (Nat.mod_eq_of_lt h.isLt))).trans (found_real m c H _ t rfl h d e)
  simp only [e0, head_q m c H.real_q, head_k m c H.real_k, head_v m c H.real_v, weight_real m c H.real_i H.real_m H.real_c]
  rw [leave_real m c H.real_m H.real_c]
  simp only [← EReal.coe_mul, Cert.Softmax.coe_sum]
  rw [← EReal.coe_add, seen_eq _ _ _ _ _ _ _ r.isLt, seen_full]

/-- **A lane of the result.** -/
theorem block_real (c : Dev nD) (H : RealCell m c) (t : Fin cfg0.N) (h : Fin 4) (r : Fin 256) (e : Fin 128) :
    blockOf m c t (found m c t) h r e
      = cellLane (qs m c) (ks m c) (vs m c) (os m c) (ig m c) (cs m c) (gain m c) (t.val / 16) (256 * (t.val % 16) + r.val) h.val e := by
  unfold blockOf outOf cellLane
  have e1 : (over (read h.val (cut (128 * h.val) (iblk m c 0 t)) (cut (128 * h.val) (iblk m c 1 t)) (cut (128 * h.val) (iblk m c 2 t))
        (iblk m c 4 t) (iblk m c 5 t) (iblk m c 6 t) (cutHead h.val (found m c t)) r) ((iblk m c 6 t : Vec Ideal S256x128 .f32) (ix2 r (Fin.ofNat 128 (56 + h.val)))))
      = cellRow (qs m c) (ks m c) (vs m c) (ig m c) (cs m c) (t.val / 16) (256 * (t.val % 16) + r.val) h.val := by
    funext e
    unfold over cellRow
    rw [bound_real m c H.real_m, read_real m c H, read_real m c H]
    exact quotient _ _ _ _ _ _ _ _
  have e2 : (fun e : Fin 128 => cut (128 * h.val) (iblk m c 3 t) (ix2 r e)) = fun e => rd512 (os m c) (4096 * (t.val / 16) + (256 * (t.val % 16) + r.val)) (128 * h.val + e.val) := by
    funext e
    exact (blk_o m c t r _).trans (lane_at _ t h r e.val e.isLt)
  have e3 : (fun e : Fin 128 => cutRow (128 * h.val) (iblk m c 7 t) (ix2 0 e)) = fun e => gain m c (ix1 (Fin.ofNat 512 (128 * h.val + e.val))) := by
    funext e
    exact blk_gain m c t _
  rw [e1, e2, e3]

/-- **The call's result.** -/
theorem array_eq (c : Dev nD) (H : RealCell m c) : (dats m 0 c).arrAt 8 cfg0.N
    = cellArray (qs m c) (ks m c) (vs m c) (os m c) (ig m c) (cs m c) (gain m c) := by
  refine (dats m 0 c).arrAt_eq_of_covers 8 _ (by decide +kernel) fun t _ y => ?_
  blk_simp
  rw [after0_8]
  have y1 : (y 1).val < 512 := (y 1).isLt
  have y0 : (y 0).val < 256 := (y 0).isLt
  have ht := points t
  have el : y 1 = lane ⟨(y 1).val / 128, by omega⟩ ⟨(y 1).val % 128, by omega⟩ :=
    Fin.ext (by show (y 1).val = 128 * ((y 1).val / 128) + (y 1).val % 128; omega)
  refine (congrArg _ ((eq_ix2 y).trans (congrArg (ix2 (y 0)) el))).trans ((point_out m c t _ (y 0) _).trans ((block_real m c H t _ (y 0) _).trans ?_))
  unfold cellArray
  congr 1 <;> (try refine Fin.ext ?_) <;> (blk_simp [idx t]; try simp; try omega)

end Cert.Kernel6Ideal.Cell
-- ==== Proof.Layer.CellReference.lean ====
module

public import proofs.«01_k».proof.Proof.Gen.Reference6Ideal.Run
public import proofs.«01_k».proof.Proof.Layer.CellSpec

@[expose] public section

/-!
What the reference of the memory cell computes, lane by lane: the weights of a row over its whole sequence, and the
same row as the blocks give.
-/

set_option maxRecDepth 16384

noncomputable section

namespace Cert.Reference6Ideal.Cell

open Idealize.ShloMosaic Idealize.ShloMosaic.TcCoe
open Cert.Reference6Ideal Cert.Reference6Ideal.Gen Cert.Reference6Ideal.Value Cert.MemoryCell Cert.Attn

/-- Rows by sequence and head. -/
def heads (X : FVec Ideal S65536x512 .f32) : FVec Ideal S16x4x4096x128 .f32 :=
  transpose S16x4x4096x128 [0, 2, 1, 3] (shapeCast S16x4096x4x128 X shapeCasts_S65536x512_S16x4096x4x128) transposes_S16x4096x4x128_S16x4x4096x128_0_2_1_3

/-- Gates by sequence and head. -/
def gates (X : FVec Ideal S65536x4 .f32) : FVec Ideal S16x4x4096 .f32 :=
  transpose S16x4x4096 [0, 2, 1] (shapeCast S16x4096x4 X shapeCasts_S65536x4_S16x4096x4) transposes_S16x4096x4_S16x4x4096_0_2_1

/-- The exponents, and −∞ for later rows. -/
def exponents (cc ig : FVec Ideal S16x4x4096 .f32) : FVec Ideal S16x4x4096x4096 .f32 :=
  (select (broadcastInDim S16x4x4096x4096 ![2, 3] bcast_S4096x4096_S16x4x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (addf (subf (broadcastInDim S16x4x4096x4096 ![0, 1, 2, 3] bcast_S16x4x4096x1_S16x4x4096x4096_0_1_2_3 (broadcastInDim S16x4x4096x1 ![0, 1, 2] bcast_S16x4x4096_S16x4x4096x1_0_1_2 cc)) (broadcastInDim S16x4x4096x4096 ![0, 1, 2, 3] bcast_S16x4x1x4096_S16x4x4096x4096_0_1_2_3 (broadcastInDim S16x4x1x4096 ![0, 1, 3] bcast_S16x4x4096_S16x4x1x4096_0_1_3 cc))) (broadcastInDim S16x4x4096x4096 ![0, 1, 2, 3] bcast_S16x4x1x4096_S16x4x4096x4096_0_1_2_3 (broadcastInDim S16x4x1x4096 ![0, 1, 3] bcast_S16x4x4096_S16x4x1x4096_0_1_3 ig)))
    (broadcastInDim S16x4x4096x4096 ![] bcast_S_S16x4x4096x4096 (id (constant S_ .f32 0xFF800000#32))))

/-- What they are measured from. -/
def shift (cc : FVec Ideal S16x4x4096 .f32) (dl : FVec Ideal S16x4x4096x4096 .f32) : FVec Ideal S16x4x4096 .f32 :=
  maximumf cc (Host.reduce FloatOps.maximumf dl (constant S_ .f32 0xFF800000#32) reducesTo_S16x4x4096x4096_S16x4x4096_d3 h_S_)

/-- The weights. -/
def weights (q k : FVec Ideal S16x4x4096x128 .f32) (dl : FVec Ideal S16x4x4096x4096 .f32) (mt : FVec Ideal S16x4x4096 .f32) : FVec Ideal S16x4x4096x4096 .f32 :=
  mulf (Host.dotGeneral dot_S16x4x4096x128_S16x4x4096x128_S16x4x4096x4096_3_3_2_2_01_01 none q k)
    (Host.exp (subf dl (broadcastInDim S16x4x4096x4096 ![0, 1, 2, 3] bcast_S16x4x4096x1_S16x4x4096x4096_0_1_2_3 (broadcastInDim S16x4x4096x1 ![0, 1, 2] bcast_S16x4x4096_S16x4x4096x1_0_1_2 mt))))

/-- The weighted values over the larger of their weight and the bound. -/
def quotients (w : FVec Ideal S16x4x4096x4096 .f32) (v : FVec Ideal S16x4x4096x128 .f32) (mt : FVec Ideal S16x4x4096 .f32) : FVec Ideal S16x4x4096x128 .f32 :=
  Host.divf (Host.dotGeneral dot_S16x4x4096x4096_S16x4x4096x128_S16x4x4096x128_3_2_2_3_01_01 none w v)
    (broadcastInDim S16x4x4096x128 ![0, 1, 2, 3] bcast_S16x4x4096x1_S16x4x4096x128_0_1_2_3 (broadcastInDim S16x4x4096x1 ![0, 1, 2] bcast_S16x4x4096_S16x4x4096x1_0_1_2 (maximumf (Host.absf (Host.reduceAdd w (constant S_ .f32 0x00000000#32) reducesTo_S16x4x4096x4096_S16x4x4096_d3 h_S_)) (Host.exp (Host.negf mt)))))

/-- The rows by their root mean square. -/
def normed (y : FVec Ideal S16x4x4096x128 .f32) : FVec Ideal S16x4x4096x128 .f32 :=
  mulf y (broadcastInDim S16x4x4096x128 ![0, 1, 2, 3] bcast_S16x4x4096x1_S16x4x4096x128_0_1_2_3 (Host.rsqrt (addf (Host.divf (broadcastInDim S16x4x4096x1 ![0, 1, 2] bcast_S16x4x4096_S16x4x4096x1_0_1_2 (Host.reduceAdd (mulf y y) (constant S_ .f32 0x00000000#32) reducesTo_S16x4x4096x128_S16x4x4096_d3 h_S_)) (broadcastInDim S16x4x4096x1 ![] bcast_S_S16x4x4096x1 (constant S_ .f32 0x43000000#32))) (broadcastInDim S16x4x4096x1 ![] bcast_S_S16x4x4096x1 (constant S_ .f32 0x358637BD#32)))))

/-- Laid back in rows, by the gain and the output gate. -/
def finished (n : FVec Ideal S16x4x4096x128 .f32) (g : FVec Ideal S512 .f32) (o : FVec Ideal S65536x512 .f32) : FVec Ideal S65536x512 .bf16 :=
  truncf .bf16 (mulf (mulf (shapeCast S65536x512 (transpose S16x4096x4x128 [0, 2, 1, 3] n transposes_S16x4x4096x128_S16x4096x4x128_0_2_1_3) shapeCasts_S16x4096x4x128_S65536x512)
      (broadcastInDim S65536x512 ![0, 1] bcast_S1x512_S65536x512_0_1 (broadcastInDim S1x512 ![1] bcast_S512_S1x512_1 g)))
    (Host.divf (broadcastInDim S65536x512 ![] bcast_S_S65536x512 (constant S_ .f32 0x3F800000#32)) (addf (broadcastInDim S65536x512 ![] bcast_S_S65536x512 (constant S_ .f32 0x3F800000#32)) (Host.exp (Host.negf o))))) bitsLt_bf16_f32

/-- The cell's rows, before they are normed. -/
def raw (q k v : FVec Ideal S65536x512 .f32) (i c : FVec Ideal S65536x4 .f32) : FVec Ideal S16x4x4096x128 .f32 :=
  quotients (weights (heads q) (heads k) (exponents (gates c) (gates i)) (shift (gates c) (exponents (gates c) (gates i)))) (heads v)
    (shift (gates c) (exponents (gates c) (gates i)))

variable (m : (ℓ : Loc nD τ sig) → Buf (Elt Ideal) ℓ)

set_option maxHeartbeats 4000000 in
/-- The result, in those steps. -/
theorem res_eq (c : Dev nD) : res_out0 m c
    = finished (normed (raw (m ((c : Thread nD τ).loc main_arg0)) (m ((c : Thread nD τ).loc main_arg1)) (m ((c : Thread nD τ).loc main_arg2)) (m ((c : Thread nD τ).loc main_arg4)) (m ((c : Thread nD τ).loc main_arg5))))
        (m ((c : Thread nD τ).loc main_arg7)) (m ((c : Thread nD τ).loc main_arg3)) := by
  unfold res_out0 res_main_v64
  rfl

/-- A row of a head. -/
theorem heads_at (X : FVec Ideal S65536x512 .f32) (b : Fin 16) (h : Fin 4) (n : Fin 4096) (d : Fin 128) :
    heads X (ix4 b h n d) = rd512 X (4096 * b.val + n.val) (128 * h.val + d.val) := by
  have key : heads X (ix4 b h n d) = X (ix2 ⟨4096 * b.val + n.val, by omega⟩ ⟨128 * h.val + d.val, by omega⟩) := by
    pointwise [heads]
    exact congrArg X (congrArg₂ ix2 (Fin.ext (show b.val * 4096 + n.val = 4096 * b.val + n.val by omega)) (Fin.ext (show h.val * 128 + d.val = 128 * h.val + d.val by omega)))
  exact key.trans (rd512_eq X _ _ rfl rfl)

/-- A gate of a head. -/
theorem gates_at (X : FVec Ideal S65536x4 .f32) (b : Fin 16) (h : Fin 4) (n : Fin 4096) :
    gates X (ix3 b h n) = rd4 X (4096 * b.val + n.val) h.val := by
  have key : gates X (ix3 b h n) = X (ix2 ⟨4096 * b.val + n.val, by omega⟩ h) := by
    pointwise [gates]
    exact congrArg (fun u => X (ix2 u h)) (Fin.ext (show b.val * 4096 + n.val = 4096 * b.val + n.val by omega))
  exact key.trans (rd4_eq X _ _ rfl rfl)

/-- An exponent. -/
theorem exponents_at (cc ig : FVec Ideal S16x4x4096 .f32) (b : Fin 16) (h : Fin 4) (n s : Fin 4096) :
    exponents cc ig (ix4 b h n s) = if s.val ≤ n.val then cc (ix3 b h n) - cc (ix3 b h s) + ig (ix3 b h s) else ⊥ := by
  pointwise [exponents]
  rw [Cert.Words.sel_sle _ _ _ _ (by omega) (by omega)]
  exact if_congr Iff.rfl rfl ofBits_neg_inf

/-- A maximum along the last of four axes is the largest of the row. -/
theorem fold_last {n0 n1 n2 n3 : ℕ} (L : FVec Ideal ⟨4, ![n0, n1, n2, n3]⟩ .f32) (z : FVec Ideal S_ .f32)
    (h : (⟨4, ![n0, n1, n2, n3]⟩ : Shape).ReducesTo [3] ⟨3, ![n0, n1, n2]⟩) (hp : 0 < S_.numel) (a : Fin n0) (b : Fin n1) (c : Fin n2) :
    Host.reduce FloatOps.maximumf L z h hp (ix3 a b c) = Finset.univ.fold max (z (Shape.Idx.first hp)) fun k => L (ix4 a b c k) := by
  pointwise

/-- A shift. -/
theorem shift_at (cc : FVec Ideal S16x4x4096 .f32) (dl : FVec Ideal S16x4x4096x4096 .f32) (b : Fin 16) (h : Fin 4) (n : Fin 4096) :
    shift cc dl (ix3 b h n) = max (cc (ix3 b h n)) (Finset.univ.fold max ⊥ fun s : Fin 4096 => dl (ix4 b h n s)) := by
  unfold shift
  exact congrArg (max (cc (ix3 b h n))) ((fold_last dl _ _ _ b h n).trans (congrArg (fun z => Finset.univ.fold max z fun s => dl (ix4 b h n s)) ofBits_neg_inf))

/-- A weight. -/
theorem weights_at (q k : FVec Ideal S16x4x4096x128 .f32) (dl : FVec Ideal S16x4x4096x4096 .f32) (mt : FVec Ideal S16x4x4096 .f32) (b : Fin 16) (h : Fin 4) (n s : Fin 4096) :
    weights q k dl mt (ix4 b h n s) = (∑ d : Fin 128, q (ix4 b h n d) * k (ix4 b h s d)) * Ideal.exp (dl (ix4 b h n s) - mt (ix3 b h n)) := by
  pointwise [weights]

/-- A quotient. -/
theorem quotients_at (w : FVec Ideal S16x4x4096x4096 .f32) (v : FVec Ideal S16x4x4096x128 .f32) (mt : FVec Ideal S16x4x4096 .f32) (b : Fin 16) (h : Fin 4) (n : Fin 4096) (e : Fin 128) :
    quotients w v mt (ix4 b h n e) = Ideal.div (∑ s : Fin 4096, w (ix4 b h n s) * v (ix4 b h s e))
      (max (FloatOps.absf (F := Ideal) (φ := .f32) (∑ s : Fin 4096, w (ix4 b h n s))) (Ideal.exp (-mt (ix3 b h n)))) := by
  pointwise [quotients]

/-- A finished lane. -/
theorem finished_at (y : FVec Ideal S16x4x4096x128 .f32) (g : FVec Ideal S512 .f32) (o : FVec Ideal S65536x512 .f32) (b : Fin 16) (h : Fin 4) (n : Fin 4096) (e : Fin 128) :
    finished (normed y) g o (ix2 ⟨4096 * b.val + n.val, by omega⟩ ⟨128 * h.val + e.val, by omega⟩)
      = Cert.Kernel6Ideal.Cell.gated (fun e => y (ix4 b h n e)) (fun e => g (ix1 (Fin.ofNat 512 (128 * h.val + e.val)))) (fun e => rd512 o (4096 * b.val + n.val) (128 * h.val + e.val)) e := by
  pointwise [finished, normed]
  have e1 : (⟨128 * h.val + e.val, by omega⟩ : Fin 512) = Fin.ofNat 512 (128 * h.val + e.val) := Fin.ext (Nat.mod_eq_of_lt (by omega)).symm
  have e2 : o (ix2 ⟨4096 * b.val + n.val, by omega⟩ ⟨128 * h.val + e.val, by omega⟩) = rd512 o (4096 * b.val + n.val) (128 * h.val + e.val) :=
    rd512_eq o _ _ rfl rfl
  rw [e2, e1, ← zero_sub]
  rfl

variable (q k v o : FVec Ideal S65536x512 .f32) (i c : FVec Ideal S65536x4 .f32) (g : FVec Ideal S512 .f32)

/-- **A row before it is normed.** The shift is real, and the quotient does not depend on it. -/
theorem raw_at (hq : AllReal q) (hk : AllReal k) (hv : AllReal v) (hi : AllReal i) (hc : AllReal c) (b : Fin 16) (h : Fin 4) (n : Fin 4096) (e : Fin 128) :
    raw q k v i c (ix4 b h n e) = cellRow q k v i c b.val n.val h.val e := by
  have ex : ∀ s : Fin 4096, exponents (gates c) (gates i) (ix4 b h n s)
      = if s.val ≤ n.val then ((gate c b.val h.val n.val - gate c b.val h.val s.val + gate i b.val h.val s.val : ℝ) : EReal) else ⊥ := by
    intro s
    have er : ∀ n : ℕ, rd4 c (4096 * b.val + n) h.val = ((gate c b.val h.val n : ℝ) : EReal) := fun n => rd4_real hc _ _
    have ei : ∀ n : ℕ, rd4 i (4096 * b.val + n) h.val = ((gate i b.val h.val n : ℝ) : EReal) := fun n => rd4_real hi _ _
    rw [exponents_at, gates_at, gates_at, gates_at, er, er, ei, EReal.coe_add, EReal.coe_sub]
  obtain ⟨M0, hM0⟩ := Cert.Softmax.max_real (fun s : Fin 4096 => exponents (gates c) (gates i) (ix4 b h n s))
    (fun s => by
      show exponents (gates c) (gates i) (ix4 b h n s) ≠ ⊤
      rw [ex]
      split
      · exact EReal.coe_ne_top _
      · exact bot_ne_top) n (by
      show exponents (gates c) (gates i) (ix4 b h n n) ≠ ⊥
      rw [ex, if_pos le_rfl]
      exact EReal.coe_ne_bot _)
  have es : shift (gates c) (exponents (gates c) (gates i)) (ix3 b h n) = ((max (gate c b.val h.val n.val) M0 : ℝ) : EReal) := by
    rw [shift_at, hM0, gates_at, rd4_real hc, EReal.coe_strictMono.monotone.map_max]
    rfl
  unfold raw
  rw [quotients_at, es]
  simp only [weights_at, es, ex, heads_at]
  have eq : ∀ n : ℕ, ∀ d : Fin 128, rd512 q (4096 * b.val + n) (128 * h.val + d.val) = ((rows q b.val h.val n d : ℝ) : EReal) := fun n d => rd512_real hq _ _
  have ek : ∀ n : ℕ, ∀ d : Fin 128, rd512 k (4096 * b.val + n) (128 * h.val + d.val) = ((rows k b.val h.val n d : ℝ) : EReal) := fun n d => rd512_real hk _ _
  have ev : ∀ n : ℕ, rd512 v (4096 * b.val + n) (128 * h.val + e.val) = ((augmented v b.val h.val n ⟨e.val, Nat.lt_trans e.isLt (by decide)⟩ : ℝ) : EReal) := by
    intro n
    unfold augmented
    rw [if_pos (show e.val < 128 from e.isLt)]
    exact rd512_real hv _ _
  simp only [eq, ek, ev]
  rw [whole _ _ _ _ _ n.val 4096 n.isLt]
  have ed : ∀ f : Fin 4096 → EReal, ∑ s, f s = ∑ s, f s * ((augmented v b.val h.val s.val 128 : ℝ) : EReal) := by
    intro f
    refine Finset.sum_congr rfl fun s _ => ?_
    unfold augmented
    rw [if_neg (by decide), if_pos (by decide), EReal.coe_one, mul_one]
  rw [ed, whole _ _ _ _ _ n.val 4096 n.isLt, ← EReal.coe_neg, Ideal.exp_coe]
  exact quotient _ _ _ _ _ _ _ _

/-- **The reference's result.** -/
theorem res_at (m : (ℓ : Loc nD τ sig) → Buf (Elt Ideal) ℓ) (d : Dev nD)
    (hq : AllReal (s := S65536x512) (φ := .f32) (m ((d : Thread nD τ).loc main_arg0))) (hk : AllReal (s := S65536x512) (φ := .f32) (m ((d : Thread nD τ).loc main_arg1)))
    (hv : AllReal (s := S65536x512) (φ := .f32) (m ((d : Thread nD τ).loc main_arg2))) (hi : AllReal (s := S65536x4) (φ := .f32) (m ((d : Thread nD τ).loc main_arg4)))
    (hc : AllReal (s := S65536x4) (φ := .f32) (m ((d : Thread nD τ).loc main_arg5))) :
    res_out0 m d = cellArray (m ((d : Thread nD τ).loc main_arg0)) (m ((d : Thread nD τ).loc main_arg1)) (m ((d : Thread nD τ).loc main_arg2))
      (m ((d : Thread nD τ).loc main_arg3)) (m ((d : Thread nD τ).loc main_arg4)) (m ((d : Thread nD τ).loc main_arg5)) (m ((d : Thread nD τ).loc main_arg7)) := by
  rw [res_eq]
  funext y
  have y0 : (y 0).val < 65536 := (y 0).isLt
  have y1 : (y 1).val < 512 := (y 1).isLt
  have e0 : y = ix2 ⟨4096 * ((y 0).val / 4096) + (y 0).val % 4096, by omega⟩ ⟨128 * ((y 1).val / 128) + (y 1).val % 128, by omega⟩ :=
    (eq_ix2 y).trans (congrArg₂ ix2 (Fin.ext (by show (y 0).val = 4096 * ((y 0).val / 4096) + (y 0).val % 4096; omega))
      (Fin.ext (by show (y 1).val = 128 * ((y 1).val / 128) + (y 1).val % 128; omega)))
  refine (congrArg _ e0).trans ((finished_at _ _ _ ⟨(y 0).val / 4096, by omega⟩ ⟨(y 1).val / 128, by omega⟩ ⟨(y 0).val % 4096, by omega⟩ ⟨(y 1).val % 128, by omega⟩).trans ?_)
  simp only [raw_at _ _ _ _ _ hq hk hv hi hc]
  unfold cellArray cellLane
  rw [show Fin.ofNat 128 ((y 1).val % 128) = (⟨(y 1).val % 128, by omega⟩ : Fin 128) from Fin.ext (Nat.mod_eq_of_lt (by omega))]

end Cert.Reference6Ideal.Cell
-- ==== Proof.Fox.Finite.lean ====
module

public import proofs.«01_k».proof.Pre_finite
public import proofs.«01_k».proof.Proof.Fox.Spec

@[expose] public section

/-!
What the precondition says: queries, keys and gates are real numbers.
-/

set_option maxRecDepth 16384

noncomputable section

namespace Cert.Pre_finite

open Idealize.ShloMosaic Cert.Attn

variable [Facts]

/-- A number of absolute value below `⊤` is real. -/
theorem real_of_abs (x : EReal) (h : FloatOps.absf (F := Ideal) (φ := .f32) x < Ideal.ofBits FTy.f32 2139095040#32) : ∃ r : ℝ, x = r := by
  rw [ofBits_inf] at h
  induction x with
  | bot => exact absurd h (by simp [FloatOps.absf])
  | top => exact absurd h (by simp [FloatOps.absf])
  | coe r => exact ⟨r, rfl⟩

/-- One bit is one in the conjunction of two only if it is in both. -/
theorem and_one {a b : BitVec 1} (h : IntOp.andi a b = 1#1) : a = 1#1 ∧ b = 1#1 := by
  revert a b; decide

/-- One bit is one in a conjunction of many only if it is in each. -/
theorem fold_one {ι : Type*} (A : Finset ι) (f : ι → BitVec 1) (h : A.fold IntOp.andi (1#1) f = 1#1) : ∀ i ∈ A, f i = 1#1 := by
  classical
  induction A using Finset.induction_on with
  | empty => simp
  | insert a A ha ih =>
    rw [Finset.fold_insert ha] at h
    obtain ⟨h1, h2⟩ := and_one h
    intro i hi
    rcases Finset.mem_insert.1 hi with e | e
    · rw [e, h1]
    · exact ih h2 i e

/-- An array all of whose entries are below `⊤` in absolute value is real. -/
theorem all_real {n0 n1 : ℕ} (X : FVec Ideal ⟨2, ![n0, n1]⟩ .f32)
    (h : Finset.univ.fold IntOp.andi (1#1) (fun k : Fin n0 × Fin n1 =>
      BitVec.ofBool (decide (FloatOps.absf (F := Ideal) (φ := .f32) (X (ix2 k.1 k.2)) < Ideal.ofBits FTy.f32 2139095040#32))) = 1#1) :
    AllReal X := by
  intro i
  have e := fold_one _ _ h (i 0, i 1) (Finset.mem_univ _)
  rw [eq_ix2 i]
  refine real_of_abs _ (of_decide_eq_true ?_)
  revert e
  cases decide (FloatOps.absf (F := Ideal) (φ := .f32) (X (ix2 (i 0) (i 1))) < Ideal.ofBits FTy.f32 2139095040#32)
  · intro e; exact absurd e (by decide)
  · exact fun _ => rfl

/-- **The precondition** makes queries, keys and gates real. -/
theorem real (q k v : FVec Ideal S65536x512 .f32) (c : FVec Ideal S65536x8 .f32) (h : fn q k v c = fun _ => 1#1) :
    AllReal q ∧ AllReal k ∧ AllReal c := by
  have h0 := congrFun h ix0
  unfold fn at h0
  revert h0
  pointwise
  intro h0
  obtain ⟨h1, h3⟩ := and_one h0
  obtain ⟨h1, h2⟩ := and_one h1
  exact ⟨all_real q h1, all_real k h2, all_real c h3⟩

end Cert.Pre_finite
-- ==== Proof.Layer.CellFinite.lean ====
module

public import proofs.«01_k».proof.Proof.Gen.Pre_finite
public import proofs.«01_k».proof.Pre_real_cell
public import proofs.«01_k».proof.Proof.Fox.Finite

@[expose] public section

/-!
What the memory cell's precondition says: all of its arrays but the output gate and the gain are real numbers.
-/

set_option maxRecDepth 16384

noncomputable section

namespace Cert.Pre_real_cell

open Idealize.ShloMosaic Cert.Attn

variable [Facts]

/-- **The precondition** makes queries, keys, values, both gates and the shift real. -/
theorem real (q k v o : FVec Ideal S65536x512 .f32) (i c m : FVec Ideal S65536x4 .f32) (g : FVec Ideal S512 .f32)
    (h : fn q k v o i c m g = fun _ => 1#1) :
    AllReal q ∧ AllReal k ∧ AllReal v ∧ AllReal i ∧ AllReal c ∧ AllReal m := by
  have h0 := congrFun h ix0
  unfold fn fn_part1 at h0
  revert h0
  pointwise
  intro h0
  obtain ⟨h1, h6⟩ := Cert.Pre_finite.and_one h0
  obtain ⟨h1, h5⟩ := Cert.Pre_finite.and_one h1
  obtain ⟨h1, h4⟩ := Cert.Pre_finite.and_one h1
  obtain ⟨h1, h3⟩ := Cert.Pre_finite.and_one h1
  obtain ⟨h1, h2⟩ := Cert.Pre_finite.and_one h1
  exact ⟨Cert.Pre_finite.all_real q h1, Cert.Pre_finite.all_real k h2, Cert.Pre_finite.all_real v h3,
    Cert.Pre_finite.all_real i h4, Cert.Pre_finite.all_real c h5, Cert.Pre_finite.all_real m h6⟩

end Cert.Pre_real_cell
-- ==== Proof.Fox.Block.lean ====
module

public import proofs.«01_k».proof.Proof.Gen.KernelIdeal.Skeleton
public import Idealize.ShloMosaic.Lib.Pipeline.ValueKit
public import Idealize.ShloMosaic.Lib.Pipeline.ReadBack

@[expose] public section

/-!
What one grid point computes, as a recursion over the key blocks: scores of one key block, the running
maximum, the running weighted sums, and the block written at the end. The eight branches of the kernel's
switch are this recursion run for one to eight steps.
-/

set_option maxRecDepth 16384

noncomputable section

namespace Cert.KernelIdeal.Fox

open Idealize.ShloMosaic Idealize.ShloMosaic.TcCoe
open Cert.KernelIdeal Cert.KernelIdeal.Gen

variable {F : FTy → Type} [FloatOps F]

/-- The queries of the pair's first head: its 64 lanes of the block, and the lanes that pick the gates. -/
def qA (x0 x1 : FVec F S512x128 .bf16) : FVec F S512x256 .bf16 := k0_pay524 x0 x1

/-- The queries of the pair's second head. -/
def qB (x0 x1 : FVec F S512x128 .bf16) : FVec F S512x256 .bf16 :=
  k0_pay527 (iota Kind.tc S512x128 32 [1] iota_S512x128_d1_w32) (k0_pay523 x1) (k0_pay525 x0) k0_pay526

/-- The 512 rows of the augmented keys that begin at row `o`. -/
def rowsAt (xs0 : FVec F S4096x256 .bf16) (o : ℕ) : FVec F S512x256 .bf16 :=
  fun i => xs0 (ix2 (Fin.ofNat 4096 (o + (i 0).val)) (i 1))

/-- Key block `j` of the augmented keys. -/
def keyRows (xs0 : FVec F S4096x256 .bf16) (j : ℕ) : FVec F S512x256 .bf16 := rowsAt xs0 (512 * j)

/-- Value block `j`: one member of the stack of transposed value blocks. -/
def valRows (xs : FVec F S8x128x512 .bf16) (j : ℕ) : FVec F S1x128x512 .bf16 :=
  fun i => xs (ix3 (Fin.ofNat 8 j) (i 1) (i 2))

/-- The scores of key block `j` against the queries `q`; in the block on the diagonal (`j = n`) the later keys are masked. -/
def score (n : ℕ) (q : FVec F S512x256 .bf16) (xs0 : FVec F S4096x256 .bf16) (j : ℕ) : FVec F S1x1x512x512 .bf16 :=
  if j = n then k0_pay482 q (keyRows xs0 j) else k0_pay480 q (keyRows xs0 j)

/-- The running maximum after one more block of scores. -/
def maxStep (s : FVec F S1x1x512x512 .bf16) (m : FVec F S1x1x512 .f32) : FVec F S1x1x512 .f32 := k0_pay488 s m

/-- The running weighted sums after one more block of scores and its values. -/
def accStep (s : FVec F S1x1x512x512 .bf16) (m : FVec F S1x1x512 .f32) (a : FVec F S1x128x512 .f32)
    (v : FVec F S1x128x512 .bf16) : FVec F S1x128x512 .f32 := k0_pay489 s m a v

/-- The running maximum after `j` blocks. -/
def maxAt (s : ℕ → FVec F S1x1x512x512 .bf16) : ℕ → FVec F S1x1x512 .f32
  | 0 => fun _ => Scalar.ofBits .f32 0xF149F2CA#32
  | j + 1 => maxStep (s j) (maxAt s j)

/-- The running weighted sums after `j` blocks. -/
def accAt (s : ℕ → FVec F S1x1x512x512 .bf16) (v : ℕ → FVec F S1x128x512 .bf16) : ℕ → FVec F S1x128x512 .f32
  | 0 => fun _ => Scalar.ofBits .f32 0x00000000#32
  | j + 1 => accStep (s j) (maxAt s j) (accAt s v j) (v j)

/-- The block a grid point writes from the two heads' weighted sums. -/
def finish (a b : FVec F S1x128x512 .f32) : FVec F S512x128 .bf16 :=
  k0_pay1 (k0_pay546 a) (k0_pay547 b) (k0_pay548 (iota Kind.tc S128x512 32 [0] iota_S128x512_d0_w32)) (k0_pay549 a)

/-- What the branch for query block `n` writes, from its queries, the augmented keys and the transposed values. -/
def blockOut (n : ℕ) (x0 x1 : FVec F S512x128 .bf16) (xs0 : FVec F S4096x256 .bf16)
    (xs1 xs2 : FVec F S8x128x512 .bf16) : FVec F S512x128 .bf16 :=
  finish (accAt (score n (qA x0 x1) xs0) (valRows xs1) (n + 1)) (accAt (score n (qB x0 x1) xs0) (valRows xs2) (n + 1))

/-- A load of 512 rows of the augmented keys. -/
theorem ld_rowsAt (xs0 : FVec F S4096x256 .bf16) (o : ℕ) (inb : ∀ a, (![o, 0] : Fin 2 → ℕ) a + (![512, 256] : Fin 2 → ℕ) a ≤ S4096x256.size a) :
    View.ld (Val := Elt F) (e' := .bf16) xs0 (Rect.unit (s := S4096x256) ![o, 0] ![512, 256] inb) = rowsAt xs0 o := by
  funext i
  refine View.ld_unit_apply_of _ _ _ _ _ _ fun a => ?_
  have h0 := inb 0
  have hi : (i 0).val < 512 := (i 0).isLt
  match a with
  | ⟨0, _⟩ => exact Nat.mod_eq_of_lt (by simp at h0; omega)
  | ⟨1, _⟩ => exact (Nat.zero_add _).symm

/-- A load of one member of a stack of value blocks. -/
theorem ld_valRows (xs : FVec F S8x128x512 .bf16) (o : ℕ) (inb : ∀ a, (![o, 0, 0] : Fin 3 → ℕ) a + (![1, 128, 512] : Fin 3 → ℕ) a ≤ S8x128x512.size a) :
    View.ld (Val := Elt F) (e' := .bf16) xs (Rect.unit (s := S8x128x512) ![o, 0, 0] ![1, 128, 512] inb) = valRows xs o := by
  funext i
  refine View.ld_unit_apply_of _ _ _ _ _ _ fun a => ?_
  have h0 := inb 0
  have hi : (i 0).val < 1 := (i 0).isLt
  match a with
  | ⟨0, _⟩ => exact (Nat.mod_eq_of_lt (by simp at h0; omega)).trans (by simp)
  | ⟨1, _⟩ => exact (Nat.zero_add _).symm
  | ⟨2, _⟩ => exact (Nat.zero_add _).symm

/-- The running maxima begin at one constant. -/
theorem ld_maxInit (o : ℕ) (inb : ∀ a, (![o, 0, 0] : Fin 3 → ℕ) a + (![1, 1, 512] : Fin 3 → ℕ) a ≤ S2x1x512.size a) :
    View.ld (Val := Elt F) (e' := .f32) k0_pay528 (Rect.unit (s := S2x1x512) ![o, 0, 0] ![1, 1, 512] inb)
      = fun _ => Scalar.ofBits .f32 0xF149F2CA#32 := rfl

/-- The weighted sums begin at zero. -/
theorem ld_accInit (o : ℕ) (inb : ∀ a, (![o, 0, 0] : Fin 3 → ℕ) a + (![1, 128, 512] : Fin 3 → ℕ) a ≤ S2x128x512.size a) :
    View.ld (Val := Elt F) (e' := .f32) k0_pay529 (Rect.unit (s := S2x128x512) ![o, 0, 0] ![1, 128, 512] inb)
      = fun _ => Scalar.ofBits .f32 0x00000000#32 := rfl

end Cert.KernelIdeal.Fox
-- ==== Proof.Fox.Cases.lean ====
module

public import proofs.«01_k».proof.Proof.Gen.KernelIdeal.Frame
public import proofs.«01_k».proof.Proof.Fox.Block

@[expose] public section

/-!
The eight branches of the switch: at a point of query block `n` the block written is the recursion of
`Block.lean` run for `n + 1` key blocks, over what the scratch holds.
-/

set_option maxRecDepth 16384

noncomputable section

namespace Cert.KernelIdeal.Fox

open Idealize.ShloMosaic Idealize.ShloMosaic.TcCoe
open Cert.KernelIdeal Cert.KernelIdeal.Gen

variable {F : FTy → Type} [FloatOps F]
variable (m : (ℓ : Loc nD τ sig) → Buf (Elt F) ℓ)

set_option maxHeartbeats 2000000 in
/-- The block written at a point past the first of its group, from its queries and from what the scratch holds. -/
theorem out_later (c : Dev nD) (t : Fin cfg0.N) (h : 1 ≤ t.val % 8) :
    (outsAt0 m c t.val t.isLt).1 = blockOut (t.val % 8) (iblk m c 0 t) (iblk m c 1 t)
      (outsAt0 m c t.val t.isLt).2.1 (outsAt0 m c t.val t.isLt).2.2.1 (outsAt0 m c t.val t.isLt).2.2.2 := by
  have hlt : t.val % 8 < 8 := Nat.mod_lt _ (by decide)
  have hc : t.val % 8 = 1 ∨ t.val % 8 = 2 ∨ t.val % 8 = 3 ∨ t.val % 8 = 4 ∨ t.val % 8 = 5 ∨ t.val % 8 = 6 ∨ t.val % 8 = 7 := by
    omega
  rcases hc with e | e | e | e | e | e | e <;> rw [e] <;>
    [rw [outsAt0_B m c t (by omega) (by omega) (by omega)];
     rw [outsAt0_C m c t (by omega) (by omega) (by omega) (by omega)];
     rw [outsAt0_D m c t (by omega) (by omega) (by omega) (by omega) (by omega)];
     rw [outsAt0_E m c t (by omega) (by omega) (by omega) (by omega) (by omega) (by omega)];
     rw [outsAt0_F m c t (by omega) (by omega) (by omega) (by omega) (by omega) (by omega) (by omega)];
     rw [outsAt0_G m c t (by omega) (by omega) (by omega) (by omega) (by omega) (by omega) (by omega) (by omega)];
     rw [outsAt0_H m c t (by omega) (by omega) (by omega) (by omega) (by omega) (by omega) (by omega) (by omega)]]
  all_goals
    frame_open
    simp (disch := decide) only [↓ View.readCov_skip, ↓ View.readCov_cons_toLoadRect, ↓ View.readCov_fill]
    simp (disch := decide) only [View.read_writes_junk_eq_canon, View.canon_cons_unit_lit',
        View.ld_unit_lit', View.readCov_unit_lit', View.readCov_cons_unit_lit', View.readAt_eq_ld,
        Memref.IsWhole.read_unread, read_unread_whole]
    simp only [sout0_B_0, sout0_B_1, sout0_B_2, sout0_C_0, sout0_C_1, sout0_C_2, sout0_D_0, sout0_D_1, sout0_D_2,
      sout0_E_0, sout0_E_1, sout0_E_2, sout0_F_0, sout0_F_1, sout0_F_2, sout0_G_0, sout0_G_1, sout0_G_2,
      sout0_H_0, sout0_H_1, sout0_H_2]
    generalize (outsAt0 m c (t.val - 1) (Nat.lt_of_le_of_lt (Nat.sub_le _ _) t.isLt)) = O
    simp only [ld_rowsAt, ld_valRows, ld_maxInit, ld_accInit]
    simp only [blockOut, accAt, maxAt, score, keyRows, Nat.reduceMul, Nat.reduceAdd, Nat.reduceEqDiff, reduceIte,
      Nat.zero_add, Nat.mul_zero]
    rfl

/-- Past the first point of a group the scratch is what the point before left. -/
theorem scratch_later (c : Dev nD) (t : Fin cfg0.N) (h : 1 ≤ t.val % 8) :
    (outsAt0 m c t.val t.isLt).2 = (outsAt0 m c (t.val - 1) (Nat.lt_of_le_of_lt (Nat.sub_le _ _) t.isLt)).2 := by
  have hlt : t.val % 8 < 8 := Nat.mod_lt _ (by decide)
  have hc : t.val % 8 = 1 ∨ t.val % 8 = 2 ∨ t.val % 8 = 3 ∨ t.val % 8 = 4 ∨ t.val % 8 = 5 ∨ t.val % 8 = 6 ∨ t.val % 8 = 7 := by
    omega
  rcases hc with e | e | e | e | e | e | e <;>
    [rw [outsAt0_B m c t (by omega) (by omega) (by omega)];
     rw [outsAt0_C m c t (by omega) (by omega) (by omega) (by omega)];
     rw [outsAt0_D m c t (by omega) (by omega) (by omega) (by omega) (by omega)];
     rw [outsAt0_E m c t (by omega) (by omega) (by omega) (by omega) (by omega) (by omega)];
     rw [outsAt0_F m c t (by omega) (by omega) (by omega) (by omega) (by omega) (by omega) (by omega)];
     rw [outsAt0_G m c t (by omega) (by omega) (by omega) (by omega) (by omega) (by omega) (by omega) (by omega)];
     rw [outsAt0_H m c t (by omega) (by omega) (by omega) (by omega) (by omega) (by omega) (by omega) (by omega)]]
  all_goals
    simp only [sout0_B_0, sout0_B_1, sout0_B_2, sout0_C_0, sout0_C_1, sout0_C_2, sout0_D_0, sout0_D_1, sout0_D_2,
      sout0_E_0, sout0_E_1, sout0_E_2, sout0_F_0, sout0_F_1, sout0_F_2, sout0_G_0, sout0_G_1, sout0_G_2,
      sout0_H_0, sout0_H_1, sout0_H_2]

/-- A load from a scratch that pieces cover is a load from what the pieces leave. -/
theorem readCov_ld {sg : RefSig} {κ : Kind} {sp : Space} {S : Shape} {e : EltTy} (v : View sg κ sp S e)
    (L : List (View.Piece (Elt F) S e)) (r : Rect S) :
    v.readCov L r.toLoadRect = View.ld (View.canon L) r := View.readCov_eq_canon' v L r.toLoadRect

set_option maxHeartbeats 2000000 in
/-- The block written at the first point of a group. -/
theorem out_first (c : Dev nD) (t : Fin cfg0.N) (h : t.val % 8 = 0) :
    (outsAt0 m c t.val t.isLt).1 = blockOut (t.val % 8) (iblk m c 0 t) (iblk m c 1 t)
      (outsAt0 m c t.val t.isLt).2.1 (outsAt0 m c t.val t.isLt).2.2.1 (outsAt0 m c t.val t.isLt).2.2.2 := by
  rw [h, outsAt0_A m c t (by omega) (by omega)]
  frame_open
  simp only [↓ readCov_ld (S := S4096x256), ↓ readCov_ld (S := S8x128x512)]
  simp (disch := decide) only [↓ View.readCov_skip, ↓ View.readCov_cons_toLoadRect, ↓ View.readCov_fill]
  simp (disch := decide) only [View.read_writes_junk_eq_canon, View.canon_cons_unit_lit',
        View.ld_unit_lit', View.readCov_unit_lit', View.readCov_cons_unit_lit', View.readAt_eq_ld,
        Memref.IsWhole.read_unread, read_unread_whole]
  simp only [ld_rowsAt, ld_valRows, ld_maxInit, ld_accInit]
  simp only [blockOut, accAt, maxAt, score, keyRows, Nat.reduceMul, Nat.reduceAdd, Nat.reduceEqDiff, reduceIte,
      Nat.zero_add, Nat.mul_zero]
  rfl

end Cert.KernelIdeal.Fox
-- ==== Proof.Fox.Scratch.lean ====
module

public import proofs.«01_k».proof.Proof.Fox.Cases
public import proofs.«01_k».proof.Proof.Fox.Words

@[expose] public section

/-!
What the scratch holds, at every point of a group: the keys with their gate lanes, and the values of either
head, transposed, with one lane of ones for the sum of the weights.
-/

set_option maxRecDepth 16384

noncomputable section

namespace Cert.KernelIdeal.Fox

open Idealize.ShloMosaic Idealize.ShloMosaic.TcCoe
open Cert.KernelIdeal Cert.KernelIdeal.Gen Cert.Words

/-- The augmented keys: the pair's 128 key lanes, then its 128 gate lanes. -/
def kaugOf (x2 x4 : FVec Ideal S4096x128 .bf16) : FVec Ideal S4096x256 .bf16 := fun i =>
  if h : (i 1).val < 128 then x2 (ix2 (i 0) ⟨(i 1).val, h⟩)
  else x4 (ix2 (i 0) ⟨(i 1).val - 128, by have : (i 1).val < 256 := (i 1).isLt; omega⟩)

/-- The transposed value blocks: of block `j` the value lane `d` of its key `x`, where `d` is one of the lanes `keep`;
one in the lane `l1` and zero in the others. -/
def vtOf (keep : ℕ → Prop) [DecidablePred keep] (l1 : ℕ) (x3 : FVec Ideal S4096x128 .bf16) : FVec Ideal S8x128x512 .bf16 :=
  fun i => if keep (i 1).val then x3 (ix2 (Fin.ofNat 4096 (512 * (i 0).val + (i 2).val)) (i 1))
    else if (i 1).val = l1 then 1 else 0

/-- The piece written for the first head at row `o` of the values. -/
theorem pieceA (X : FVec Ideal S4096x128 .bf16) (o : ℕ) (ho : o ≤ 3584)
    (inb : ∀ a, (![o, 0] : Fin 2 → ℕ) a + (![512, 128] : Fin 2 → ℕ) a ≤ S4096x128.size a)
    (x : S1x128x512.Idx) (y : S8x128x512.Idx) (h0 : 512 * (y 0).val = o) (h1 : (y 1).val = (x 1).val)
    (h2 : (y 2).val = (x 2).val) :
    shapeCast S1x128x512
      (truncf FTy.bf16
        (select (cmpi CmpIPredicate.slt (iota Kind.tc S128x512 32 [0] iota_S128x512_d0_w32) (broadcast S128x512 64#32))
          (transpose S128x512 [1, 0]
            (extf FTy.f32
              (shapeCast S512x128
                (View.ld (Val := Elt Ideal) (e' := .bf16) X (Rect.unit (s := S4096x128) ![o, 0] ![512, 128] inb))
                shapeCasts_S512x128_S512x128)
              bitsLt_bf16_f32)
            transposes_S512x128_p1_0_S128x512)
          (select (cmpi CmpIPredicate.eq (iota Kind.tc S128x512 32 [0] iota_S128x512_d0_w32) (broadcast S128x512 64#32))
            (broadcast S128x512 (FloatOps.ofBits FTy.f32 1065353216#32))
            (broadcast S128x512 (FloatOps.ofBits FTy.f32 0#32))))
        bitsLt_bf16_f32)
      shapeCasts_S128x512_S1x128x512 x = vtOf (fun d => d < 64) 64 X y := by
  have x0 : (x 0).val < 1 := (x 0).isLt
  have x1 : (x 1).val < 128 := (x 1).isLt
  have x2 : (x 2).val < 512 := (x 2).isLt
  pointwise
  rw [sel_slt _ _ _ _ (by omega) (by omega), sel_eq _ _ _ _ (by omega) (by omega)]
  simp only [vtOf, h1]
  split
  · exact congrArg X (congrArg₂ ix2 (Fin.ext (by simp; omega)) (Fin.ext h1.symm))
  · rfl

/-- The piece written for the second head at row `o` of the values. -/
theorem pieceB (X : FVec Ideal S4096x128 .bf16) (o : ℕ) (ho : o ≤ 3584)
    (inb : ∀ a, (![o, 0] : Fin 2 → ℕ) a + (![512, 128] : Fin 2 → ℕ) a ≤ S4096x128.size a)
    (x : S1x128x512.Idx) (y : S8x128x512.Idx) (h0 : 512 * (y 0).val = o) (h1 : (y 1).val = (x 1).val)
    (h2 : (y 2).val = (x 2).val) :
    shapeCast S1x128x512
      (truncf FTy.bf16
        (select (cmpi CmpIPredicate.sge (iota Kind.tc S128x512 32 [0] iota_S128x512_d0_w32) (broadcast S128x512 64#32))
          (transpose S128x512 [1, 0]
            (extf FTy.f32
              (shapeCast S512x128
                (View.ld (Val := Elt Ideal) (e' := .bf16) X (Rect.unit (s := S4096x128) ![o, 0] ![512, 128] inb))
                shapeCasts_S512x128_S512x128)
              bitsLt_bf16_f32)
            transposes_S512x128_p1_0_S128x512)
          (select (cmpi CmpIPredicate.eq (iota Kind.tc S128x512 32 [0] iota_S128x512_d0_w32) (broadcast S128x512 0#32))
            (broadcast S128x512 (FloatOps.ofBits FTy.f32 1065353216#32))
            (broadcast S128x512 (FloatOps.ofBits FTy.f32 0#32))))
        bitsLt_bf16_f32)
      shapeCasts_S128x512_S1x128x512 x = vtOf (fun d => 64 ≤ d) 0 X y := by
  have x0 : (x 0).val < 1 := (x 0).isLt
  have x1 : (x 1).val < 128 := (x 1).isLt
  have x2 : (x 2).val < 512 := (x 2).isLt
  pointwise
  rw [sel_sge _ _ _ _ (by omega) (by omega), sel_eq _ _ _ _ (by omega) (by omega)]
  simp only [vtOf, h1]
  split
  · exact congrArg X (congrArg₂ ix2 (Fin.ext (by simp; omega)) (Fin.ext h1.symm))
  · rfl

variable (m : (ℓ : Loc nD τ sig) → Buf (Elt Ideal) ℓ)

/-- The augmented keys after the first point of a group. -/
theorem keys_first (c : Dev nD) (t : Fin cfg0.N) (h : t.val % 8 = 0) :
    (outsAt0 m c t.val t.isLt).2.1 = kaugOf (iblk m c 2 t) (iblk m c 4 t) := by
  rw [outsAt0_A m c t (by omega) (by omega)]
  frame_open
  simp (disch := decide) only [↓ View.readCov_skip, ↓ View.readCov_cons_toLoadRect, ↓ View.readCov_fill]
  simp (disch := decide) only [View.read_writes_junk_eq_canon, View.canon_cons_unit_lit',
        View.ld_unit_lit', View.readCov_unit_lit', View.readCov_cons_unit_lit', View.readAt_eq_ld,
        Memref.IsWhole.read_unread, read_unread_whole]
  funext y
  canon_tiles x h
  all_goals
    open_payloads
    pointwise
    rw [kaugOf]
  · rw [dif_neg (by omega)]
    exact congrArg _ ((eq_ix2 x).trans (congrArg₂ ix2 (Fin.ext (by omega)) (Fin.ext (by simp; omega))))
  · rw [dif_pos (by omega)]
    exact congrArg _ ((eq_ix2 x).trans (congrArg₂ ix2 (Fin.ext (by omega)) (Fin.ext (by simp; omega))))

set_option maxHeartbeats 2000000 in
/-- The first head's values after the first point of a group. -/
theorem valsA_first (c : Dev nD) (t : Fin cfg0.N) (h : t.val % 8 = 0) :
    (outsAt0 m c t.val t.isLt).2.2.1 = vtOf (fun d => d < 64) 64 (iblk m c 3 t) := by
  rw [outsAt0_A m c t (by omega) (by omega)]
  frame_open
  simp (disch := decide) only [↓ View.readCov_skip, ↓ View.readCov_cons_toLoadRect, ↓ View.readCov_fill]
  simp (disch := decide) only [View.read_writes_junk_eq_canon, View.canon_cons_unit_lit',
        View.ld_unit_lit', View.readCov_unit_lit', View.readCov_cons_unit_lit', View.readAt_eq_ld,
        Memref.IsWhole.read_unread, read_unread_whole]
  funext y
  canon_tiles x h
  all_goals
    exact pieceA _ _ (by decide) _ x y (by omega) h1 h2

set_option maxHeartbeats 2000000 in
/-- The second head's values after the first point of a group. -/
theorem valsB_first (c : Dev nD) (t : Fin cfg0.N) (h : t.val % 8 = 0) :
    (outsAt0 m c t.val t.isLt).2.2.2 = vtOf (fun d => 64 ≤ d) 0 (iblk m c 3 t) := by
  rw [outsAt0_A m c t (by omega) (by omega)]
  frame_open
  simp (disch := decide) only [↓ View.readCov_skip, ↓ View.readCov_cons_toLoadRect, ↓ View.readCov_fill]
  simp (disch := decide) only [View.read_writes_junk_eq_canon, View.canon_cons_unit_lit',
        View.ld_unit_lit', View.readCov_unit_lit', View.readCov_cons_unit_lit', View.readAt_eq_ld,
        Memref.IsWhole.read_unread, read_unread_whole]
  funext y
  canon_tiles x h
  all_goals
    exact pieceB _ _ (by decide) _ x y (by omega) h1 h2

end Cert.KernelIdeal.Fox
-- ==== Proof.Fox.Host.lean ====
module

public import proofs.«01_k».proof.Proof.Gen.KernelIdeal.Frame
public import Idealize.ShloMosaic.Lib.StableHlo.RunRead

@[expose] public section

/-!
The two arrays the call reads, as the host code makes them of the arguments: the scaled queries, the keys and the
values side by side; and the gate lanes, 128 for each pair of heads.
-/

set_option maxRecDepth 16384

noncomputable section

namespace Cert.KernelIdeal.Fox

open Idealize.ShloMosaic Idealize.ShloMosaic.TcCoe
open Cert.KernelIdeal Cert.KernelIdeal.Gen

variable {F : FTy → Type} [FloatOps F]
variable (m : (ℓ : Loc nD τ sig) → Buf (Elt F) ℓ)

/-- Queries times 1/8, keys and values side by side. -/
def qkvOf (q k v : FVec F S65536x512 .f32) : FVec F S65536x1536 .bf16 :=
  truncf .bf16 (concatenate S65536x1536 1
    [⟨S65536x512, mulf q (broadcastInDim S65536x512 ![] bcast_S_S65536x512 (constant S_ .f32 0x3E000000#32))⟩,
      ⟨S65536x512, k⟩, ⟨S65536x512, v⟩] concatenates_S65536x512_S65536x512_S65536x512_S65536x1536_d1) bitsLt_bf16_f32

/-- The leading part of minus the cumulative gates. -/
def hiOf (c : FVec F S65536x8 .f32) : FVec F S65536x8 .bf16 := truncf .bf16 (Host.negf c) bitsLt_bf16_f32

/-- What the leading part leaves. -/
def restOf (c : FVec F S65536x8 .f32) : FVec F S65536x8 .f32 := subf (Host.negf c) (extf .f32 (hiOf c) bitsLt_bf16_f32)

/-- The second part. -/
def midOf (c : FVec F S65536x8 .f32) : FVec F S65536x8 .bf16 := truncf .bf16 (restOf c) bitsLt_bf16_f32

/-- The third part. -/
def loOf (c : FVec F S65536x8 .f32) : FVec F S65536x8 .bf16 :=
  truncf .bf16 (subf (restOf c) (extf .f32 (midOf c) bitsLt_bf16_f32)) bitsLt_bf16_f32

/-- The gate lanes, from the three parts: for a pair of heads its six parts, six ones, and zeros. -/
def lanesOf (hi mid lo : FVec F S65536x8 .bf16) : FVec F S65536x512 .bf16 :=
  shapeCast S65536x512 (concatenate S65536x4x128 2
    [⟨S65536x4x6, shapeCast S65536x4x6 (concatenate S65536x8x3 2
        [⟨S65536x8x1, broadcastInDim S65536x8x1 ![0, 1] bcast_S65536x8_S65536x8x1_0_1 hi⟩,
          ⟨S65536x8x1, broadcastInDim S65536x8x1 ![0, 1] bcast_S65536x8_S65536x8x1_0_1 mid⟩,
          ⟨S65536x8x1, broadcastInDim S65536x8x1 ![0, 1] bcast_S65536x8_S65536x8x1_0_1 lo⟩]
        concatenates_S65536x8x1_S65536x8x1_S65536x8x1_S65536x8x3_d2) shapeCasts_S65536x8x3_S65536x4x6⟩,
      ⟨S65536x4x6, broadcastInDim S65536x4x6 ![] bcast_S_S65536x4x6 (constant S_ .bf16 0x3F80#16)⟩,
      ⟨S65536x4x116, broadcastInDim S65536x4x116 ![] bcast_S_S65536x4x116 (constant S_ .bf16 0x0000#16)⟩]
    concatenates_S65536x4x6_S65536x4x6_S65536x4x116_S65536x4x128_d2) shapeCasts_S65536x4x128_S65536x512

/-- What the call finds in its first operand. -/
theorem entry_qkv (c : Dev nD) : (V m c main_v3 : FVec F S65536x1536 .bf16)
    = qkvOf (m ((c : Thread nD τ).loc main_arg0)) (m ((c : Thread nD τ).loc main_arg1)) (m ((c : Thread nD τ).loc main_arg2)) := by
  show StableHlo.after hostOps0 _ (Proc.devRef .tc main_v3) = _
  after_reads_simp
  rfl

/-- What the call finds in its gate operand. -/
theorem entry_gates (c : Dev nD) : (V m c main_v20 : FVec F S65536x512 .bf16)
    = lanesOf (hiOf (m ((c : Thread nD τ).loc main_arg3))) (midOf (m ((c : Thread nD τ).loc main_arg3)))
        (loOf (m ((c : Thread nD τ).loc main_arg3))) := by
  show StableHlo.after hostOps0 _ (Proc.devRef .tc main_v20) = _
  after_reads_simp
  rfl

end Cert.KernelIdeal.Fox
-- ==== Proof.Fox.Blocks.lean ====
module

public import proofs.«01_k».proof.Proof.Fox.Host
public import proofs.«01_k».proof.Proof.Fox.Spec
public import Idealize.ShloMosaic.Lib.Pipeline.ValueKit

@[expose] public section

/-!
The five input blocks of a grid point, entry by entry, as entries of the arguments. Point `t` is batch `t / 32`,
pair of heads `t / 8 % 4`, query block `t % 8`.
-/

set_option maxRecDepth 16384

noncomputable section

namespace Cert.KernelIdeal.Fox

open Idealize.ShloMosaic Idealize.ShloMosaic.TcCoe
open Cert.KernelIdeal Cert.KernelIdeal.Gen Cert.Attn

/-- The three arrays side by side, read at an entry. -/
theorem qkvOf_at (q k v : FVec Ideal S65536x512 .f32) (r : Fin 65536) (x : Fin 1536) :
    qkvOf q k v (ix2 r x) = if x.val < 512 then rd512 q r.val x.val * Ideal.ofBits FTy.f32 1040187392#32
      else if x.val < 1024 then rd512 k r.val (x.val - 512) else rd512 v r.val (x.val - 1024) := by
  have hx := x.isLt
  pointwise [qkvOf]
  by_cases h : x.val < 512
  · rw [dif_pos h, if_pos h]
    exact congrArg (· * _) (rd512_eq q _ _ rfl rfl)
  · rw [dif_neg h, if_neg h]
    by_cases h' : x.val < 1024
    · rw [dif_pos (show x.val - 512 < 512 by omega), if_pos h']
      exact rd512_eq k _ _ rfl rfl
    · rw [dif_neg (show ¬x.val - 512 < 512 by omega), if_neg h']
      exact rd512_eq v _ _ rfl (show x.val - 512 - 512 = _ by omega)

/-- Gate lane `l` of pair `p` at a row: the leading part of minus the gate of either head, at its lane; six ones; zeros. -/
def gateLane (c : FVec Ideal S65536x8 .f32) (r p l : ℕ) : EReal :=
  if l < 6 then (if l % 3 = 0 then -rd8 c r (2 * p + l / 3) else 0) else if l < 12 then 1 else 0

/-- A real number less itself is nothing. -/
theorem sub_self_of_real {x : EReal} (h : ∃ r : ℝ, x = r) : x - x = 0 := by
  obtain ⟨r, rfl⟩ := h
  rw [← EReal.coe_sub, sub_self, EReal.coe_zero]

set_option maxHeartbeats 2000000 in
/-- The laid-out parts, read at an entry. -/
theorem lanesOf_read (hi mid lo : FVec Ideal S65536x8 .bf16) (r : Fin 65536) (x : Fin 512) :
    lanesOf hi mid lo (ix2 r x) =
      if x.val % 128 < 6 then
        (if x.val % 128 % 3 = 0 then rd8 hi r.val (2 * (x.val / 128) + x.val % 128 / 3)
          else if x.val % 128 % 3 = 1 then rd8 mid r.val (2 * (x.val / 128) + x.val % 128 / 3)
          else rd8 lo r.val (2 * (x.val / 128) + x.val % 128 / 3))
      else if x.val % 128 < 12 then 1 else 0 := by
  have hx := x.isLt
  have e : x.val / 128 * 2 + x.val % 128 / 3 = 2 * (x.val / 128) + x.val % 128 / 3 := by omega
  pointwise [lanesOf]
  by_cases h : x.val % 128 < 6
  · rw [dif_pos h, if_pos h]
    by_cases h1 : x.val % 128 % 3 = 0
    · rw [dif_pos (show x.val % 128 % 3 < 1 by omega), if_pos h1]
      exact rd8_eq hi _ _ rfl e
    · rw [dif_neg (show ¬x.val % 128 % 3 < 1 by omega), if_neg h1]
      by_cases h2 : x.val % 128 % 3 = 1
      · rw [dif_pos (show x.val % 128 % 3 - 1 < 1 by omega), if_pos h2]
        exact rd8_eq mid _ _ rfl e
      · rw [dif_neg (show ¬x.val % 128 % 3 - 1 < 1 by omega), if_neg h2]
        exact rd8_eq lo _ _ rfl e
  · rw [dif_neg h, if_neg h]
    by_cases h1 : x.val % 128 < 12
    · rw [dif_pos (show x.val % 128 - 6 < 6 by omega), if_pos h1]
    · rw [dif_neg (show ¬x.val % 128 - 6 < 6 by omega), if_neg h1]

/-- The gate lanes, read at an entry, where the gates are real: the second and third parts are nothing. -/
theorem lanesOf_at (c : FVec Ideal S65536x8 .f32) (hc : AllReal c) (r : Fin 65536) (x : Fin 512) :
    lanesOf (hiOf c) (midOf c) (loOf c) (ix2 r x) = gateLane c r.val (x.val / 128) (x.val % 128) := by
  have hn : ∀ i, ∃ r : ℝ, -c i = r := fun i => by
    obtain ⟨r, h⟩ := hc i
    exact ⟨-r, by rw [h, EReal.coe_neg]⟩
  have eh : ∀ r x, rd8 (hiOf c) r x = -rd8 c r x := fun r x => by
    unfold rd8; pointwise [hiOf]
  have em : ∀ r x, rd8 (midOf c) r x = 0 := fun r x => by
    unfold rd8; pointwise [midOf, restOf, hiOf]
    exact sub_self_of_real (hn _)
  have el : ∀ r x, rd8 (loOf c) r x = 0 := fun r x => by
    unfold rd8; pointwise [loOf, midOf, restOf, hiOf]
    rw [sub_self_of_real (hn _)]
    simp
  rw [lanesOf_read, gateLane]
  simp only [eh, em, el, ite_self]

/-- The block each window takes at each point. -/
theorem idx : ∀ t : Fin cfg0.N, win0_0.index t = ![t.val / 32 * 8 + t.val % 8, t.val / 8 % 4]
    ∧ win0_1.index t = ![t.val / 32 * 8 + t.val % 8, t.val / 8 % 4]
    ∧ win0_2.index t = ![t.val / 32, 4 + t.val / 8 % 4]
    ∧ win0_3.index t = ![t.val / 32, 8 + t.val / 8 % 4]
    ∧ win0_4.index t = ![t.val / 32, t.val / 8 % 4]
    ∧ win0_5.index t = ![t.val / 32 * 8 + t.val % 8, t.val / 8 % 4] :=
  (by decide +kernel : ∀ t : Fin grid0.N, _)

/-- The grid has 512 points. -/
theorem points (t : Fin cfg0.N) : t.val < 512 := t.isLt

variable (m : (ℓ : Loc nD τ sig) → Buf (Elt Ideal) ℓ)

/-- The query block, scaled. -/
theorem blk_q (c : Dev nD) (t : Fin cfg0.N) (r : Fin 512) (l : Fin 128) :
    (iblk m c 0 t : FVec Ideal S512x128 .bf16) (ix2 r l)
      = rd512 (m ((c : Thread nD τ).loc main_arg0)) (512 * (t.val / 32 * 8 + t.val % 8) + r.val) (128 * (t.val / 8 % 4) + l.val)
        * Ideal.ofBits FTy.f32 1040187392#32 := by
  have ht := points t
  have hr := r.isLt
  have hl := l.isLt
  have h1 : 512 * (t.val / 32 * 8 + t.val % 8) + r.val < 65536 := by omega
  have h2 : 128 * (t.val / 8 % 4) + l.val < 1536 := by omega
  have e : (iblk m c 0 t : FVec Ideal S512x128 .bf16) (ix2 r l)
      = (V m c main_v3 : FVec Ideal S65536x1536 .bf16) (ix2 ⟨_, h1⟩ ⟨_, h2⟩) := by
    blk_ext [iblk, idx t]
  rw [e, entry_qkv, qkvOf_at, if_pos (by show 128 * (t.val / 8 % 4) + l.val < 512; omega)]

/-- The key block: all keys of the batch. -/
theorem blk_k (c : Dev nD) (t : Fin cfg0.N) (r : Fin 4096) (l : Fin 128) :
    (iblk m c 2 t : FVec Ideal S4096x128 .bf16) (ix2 r l)
      = rd512 (m ((c : Thread nD τ).loc main_arg1)) (4096 * (t.val / 32) + r.val) (128 * (t.val / 8 % 4) + l.val) := by
  have ht := points t
  have hr := r.isLt
  have hl := l.isLt
  have h1 : 4096 * (t.val / 32) + r.val < 65536 := by omega
  have h2 : 128 * (4 + t.val / 8 % 4) + l.val < 1536 := by omega
  have e : (iblk m c 2 t : FVec Ideal S4096x128 .bf16) (ix2 r l)
      = (V m c main_v3 : FVec Ideal S65536x1536 .bf16) (ix2 ⟨_, h1⟩ ⟨_, h2⟩) := by
    blk_ext [iblk, idx t]
  rw [e, entry_qkv, qkvOf_at, if_neg (by show ¬128 * (4 + t.val / 8 % 4) + l.val < 512; omega),
    if_pos (by show 128 * (4 + t.val / 8 % 4) + l.val < 1024; omega)]
  congr 1
  show 128 * (4 + t.val / 8 % 4) + l.val - 512 = _
  omega

/-- The value block: all values of the batch. -/
theorem blk_v (c : Dev nD) (t : Fin cfg0.N) (r : Fin 4096) (l : Fin 128) :
    (iblk m c 3 t : FVec Ideal S4096x128 .bf16) (ix2 r l)
      = rd512 (m ((c : Thread nD τ).loc main_arg2)) (4096 * (t.val / 32) + r.val) (128 * (t.val / 8 % 4) + l.val) := by
  have ht := points t
  have hr := r.isLt
  have hl := l.isLt
  have h1 : 4096 * (t.val / 32) + r.val < 65536 := by omega
  have h2 : 128 * (8 + t.val / 8 % 4) + l.val < 1536 := by omega
  have e : (iblk m c 3 t : FVec Ideal S4096x128 .bf16) (ix2 r l)
      = (V m c main_v3 : FVec Ideal S65536x1536 .bf16) (ix2 ⟨_, h1⟩ ⟨_, h2⟩) := by
    blk_ext [iblk, idx t]
  rw [e, entry_qkv, qkvOf_at, if_neg (by show ¬128 * (8 + t.val / 8 % 4) + l.val < 512; omega),
    if_neg (by show ¬128 * (8 + t.val / 8 % 4) + l.val < 1024; omega)]
  congr 1
  show 128 * (8 + t.val / 8 % 4) + l.val - 1024 = _
  omega

/-- The gate lanes of the queries. -/
theorem blk_gq (c : Dev nD) (hc : AllReal (s := S65536x8) (φ := .f32) (m ((c : Thread nD τ).loc main_arg3)))
    (t : Fin cfg0.N) (r : Fin 512) (l : Fin 128) :
    (iblk m c 1 t : FVec Ideal S512x128 .bf16) (ix2 r l)
      = gateLane (m ((c : Thread nD τ).loc main_arg3)) (512 * (t.val / 32 * 8 + t.val % 8) + r.val) (t.val / 8 % 4) l.val := by
  have ht := points t
  have hr := r.isLt
  have hl := l.isLt
  have h1 : 512 * (t.val / 32 * 8 + t.val % 8) + r.val < 65536 := by omega
  have h2 : 128 * (t.val / 8 % 4) + l.val < 512 := by omega
  have e : (iblk m c 1 t : FVec Ideal S512x128 .bf16) (ix2 r l)
      = (V m c main_v20 : FVec Ideal S65536x512 .bf16) (ix2 ⟨_, h1⟩ ⟨_, h2⟩) := by
    blk_ext [iblk, idx t]
  rw [e, entry_gates, lanesOf_at _ hc]
  congr 1
  · show (128 * (t.val / 8 % 4) + l.val) / 128 = _
    omega
  · show (128 * (t.val / 8 % 4) + l.val) % 128 = _
    omega

/-- The gate lanes of the keys. -/
theorem blk_gk (c : Dev nD) (hc : AllReal (s := S65536x8) (φ := .f32) (m ((c : Thread nD τ).loc main_arg3)))
    (t : Fin cfg0.N) (r : Fin 4096) (l : Fin 128) :
    (iblk m c 4 t : FVec Ideal S4096x128 .bf16) (ix2 r l)
      = gateLane (m ((c : Thread nD τ).loc main_arg3)) (4096 * (t.val / 32) + r.val) (t.val / 8 % 4) l.val := by
  have ht := points t
  have hr := r.isLt
  have hl := l.isLt
  have h1 : 4096 * (t.val / 32) + r.val < 65536 := by omega
  have h2 : 128 * (t.val / 8 % 4) + l.val < 512 := by omega
  have e : (iblk m c 4 t : FVec Ideal S4096x128 .bf16) (ix2 r l)
      = (V m c main_v20 : FVec Ideal S65536x512 .bf16) (ix2 ⟨_, h1⟩ ⟨_, h2⟩) := by
    blk_ext [iblk, idx t]
  rw [e, entry_gates, lanesOf_at _ hc]
  congr 1
  · show (128 * (t.val / 8 % 4) + l.val) / 128 = _
    omega
  · show (128 * (t.val / 8 % 4) + l.val) % 128 = _
    omega

end Cert.KernelIdeal.Fox
-- ==== Proof.Fox.Group.lean ====
module

public import proofs.«01_k».proof.Proof.Fox.Scratch
public import proofs.«01_k».proof.Proof.Fox.Blocks

@[expose] public section

/-!
The scratch is written at the first point of a group and kept for its other points, so at every point it holds the
keys and the values of the point's own blocks; and every point writes the block of its own query block.
-/

set_option maxRecDepth 16384

noncomputable section

namespace Cert.KernelIdeal.Fox

open Idealize.ShloMosaic Idealize.ShloMosaic.TcCoe
open Cert.KernelIdeal Cert.KernelIdeal.Gen Cert.Attn

variable (m : (ℓ : Loc nD τ sig) → Buf (Elt Ideal) ℓ)

/-- The point before one that is not the first of its group. -/
def before (t : Fin cfg0.N) : Fin cfg0.N := ⟨t.val - 1, Nat.lt_of_le_of_lt (Nat.sub_le _ _) t.isLt⟩

/-- The two are of one group. -/
theorem before_group (t : Fin cfg0.N) (h : 1 ≤ t.val % 8) : (before t).val / 32 = t.val / 32 ∧ (before t).val / 8 % 4 = t.val / 8 % 4 := by
  show (t.val - 1) / 32 = t.val / 32 ∧ (t.val - 1) / 8 % 4 = t.val / 8 % 4
  omega

/-- The points of one group read one block of keys, -/
theorem keys_same (c : Dev nD) (t : Fin cfg0.N) (h : 1 ≤ t.val % 8) :
    (iblk m c 2 (before t) : FVec Ideal S4096x128 .bf16) = iblk m c 2 t := by
  funext i
  rw [eq_ix2 i]
  exact (blk_k m c (before t) (i 0) (i 1)).trans (((before_group t h).1 ▸ (before_group t h).2 ▸ rfl : _ = _).trans (blk_k m c t (i 0) (i 1)).symm)

/-- one block of values, -/
theorem values_same (c : Dev nD) (t : Fin cfg0.N) (h : 1 ≤ t.val % 8) :
    (iblk m c 3 (before t) : FVec Ideal S4096x128 .bf16) = iblk m c 3 t := by
  funext i
  rw [eq_ix2 i]
  refine (blk_v m c (before t) (i 0) (i 1)).trans (Eq.trans ?_ (blk_v m c t (i 0) (i 1)).symm)
  rw [(before_group t h).1, (before_group t h).2]

/-- and one block of gate lanes. -/
theorem gates_same (c : Dev nD) (hc : AllReal (s := S65536x8) (φ := .f32) (m ((c : Thread nD τ).loc main_arg3)))
    (t : Fin cfg0.N) (h : 1 ≤ t.val % 8) :
    (iblk m c 4 (before t) : FVec Ideal S4096x128 .bf16) = iblk m c 4 t := by
  funext i
  rw [eq_ix2 i]
  refine (blk_gk m c hc (before t) (i 0) (i 1)).trans (Eq.trans ?_ (blk_gk m c hc t (i 0) (i 1)).symm)
  rw [(before_group t h).1, (before_group t h).2]

/-- What the scratch holds after any point. -/
theorem scratch (c : Dev nD) (hc : AllReal (s := S65536x8) (φ := .f32) (m ((c : Thread nD τ).loc main_arg3)))
    (n : ℕ) : ∀ t : Fin cfg0.N, t.val % 8 = n →
      (outsAt0 m c t.val t.isLt).2 = (kaugOf (iblk m c 2 t) (iblk m c 4 t), vtOf (fun d => d < 64) 64 (iblk m c 3 t),
        vtOf (fun d => 64 ≤ d) 0 (iblk m c 3 t)) := by
  induction n with
  | zero =>
    intro t h
    exact Prod.ext (keys_first m c t h) (Prod.ext (valsA_first m c t h) (valsB_first m c t h))
  | succ n ih =>
    intro t h
    have h1 : 1 ≤ t.val % 8 := by omega
    refine (scratch_later m c t h1).trans ((ih (before t) ?_).trans ?_)
    · show (t.val - 1) % 8 = n
      omega
    · rw [keys_same m c t h1, values_same m c t h1, gates_same m c hc t h1]

/-- What any point writes. -/
theorem out_at (c : Dev nD) (hc : AllReal (s := S65536x8) (φ := .f32) (m ((c : Thread nD τ).loc main_arg3)))
    (t : Fin cfg0.N) :
    (outsAt0 m c t.val t.isLt).1 = blockOut (t.val % 8) (iblk m c 0 t) (iblk m c 1 t)
      (kaugOf (iblk m c 2 t) (iblk m c 4 t)) (vtOf (fun d => d < 64) 64 (iblk m c 3 t))
      (vtOf (fun d => 64 ≤ d) 0 (iblk m c 3 t)) := by
  have e := scratch m c hc _ t rfl
  rcases Nat.lt_or_ge (t.val % 8) 1 with h | h
  · rw [out_first m c t (by omega), e]
  · rw [out_later m c t h, e]

end Cert.KernelIdeal.Fox
-- ==== Proof.Fox.Lanes.lean ====
module

public import proofs.«01_k».proof.Proof.Fox.Scratch
public import proofs.«01_k».proof.Proof.Fox.Blocks

@[expose] public section

/-!
One product of 256 lanes gives a whole logit: 64 lanes carry a head's query and key, one gate lane adds the query's
cumulative gate and one takes the key's away; every other lane is zero.
-/

set_option maxRecDepth 16384

noncomputable section

namespace Cert.KernelIdeal.Fox

open Idealize.ShloMosaic Idealize.ShloMosaic.TcCoe
open Cert.KernelIdeal Cert.KernelIdeal.Gen Cert.Attn Cert.Words

/-- The lane `x` of 256: a head lane of head `h`, one of its two gate lanes, or none of them. -/
def pick (h : ℕ) (P : ℕ → EReal) (A B : EReal) (x : ℕ) : EReal :=
  if x < 128 then (if x / 64 = h then P x else 0) else if x - 128 = 3 * h then A else if x - 128 = 6 + 3 * h then B else 0

/-- The sum of 256 lanes of which head `h`'s 64 and two of its gate lanes matter. -/
theorem lanes_sum (h : ℕ) (hh : h < 2) (P : ℕ → EReal) (A B : EReal) :
    ∑ x ∈ Finset.range 256, pick h P A B x = ∑ l : Fin 64, P (64 * h + l.val) + (A + B) := by
  unfold pick
  rw [show 256 = 64 + 64 + 128 from rfl, Finset.sum_range_add, Finset.sum_range_add, Finset.sum_range (fun l => _) (n := 64),
    Finset.sum_range (fun l => _) (n := 64)]
  have hg : ∑ x ∈ Finset.range 128, (if 64 + 64 + x < 128 then (if (64 + 64 + x) / 64 = h then P (64 + 64 + x) else 0)
        else if 64 + 64 + x - 128 = 3 * h then A else if 64 + 64 + x - 128 = 6 + 3 * h then B else 0) = A + B := by
    have e : ∀ x ∈ Finset.range 128, (if 64 + 64 + x < 128 then (if (64 + 64 + x) / 64 = h then P (64 + 64 + x) else 0)
        else if 64 + 64 + x - 128 = 3 * h then A else if 64 + 64 + x - 128 = 6 + 3 * h then B else 0)
        = (if x = 3 * h then A else 0) + (if x = 6 + 3 * h then B else 0) := by
      intro x _
      rw [if_neg (by omega), show 64 + 64 + x - 128 = x by omega]
      by_cases h1 : x = 3 * h
      · rw [if_pos h1, if_pos h1, if_neg (by omega), add_zero]
      · rw [if_neg h1, if_neg h1, zero_add]
    rw [Finset.sum_congr rfl e, Finset.sum_add_distrib, Finset.sum_ite_eq', Finset.sum_ite_eq',
      if_pos (Finset.mem_range.2 (by omega)), if_pos (Finset.mem_range.2 (by omega))]
  rw [hg]
  congr 1
  have e0 : ∀ l : Fin 64, (if l.val < 128 then (if l.val / 64 = h then P l.val else 0)
        else if l.val - 128 = 3 * h then A else if l.val - 128 = 6 + 3 * h then B else 0) = if 0 = h then P l.val else 0 := fun l => by
    have := l.isLt
    rw [if_pos (by omega), show l.val / 64 = 0 by omega]
  have e1 : ∀ l : Fin 64, (if 64 + l.val < 128 then (if (64 + l.val) / 64 = h then P (64 + l.val) else 0)
        else if 64 + l.val - 128 = 3 * h then A else if 64 + l.val - 128 = 6 + 3 * h then B else 0) = if 1 = h then P (64 + l.val) else 0 := fun l => by
    have := l.isLt
    rw [if_pos (by omega), show (64 + l.val) / 64 = 1 by omega]
  rw [Finset.sum_congr rfl fun l _ => e0 l, Finset.sum_congr rfl fun l _ => e1 l]
  rcases (by omega : h = 0 ∨ h = 1) with rfl | rfl <;> simp

/-- A sum over 256 lanes, each a formula in the lane's number. -/
theorem sum_lanes (f : Fin 256 → EReal) (g : ℕ → EReal) (e : ∀ x, f x = g x.val) : ∑ x, f x = ∑ x ∈ Finset.range 256, g x :=
  (Finset.sum_congr rfl fun x _ => e x).trans (Finset.sum_range g).symm

/-- What head `h`'s queries hold at lane `x` of row `r`. -/
def laneQ (h : ℕ) (x0 x1 : FVec Ideal S512x128 .bf16) (r : Fin 512) (x : ℕ) : EReal :=
  if x < 128 then (if x / 64 = h then x0 (ix2 r (Fin.ofNat 128 x)) else 0)
  else if 3 * h ≤ x - 128 ∧ x - 128 < 3 * h + 3 then 1
  else if 6 + 3 * h ≤ x - 128 ∧ x - 128 < 9 + 3 * h then 0 - x1 (ix2 r (Fin.ofNat 128 (x - 128 + 122))) else 0

set_option maxHeartbeats 1000000 in
/-- The first head's queries, lane by lane. -/
theorem qA_at (x0 x1 : FVec Ideal S512x128 .bf16) (r : Fin 512) (x : Fin 256) : qA x0 x1 (ix2 r x) = laneQ 0 x0 x1 r x.val := by
  have hx := x.isLt
  unfold qA
  unfold_payloads
  pointwise
  unfold laneQ
  by_cases h : x.val < 128
  · rw [dif_pos h, if_pos h, sel_slt _ _ _ _ (by omega) (by omega)]
    by_cases h1 : x.val < 64
    · rw [if_pos h1, if_pos (show x.val / 64 = 0 by omega)]
      exact congrArg x0 (congrArg₂ ix2 rfl (Fin.ext (Nat.mod_eq_of_lt h).symm))
    · rw [if_neg h1, if_neg (show ¬x.val / 64 = 0 by omega)]
  · rw [dif_neg h, if_neg h, sel_slt _ _ _ _ (by omega) (by omega), sel_range _ _ _ _ _ (by omega) (by omega) (by omega)]
    by_cases h1 : x.val - 128 < 3
    · rw [if_pos h1, if_pos (show 3 * 0 ≤ x.val - 128 ∧ x.val - 128 < 3 * 0 + 3 by omega)]
    · rw [if_neg h1, if_neg (show ¬(3 * 0 ≤ x.val - 128 ∧ x.val - 128 < 3 * 0 + 3) by omega)]
      by_cases h2 : 6 ≤ x.val - 128 ∧ x.val - 128 < 9
      · rw [if_pos h2, if_pos (show 6 + 3 * 0 ≤ x.val - 128 ∧ x.val - 128 < 9 + 3 * 0 by omega)]
        exact congrArg (fun z => 0 - x1 z) (congrArg₂ ix2 rfl (Fin.ext (show (x.val - 128 + 128 - 6) % 128 = (x.val - 128 + 122) % 128 by omega)))
      · rw [if_neg h2, if_neg (show ¬(6 + 3 * 0 ≤ x.val - 128 ∧ x.val - 128 < 9 + 3 * 0) by omega)]

set_option maxHeartbeats 1000000 in
/-- The second head's queries, lane by lane. -/
theorem qB_at (x0 x1 : FVec Ideal S512x128 .bf16) (r : Fin 512) (x : Fin 256) : qB x0 x1 (ix2 r x) = laneQ 1 x0 x1 r x.val := by
  have hx := x.isLt
  unfold qB
  unfold_payloads
  pointwise
  unfold laneQ
  by_cases h : x.val < 128
  · rw [dif_pos h, if_pos h, sel_sge _ _ _ _ (by omega) (by omega)]
    by_cases h1 : 64 ≤ x.val
    · rw [if_pos h1, if_pos (show x.val / 64 = 1 by omega)]
      exact congrArg x0 (congrArg₂ ix2 rfl (Fin.ext (Nat.mod_eq_of_lt h).symm))
    · rw [if_neg h1, if_neg (show ¬x.val / 64 = 1 by omega)]
  · rw [dif_neg h, if_neg h, sel_range _ _ _ _ _ (by omega) (by omega) (by omega), sel_range _ _ _ _ _ (by omega) (by omega) (by omega)]
    by_cases h1 : 3 ≤ x.val - 128 ∧ x.val - 128 < 6
    · rw [if_pos h1, if_pos (show 3 * 1 ≤ x.val - 128 ∧ x.val - 128 < 3 * 1 + 3 by omega)]
    · rw [if_neg h1, if_neg (show ¬(3 * 1 ≤ x.val - 128 ∧ x.val - 128 < 3 * 1 + 3) by omega)]
      by_cases h2 : 9 ≤ x.val - 128 ∧ x.val - 128 < 12
      · rw [if_pos h2, if_pos (show 6 + 3 * 1 ≤ x.val - 128 ∧ x.val - 128 < 9 + 3 * 1 by omega)]
        exact congrArg (fun z => 0 - x1 z) (congrArg₂ ix2 rfl (Fin.ext (show (x.val - 128 + 128 - 6) % 128 = (x.val - 128 + 122) % 128 by omega)))
      · rw [if_neg h2, if_neg (show ¬(6 + 3 * 1 ≤ x.val - 128 ∧ x.val - 128 < 9 + 3 * 1) by omega)]

/-- One gate lane of the product. -/
theorem gate_term (c : FVec Ideal S65536x8 .f32) (R K p g h : ℕ) (hg : g < 128) (hh : h < 2) :
    gateLane c K p g * (if 3 * h ≤ g ∧ g < 3 * h + 3 then 1
        else if 6 + 3 * h ≤ g ∧ g < 9 + 3 * h then 0 - gateLane c R p ((g + 122) % 128) else 0)
      = if g = 3 * h then -rd8 c K (2 * p + h) else if g = 6 + 3 * h then rd8 c R (2 * p + h) else 0 := by
  by_cases h12 : g < 12
  · interval_cases h <;> interval_cases g <;> simp [gateLane]
  · rw [if_neg (by omega), if_neg (by omega), if_neg (by omega), if_neg (by omega), mul_zero]

/-- The product of the augmented keys' row `k` with head `h`'s queries in row `r` is the logit but for the mask. -/
theorem lane_logit (h : ℕ) (hh : h < 2) (x0 x1 : FVec Ideal S512x128 .bf16) (x2 x4 : FVec Ideal S4096x128 .bf16)
    (r : Fin 512) (k : Fin 4096) (q : FVec Ideal S512x256 .bf16) (hq : ∀ x : Fin 256, q (ix2 r x) = laneQ h x0 x1 r x.val)
    (Qa Ka : FVec Ideal S65536x512 .f32) (c : FVec Ideal S65536x8 .f32) (R K p : ℕ)
    (h0 : ∀ l : Fin 128, x0 (ix2 r l) = rd512 Qa R (128 * p + l.val) * Ideal.ofBits FTy.f32 1040187392#32)
    (h1 : ∀ l : Fin 128, x1 (ix2 r l) = gateLane c R p l.val)
    (h2 : ∀ l : Fin 128, x2 (ix2 k l) = rd512 Ka K (128 * p + l.val))
    (h4 : ∀ l : Fin 128, x4 (ix2 k l) = gateLane c K p l.val) :
    ∑ x : Fin 256, kaugOf x2 x4 (ix2 k x) * q (ix2 r x) = logit Qa Ka c R K (2 * p + h) := by
  have e : ∀ x : Fin 256, kaugOf x2 x4 (ix2 k x) * q (ix2 r x)
      = pick h (fun x => rd512 Qa R (128 * p + x) * Ideal.ofBits FTy.f32 1040187392#32 * rd512 Ka K (128 * p + x))
          (-rd8 c K (2 * p + h)) (rd8 c R (2 * p + h)) x.val := by
    intro x
    have hx := x.isLt
    rw [hq x]
    by_cases hl : x.val < 128
    · have ek : kaugOf x2 x4 (ix2 k x) = rd512 Ka K (128 * p + x.val) := by
        unfold kaugOf
        exact (dif_pos hl).trans (h2 ⟨x.val, hl⟩)
      rw [ek, laneQ, pick]
      simp only [if_pos hl]
      by_cases hd : x.val / 64 = h
      · rw [if_pos hd, if_pos hd, h0, mul_comm]
        rw [show (Fin.ofNat 128 x.val).val = x.val from Nat.mod_eq_of_lt hl]
      · rw [if_neg hd, if_neg hd, mul_zero]
    · have ek : kaugOf x2 x4 (ix2 k x) = gateLane c K p (x.val - 128) := by
        unfold kaugOf
        exact (dif_neg hl).trans (h4 ⟨x.val - 128, by omega⟩)
      rw [ek, laneQ, pick]
      simp only [if_neg hl]
      rw [h1, show (Fin.ofNat 128 (x.val - 128 + 122)).val = (x.val - 128 + 122) % 128 from rfl]
      exact gate_term c R K p (x.val - 128) h (by omega) hh
  rw [sum_lanes _ _ e, lanes_sum h hh, logit, sub_eq_add_neg, add_assoc,
    add_comm (-rd8 c K (2 * p + h))]
  congr 1
  refine Finset.sum_congr rfl fun l _ => ?_
  rw [show 128 * p + (64 * h + l.val) = 64 * (2 * p + h) + l.val by omega]

end Cert.KernelIdeal.Fox
-- ==== Proof.Fox.Average.lean ====
module

public import proofs.«01_k».proof.Proof.Fox.Block
public import proofs.«01_k».proof.Proof.Fox.Spec
public import proofs.«01_k».proof.Proof.Fox.Words

@[expose] public section

/-!
The recursion over key blocks gives the softmax average.
-/

set_option maxRecDepth 16384

noncomputable section

namespace Cert.KernelIdeal.Fox

open Idealize.ShloMosaic Idealize.ShloMosaic.TcCoe
open Cert.KernelIdeal Cert.KernelIdeal.Gen Cert.Attn Cert.Words Cert.Softmax

/-- One step of the running maximum, at a query. -/
theorem maxStep_at (s : FVec Ideal S1x1x512x512 .bf16) (m : FVec Ideal S1x1x512 .f32) (r : Fin 512) :
    maxStep s m (ix3 0 0 r) = max (m (ix3 0 0 r)) (Finset.univ.fold max ⊥ fun x : Fin 512 => s (ix4 0 0 x r)) := by
  rw [← ofBits_neg_inf_bf16]
  unfold maxStep
  unfold_payloads
  pointwise

/-- One step of the running sums, at a lane and a query. -/
theorem accStep_at (s : FVec Ideal S1x1x512x512 .bf16) (m : FVec Ideal S1x1x512 .f32) (a : FVec Ideal S1x128x512 .f32)
    (v : FVec Ideal S1x128x512 .bf16) (d : Fin 128) (r : Fin 512) :
    accStep s m a v (ix3 0 d r) = Ideal.exp (m (ix3 0 0 r) - maxStep s m (ix3 0 0 r)) * a (ix3 0 d r)
      + ∑ x : Fin 512, v (ix3 0 d x) * Ideal.exp (s (ix4 0 0 x r) - maxStep s m (ix3 0 0 r)) := by
  rw [maxStep_at, ← ofBits_neg_inf_bf16]
  unfold accStep
  unfold_payloads
  pointwise

/-- The scores of a block, at a key and a query. -/
theorem score_at (n : ℕ) (q : FVec Ideal S512x256 .bf16) (xs0 : FVec Ideal S4096x256 .bf16) (J : ℕ) (x r : Fin 512) :
    score n q xs0 J (ix4 0 0 x r) = if J = n ∧ r.val < x.val then ⊥
      else ∑ y : Fin 256, xs0 (ix2 (Fin.ofNat 4096 (512 * J + x.val)) y) * q (ix2 r y) := by
  have hx := x.isLt
  have hr := r.isLt
  unfold score
  by_cases h : J = n
  · rw [if_pos h]
    unfold_payloads
    pointwise [keyRows, rowsAt]
    rw [sel_sle _ _ _ _ (by omega) (by omega), ofBits_neg_inf]
    by_cases h' : r.val < x.val
    · rw [if_neg (by omega), if_pos ⟨h, h'⟩]
    · rw [if_pos (by omega), if_neg (fun e => h' e.2)]
  · rw [if_neg h, if_neg (fun e => h e.1)]
    unfold_payloads
    pointwise [keyRows, rowsAt]

/-- The block a point writes, at a query and a lane. -/
theorem finish_at (a b : FVec Ideal S1x128x512 .f32) (r : Fin 512) (d : Fin 128) :
    finish a b (ix2 r d) = if d.val < 64 then Ideal.div (a (ix3 0 d r)) (a (ix3 0 64 r)) else Ideal.div (b (ix3 0 d r)) (b (ix3 0 0 r)) := by
  have hd := d.isLt
  unfold finish
  unfold_payloads
  pointwise
  rw [sel_slt _ _ _ _ (by omega) (by omega)]

variable (s : ℕ → FVec Ideal S1x1x512x512 .bf16) (v : ℕ → FVec Ideal S1x128x512 .bf16)

/-- The unshifted weighted sum over the blocks up to the diagonal is the one over all keys, the later ones masked. -/
theorem sum_blocks (n : ℕ) (hn : n < 8) (r : Fin 512) (L W : ℕ → EReal)
    (hs : ∀ j (x : Fin 512), s j (ix4 0 0 x r) = if j = n ∧ r.val < x.val then ⊥ else L ((512 * j + x.val) % 4096))
    (d : Fin 128) (hd : ∀ j, j < 8 → ∀ x : Fin 512, v j (ix3 0 d x) = W (512 * j + x.val)) :
    ∑ j ∈ Finset.range (n + 1), ∑ x : Fin 512, v j (ix3 0 d x) * ((wt (s j (ix4 0 0 x r)) : ℝ) : EReal)
      = ∑ k : Fin 4096, W k.val * ((wt (if k.val ≤ 512 * n + r.val then L k.val else ⊥) : ℝ) : EReal) := by
  refine Eq.trans ?_ (sum_chunks 8 512 fun k => W k * ((wt (if k ≤ 512 * n + r.val then L k else ⊥) : ℝ) : EReal))
  have hr := r.isLt
  rw [← Finset.sum_subset (s₁ := Finset.range (n + 1)) (s₂ := Finset.range 8)]
  · refine Finset.sum_congr rfl fun j hj => Finset.sum_congr rfl fun x _ => ?_
    have hj := Finset.mem_range.1 hj
    have hx := x.isLt
    rw [hd j (by omega), hs, Nat.mod_eq_of_lt (show 512 * j + x.val < 4096 by omega)]
    by_cases h : j = n ∧ r.val < x.val
    · rw [if_pos h, if_neg (by omega)]
    · rw [if_neg h, if_pos (by omega)]
  · exact fun j hj => Finset.mem_range.2 (by have := Finset.mem_range.1 hj; omega)
  · intro j _ hj
    refine Finset.sum_eq_zero fun x _ => ?_
    have hj : ¬j < n + 1 := fun e => hj (Finset.mem_range.2 e)
    rw [if_neg (by omega), wt_bot, EReal.coe_zero, mul_zero]

/-- **One head's average.** The weighted sums of a lane over those of the lane of ones, after the block on the diagonal,
are the softmax average of the lane's values. -/
theorem head_average (n : ℕ) (hn : n < 8) (r : Fin 512) (d o : Fin 128) (L W : ℕ → EReal) (hL : ∀ k, ∃ y : ℝ, L k = y)
    (hs : ∀ j (x : Fin 512), s j (ix4 0 0 x r) = if j = n ∧ r.val < x.val then ⊥ else L ((512 * j + x.val) % 4096))
    (hd : ∀ j, j < 8 → ∀ x : Fin 512, v j (ix3 0 d x) = W (512 * j + x.val))
    (ho : ∀ j, j < 8 → ∀ x : Fin 512, v j (ix3 0 o x) = 1) :
    Ideal.div (accAt s v (n + 1) (ix3 0 d r)) (accAt s v (n + 1) (ix3 0 o r))
      = average (fun k => if k.val ≤ 512 * n + r.val then L k.val else ⊥) (fun k => W k.val) := by
  have hr := r.isLt
  have nt : ∀ k, L k ≠ ⊤ := fun k => by
    obtain ⟨y, e⟩ := hL k
    rw [e]; exact EReal.coe_ne_top y
  have nb : ∀ k, L k ≠ ⊥ := fun k => by
    obtain ⟨y, e⟩ := hL k
    rw [e]; exact EReal.coe_ne_bot y
  have st : ∀ j (x : Fin 512), s j (ix4 0 0 x r) ≠ ⊤ := fun j x => by
    rw [hs]; split
    · exact bot_ne_top
    · exact nt _
  have run := fun e : Fin 128 => running (fun j (x : Fin 512) => s j (ix4 0 0 x r)) (fun j x => v j (ix3 0 e x)) st
    (fun j => maxAt s j (ix3 0 0 r)) (fun j => accAt s v j (ix3 0 e r)) ofBits_floor
    (fun j => maxStep_at (s j) (maxAt s j) r) (Ideal.ofBits_zero_f32) (fun j => accStep_at (s j) (maxAt s j) (accAt s v j) (v j) e r) (n + 1)
  obtain ⟨μ, hμ, hnum⟩ := run d
  obtain ⟨μ', hμ', hden⟩ := run o
  obtain rfl : μ = μ' := EReal.coe_injective (hμ.symm.trans hμ')
  have st' : ∀ k : Fin 4096, (if k.val ≤ 512 * n + r.val then L k.val else ⊥) ≠ ⊤ := fun k => by
    split
    · exact nt _
    · exact bot_ne_top
  have sb : (fun k : Fin 4096 => if k.val ≤ 512 * n + r.val then L k.val else ⊥) ⟨512 * n + r.val, by omega⟩ ≠ ⊥ := by
    simp only [le_refl, if_true]
    exact nb _
  obtain ⟨M, hM⟩ := max_real _ st' _ sb
  unfold average
  rw [hM]
  refine Eq.trans ?_ (quotient _ (fun k : Fin 4096 => W k.val) st' _ sb μ M)
  refine congrArg₂ Ideal.div (hnum.trans (congrArg _ ?_)) (hden.trans (congrArg _ ?_))
  · exact sum_blocks s v n hn r L W hs d hd
  · exact sum_blocks s v n hn r L (fun _ => 1) hs o ho

end Cert.KernelIdeal.Fox
-- ==== Proof.Fox.Value.lean ====
module

public import proofs.«01_k».proof.Proof.Gen.KernelIdeal.Value
public import proofs.«01_k».proof.Proof.Fox.Group
public import proofs.«01_k».proof.Proof.Fox.Lanes
public import proofs.«01_k».proof.Proof.Fox.Average

@[expose] public section

/-!
The kernel's result, entry by entry: the gated attention of `Spec.lean`.
-/

set_option maxRecDepth 16384

noncomputable section

namespace Cert.KernelIdeal.Fox

open Idealize.ShloMosaic Idealize.ShloMosaic.TcCoe
open Cert.KernelIdeal Cert.KernelIdeal.Gen Cert.Attn Cert.Words

/-- A value lane of a head, at block `j` and key `x`. -/
theorem valRows_keep (keep : ℕ → Prop) [DecidablePred keep] (l1 : ℕ) (x3 : FVec Ideal S4096x128 .bf16) (d : Fin 128) (hd : keep d.val)
    (j : ℕ) (hj : j < 8) (x : Fin 512) :
    valRows (vtOf keep l1 x3) j (ix3 0 d x) = x3 (ix2 (Fin.ofNat 4096 (512 * j + x.val)) d) := by
  show (if keep d.val then _ else _) = _
  rw [if_pos hd]
  show x3 (ix2 (Fin.ofNat 4096 (512 * (j % 8) + x.val)) d) = _
  rw [Nat.mod_eq_of_lt hj]

/-- The lane of ones. -/
theorem valRows_one (keep : ℕ → Prop) [DecidablePred keep] (x3 : FVec Ideal S4096x128 .bf16) (o : Fin 128) (ho : ¬keep o.val)
    (j : ℕ) (x : Fin 512) : valRows (vtOf keep o.val x3) j (ix3 0 o x) = 1 := by
  show (if keep o.val then _ else if o.val = o.val then _ else _) = _
  rw [if_neg ho, if_pos rfl]

variable (m : (ℓ : Loc nD τ sig) → Buf (Elt Ideal) ℓ)

/-- One head of the block written at a point. -/
theorem head_at (c : Dev nD) (hq : AllReal (s := S65536x512) (φ := .f32) (m ((c : Thread nD τ).loc main_arg0)))
    (hk : AllReal (s := S65536x512) (φ := .f32) (m ((c : Thread nD τ).loc main_arg1)))
    (hc : AllReal (s := S65536x8) (φ := .f32) (m ((c : Thread nD τ).loc main_arg3)))
    (t : Fin cfg0.N) (r : Fin 512) (d o : Fin 128) (h : ℕ) (hd : d.val / 64 = h) (q : FVec Ideal S512x256 .bf16)
    (hql : ∀ x : Fin 256, q (ix2 r x) = laneQ h (iblk m c 0 t) (iblk m c 1 t) r x.val)
    (keep : ℕ → Prop) [DecidablePred keep] (kd : keep d.val) (ko : ¬keep o.val) :
    Ideal.div (accAt (score (t.val % 8) q (kaugOf (iblk m c 2 t) (iblk m c 4 t))) (valRows (vtOf keep o.val (iblk m c 3 t))) (t.val % 8 + 1) (ix3 0 d r))
        (accAt (score (t.val % 8) q (kaugOf (iblk m c 2 t) (iblk m c 4 t))) (valRows (vtOf keep o.val (iblk m c 3 t))) (t.val % 8 + 1) (ix3 0 o r))
      = attn (m ((c : Thread nD τ).loc main_arg0)) (m ((c : Thread nD τ).loc main_arg1)) (m ((c : Thread nD τ).loc main_arg2))
          (m ((c : Thread nD τ).loc main_arg3)) (512 * (t.val / 32 * 8 + t.val % 8) + r.val) (128 * (t.val / 8 % 4) + d.val) := by
  have ht := points t
  have hr := r.isLt
  have hdl := d.isLt
  refine (head_average _ _ (t.val % 8) (by omega) r d o
    (fun k => logit (m ((c : Thread nD τ).loc main_arg0)) (m ((c : Thread nD τ).loc main_arg1)) (m ((c : Thread nD τ).loc main_arg3))
      (512 * (t.val / 32 * 8 + t.val % 8) + r.val) (4096 * (t.val / 32) + k) (2 * (t.val / 8 % 4) + h))
    (fun k => rd512 (m ((c : Thread nD τ).loc main_arg2)) (4096 * (t.val / 32) + k) (128 * (t.val / 8 % 4) + d.val))
    (fun k => logit_real hq hk hc _ _ _) ?_ ?_ ?_).trans ?_
  · intro j x
    rw [score_at]
    refine congrArg (ite _ _) ?_
    exact lane_logit h (by omega) (iblk m c 0 t) (iblk m c 1 t) (iblk m c 2 t) (iblk m c 4 t) r (Fin.ofNat 4096 (512 * j + x.val)) q hql
      _ _ _ _ _ (t.val / 8 % 4) (fun l => blk_q m c t r l) (fun l => blk_gq m c hc t r l) (fun l => blk_k m c t _ l) (fun l => blk_gk m c hc t _ l)
  · intro j hj x
    have hx := x.isLt
    refine (valRows_keep keep o.val _ d kd j hj x).trans ((blk_v m c t _ d).trans ?_)
    rw [show (Fin.ofNat 4096 (512 * j + x.val)).val = 512 * j + x.val from Nat.mod_eq_of_lt (by omega)]
  · exact fun j _ x => valRows_one keep _ o ko j x
  · have e1 : (512 * (t.val / 32 * 8 + t.val % 8) + r.val) % 4096 = 512 * (t.val % 8) + r.val := by omega
    have e2 : (512 * (t.val / 32 * 8 + t.val % 8) + r.val) / 4096 = t.val / 32 := by omega
    have e3 : (128 * (t.val / 8 % 4) + d.val) / 64 = 2 * (t.val / 8 % 4) + h := by omega
    unfold attn masked
    rw [e1, e2, e3]

/-- **The block written at a point** is the attention at its rows and lanes. -/
theorem block_at (c : Dev nD) (hq : AllReal (s := S65536x512) (φ := .f32) (m ((c : Thread nD τ).loc main_arg0)))
    (hk : AllReal (s := S65536x512) (φ := .f32) (m ((c : Thread nD τ).loc main_arg1)))
    (hc : AllReal (s := S65536x8) (φ := .f32) (m ((c : Thread nD τ).loc main_arg3)))
    (t : Fin cfg0.N) (r : Fin 512) (d : Fin 128) :
    ((outsAt0 m c t.val t.isLt).1 : FVec Ideal S512x128 .bf16) (ix2 r d)
      = attn (m ((c : Thread nD τ).loc main_arg0)) (m ((c : Thread nD τ).loc main_arg1)) (m ((c : Thread nD τ).loc main_arg2))
          (m ((c : Thread nD τ).loc main_arg3)) (512 * (t.val / 32 * 8 + t.val % 8) + r.val) (128 * (t.val / 8 % 4) + d.val) := by
  have hdl := d.isLt
  refine (congrFun (out_at m c hc t) (ix2 r d)).trans ((finish_at _ _ r d).trans ?_)
  by_cases h : d.val < 64
  · rw [if_pos h]
    exact head_at m c hq hk hc t r d 64 0 (by omega) _ (qA_at _ _ r) (fun d => d < 64) h (by decide)
  · rw [if_neg h]
    exact head_at m c hq hk hc t r d 0 1 (by omega) _ (qB_at _ _ r) (fun d => 64 ≤ d) (by omega) (by decide)

/-- The attention, as an array of a result's shape. -/
def result (q k v : FVec Ideal S65536x512 .f32) (c : FVec Ideal S65536x8 .f32) : FVec Ideal S65536x512 .bf16 :=
  fun i => attn q k v c (i 0).val (i 1).val

/-- **The kernel's result** is the attention. -/
theorem array_eq (c : Dev nD) (hq : AllReal (s := S65536x512) (φ := .f32) (m ((c : Thread nD τ).loc main_arg0)))
    (hk : AllReal (s := S65536x512) (φ := .f32) (m ((c : Thread nD τ).loc main_arg1)))
    (hc : AllReal (s := S65536x8) (φ := .f32) (m ((c : Thread nD τ).loc main_arg3))) :
    (dats m 0 c).arrAt 5 cfg0.N = result (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]
  refine (congrArg _ (eq_ix2 y)).trans ((block_at m c hq hk hc t (y 0) (y 1)).trans ?_)
  unfold result
  refine congrArg₂ _ ?_ ?_
  all_goals
    blk_simp [idx t]
    simp
    try omega

end Cert.KernelIdeal.Fox
-- ==== Proof.Fox.Reference.lean ====
module

public import proofs.«01_k».proof.Proof.Gen.ReferenceIdeal.Run
public import proofs.«01_k».proof.Proof.Fox.Spec
public import proofs.«01_k».proof.Proof.Fox.Words

@[expose] public section

/-!
The reference's result, entry by entry: the gated attention of `Spec.lean`.
-/

set_option maxRecDepth 16384

noncomputable section

namespace Cert.ReferenceIdeal.Fox

open Idealize.ShloMosaic Idealize.ShloMosaic.TcCoe
open Cert.ReferenceIdeal Cert.ReferenceIdeal.Gen Cert.ReferenceIdeal.Value Cert.Attn Cert.Words

variable {F : FTy → Type} [FloatOps F]

/-- An array of rows, seen as sequences of heads. -/
def heads (X : FVec F S65536x512 .f32) : FVec F S16x8x4096x64 .f32 :=
  transpose S16x8x4096x64 [0, 2, 1, 3] (shapeCast _ X shapeCasts_S65536x512_S16x4096x8x64) transposes_S16x4096x8x64_S16x8x4096x64_0_2_1_3

/-- The gates, seen as sequences of heads. -/
def gates (c : FVec F S65536x8 .f32) : FVec F S16x8x4096 .f32 :=
  transpose S16x8x4096 [0, 2, 1] (shapeCast _ c shapeCasts_S65536x8_S16x4096x8) transposes_S16x4096x8_S16x8x4096_0_2_1

/-- Every logit, before the mask. -/
def scores (q k : FVec F S16x8x4096x64 .f32) (g : FVec F S16x8x4096 .f32) : FVec F S16x8x4096x4096 .f32 :=
  subf (addf (Host.dotGeneral dot_S16x8x4096x64_S16x8x4096x64_S16x8x4096x4096_3_3_2_2_01_01 none (mulf q (broadcastInDim S16x8x4096x64 ![] bcast_S_S16x8x4096x64 (constant S_ .f32 0x3E000000#32))) k) (broadcastInDim S16x8x4096x4096 ![0, 1, 2, 3] bcast_S16x8x4096x1_S16x8x4096x4096_0_1_2_3 (broadcastInDim S16x8x4096x1 ![0, 1, 2] bcast_S16x8x4096_S16x8x4096x1_0_1_2 g))) (broadcastInDim S16x8x4096x4096 ![0, 1, 2, 3] bcast_S16x8x1x4096_S16x8x4096x4096_0_1_2_3 (broadcastInDim S16x8x1x4096 ![0, 1, 3] bcast_S16x8x4096_S16x8x1x4096_0_1_3 g))

/-- The logits, the later keys masked. -/
def maskedScores (s : FVec F S16x8x4096x4096 .f32) : FVec F S16x8x4096x4096 .f32 :=
  select (broadcastInDim S16x8x4096x4096 ![2, 3] bcast_S4096x4096_S16x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) s (broadcastInDim S16x8x4096x4096 ![] bcast_S_S16x8x4096x4096 (id (constant S_ .f32 0xFF800000#32)))

/-- The largest logit of every query. -/
def largest (L : FVec F S16x8x4096x4096 .f32) : FVec F S16x8x4096 .f32 :=
  Host.reduce FloatOps.maximumf L (constant S_ .f32 0xFF800000#32) reducesTo_S16x8x4096x4096_S16x8x4096_d3 h_S_

/-- The exponentials of the logits, shifted by `M`. -/
def shifted (L : FVec F S16x8x4096x4096 .f32) (M : FVec F S16x8x4096 .f32) : FVec F S16x8x4096x4096 .f32 :=
  Host.exp (subf L (broadcastInDim S16x8x4096x4096 ![0, 1, 2, 3] bcast_S16x8x4096x1_S16x8x4096x4096_0_1_2_3 (broadcastInDim S16x8x4096x1 ![0, 1, 2] bcast_S16x8x4096_S16x8x4096x1_0_1_2 (maximumf (broadcastInDim S16x8x4096 ![] bcast_S_S16x8x4096 (constant S_ .f32 0xFF800000#32)) M))))

/-- The softmax, from the exponentials. -/
def probs (e : FVec F S16x8x4096x4096 .f32) : FVec F S16x8x4096x4096 .f32 :=
  Host.divf e (broadcastInDim S16x8x4096x4096 ![0, 1, 2, 3] bcast_S16x8x4096x1_S16x8x4096x4096_0_1_2_3 (broadcastInDim S16x8x4096x1 ![0, 1, 2] bcast_S16x8x4096_S16x8x4096x1_0_1_2 (Host.reduceAdd e (constant S_ .f32 0x00000000#32) reducesTo_S16x8x4096x4096_S16x8x4096_d3 h_S_)))

/-- The softmax of the masked logits. -/
def softmaxOf (L : FVec F S16x8x4096x4096 .f32) : FVec F S16x8x4096x4096 .f32 := probs (shifted L (largest L))

/-- The averages of the values, laid back in rows. -/
def rows (p : FVec F S16x8x4096x4096 .f32) (v : FVec F S16x8x4096x64 .f32) : FVec F S65536x512 .bf16 :=
  truncf .bf16 (shapeCast _ (transpose S16x4096x8x64 [0, 2, 1, 3] (Host.dotGeneral dot_S16x8x4096x4096_S16x8x4096x64_S16x8x4096x64_3_2_2_3_01_01 none p v) transposes_S16x8x4096x64_S16x4096x8x64_0_2_1_3) shapeCasts_S16x4096x8x64_S65536x512) bitsLt_bf16_f32

/-- The reference's result is those steps, one after the other. -/
theorem res_eq (m : (ℓ : Loc nD τ sig) → Buf (Elt F) ℓ) (c : Dev nD) : (res_main_v38 m c : FVec F S65536x512 .bf16)
    = rows (softmaxOf (maskedScores (scores (heads (m ((c : Thread nD τ).loc main_arg0))) (heads (m ((c : Thread nD τ).loc main_arg1)))
        (gates (m ((c : Thread nD τ).loc main_arg3)))))) (heads (m ((c : Thread nD τ).loc main_arg2))) := by
  unfold res_main_v38
  rfl

/-- A maximum along the last of four axes is the largest of the row. -/
theorem fold_last {n0 n1 n2 n3 : ℕ} (L : FVec Ideal ⟨4, ![n0, n1, n2, n3]⟩ .f32) (z : FVec Ideal S_ .f32)
    (h : (⟨4, ![n0, n1, n2, n3]⟩ : Shape).ReducesTo [3] ⟨3, ![n0, n1, n2]⟩) (hp : 0 < S_.numel) (a : Fin n0) (b : Fin n1) (c : Fin n2) :
    Host.reduce FloatOps.maximumf L z h hp (ix3 a b c) = Finset.univ.fold max (z (Shape.Idx.first hp)) fun k => L (ix4 a b c k) := by
  pointwise

/-- The rows laid out by head hold, at a head, a position and a lane, the entry of the row and the lane of that head. -/
theorem heads_at (X : FVec Ideal S65536x512 .f32) (b : Fin 16) (h : Fin 8) (i : Fin 4096) (l : Fin 64) :
    heads X (ix4 b h i l) = rd512 X (4096 * b.val + i.val) (64 * h.val + l.val) := by
  pointwise [heads]
  exact rd512_eq X _ _ (show b.val * 4096 + i.val = _ by omega) (show h.val * 64 + l.val = _ by omega)

/-- The gates laid out by head hold the row's gate of that head. -/
theorem gates_at (X : FVec Ideal S65536x8 .f32) (b : Fin 16) (h : Fin 8) (i : Fin 4096) :
    gates X (ix3 b h i) = rd8 X (4096 * b.val + i.val) h.val := by
  pointwise [gates]
  exact rd8_eq X _ _ (show b.val * 4096 + i.val = _ by omega) rfl

/-- A score is the scaled product of a query and a key, with the difference of their gates. -/
theorem scores_at (q k : FVec Ideal S16x8x4096x64 .f32) (g : FVec Ideal S16x8x4096 .f32) (b : Fin 16) (h : Fin 8) (i j : Fin 4096) :
    scores q k g (ix4 b h i j) = ∑ x : Fin 64, q (ix4 b h i x) * Ideal.ofBits FTy.f32 1040187392#32 * k (ix4 b h j x)
      + g (ix3 b h i) - g (ix3 b h j) := by
  pointwise [scores]

/-- The mask keeps the keys up to the query and gives the others −∞. -/
theorem masked_at (s : FVec Ideal S16x8x4096x4096 .f32) (b : Fin 16) (h : Fin 8) (i j : Fin 4096) :
    maskedScores s (ix4 b h i j) = if j.val ≤ i.val then s (ix4 b h i j) else ⊥ := by
  have hi := i.isLt
  have hj := j.isLt
  pointwise [maskedScores]
  rw [sel_sle _ _ _ _ (by omega) (by omega)]
  exact congrArg (ite _ _) ofBits_neg_inf

/-- The largest score of a row. -/
theorem largest_at (s : FVec Ideal S16x8x4096x4096 .f32) (b : Fin 16) (h : Fin 8) (i : Fin 4096) :
    largest s (ix3 b h i) = Finset.univ.fold max ⊥ fun j => s (ix4 b h i j) :=
  (fold_last s _ _ _ b h i).trans (congrArg (fun z => Finset.univ.fold max z fun j => s (ix4 b h i j)) ofBits_neg_inf)

/-- The exponentials of the scores less the row's number; the maximum with −∞ changes nothing. -/
theorem shifted_at (s : FVec Ideal S16x8x4096x4096 .f32) (M : FVec Ideal S16x8x4096 .f32) (b : Fin 16) (h : Fin 8) (i j : Fin 4096) :
    shifted s M (ix4 b h i j) = Ideal.exp (s (ix4 b h i j) - M (ix3 b h i)) := by
  pointwise [shifted]
  rw [ofBits_neg_inf, max_eq_right bot_le]

/-- A weight divided by the sum of its row. -/
theorem probs_at (s : FVec Ideal S16x8x4096x4096 .f32) (b : Fin 16) (h : Fin 8) (i j : Fin 4096) :
    probs s (ix4 b h i j) = Ideal.div (s (ix4 b h i j)) (∑ x : Fin 4096, s (ix4 b h i x)) := by
  pointwise [probs]

/-- The averages, laid out again by rows of all heads. -/
theorem rows_at (p : FVec Ideal S16x8x4096x4096 .f32) (v : FVec Ideal S16x8x4096x64 .f32) (r : Fin 65536) (x : Fin 512) :
    rows p v (ix2 r x) = ∑ k : Fin 4096, p (ix4 (Fin.ofNat 16 (r.val / 4096)) (Fin.ofNat 8 (x.val / 64)) (Fin.ofNat 4096 r.val) k)
      * v (ix4 (Fin.ofNat 16 (r.val / 4096)) (Fin.ofNat 8 (x.val / 64)) k (Fin.ofNat 64 x.val)) := by
  have hr := r.isLt
  have hx := x.isLt
  have e0 : (⟨r.val / 4096, by omega⟩ : Fin 16) = Fin.ofNat 16 (r.val / 4096) := Fin.ext (Nat.mod_eq_of_lt (by omega)).symm
  have e1 : (⟨x.val / 64, by omega⟩ : Fin 8) = Fin.ofNat 8 (x.val / 64) := Fin.ext (Nat.mod_eq_of_lt (by omega)).symm
  rw [← e0, ← e1]
  pointwise [rows]
  rfl

/-- **The reference's result** at a row and a lane is the attention there. -/
theorem res_at (m : (ℓ : Loc nD τ sig) → Buf (Elt Ideal) ℓ) (c : Dev nD) (r : Fin 65536) (x : Fin 512) :
    (res_main_v38 m c : FVec Ideal S65536x512 .bf16) (ix2 r x)
      = attn (m ((c : Thread nD τ).loc main_arg0)) (m ((c : Thread nD τ).loc main_arg1)) (m ((c : Thread nD τ).loc main_arg2))
          (m ((c : Thread nD τ).loc main_arg3)) r.val x.val := by
  have hr := r.isLt
  have hx := x.isLt
  have e0 : (Fin.ofNat 16 (r.val / 4096)).val = r.val / 4096 := Nat.mod_eq_of_lt (by omega)
  have e1 : (Fin.ofNat 8 (x.val / 64)).val = x.val / 64 := Nat.mod_eq_of_lt (by omega)
  have e2 : (Fin.ofNat 4096 r.val).val = r.val % 4096 := rfl
  have e3 : (Fin.ofNat 64 x.val).val = x.val % 64 := rfl
  have er : 4096 * (r.val / 4096) + r.val % 4096 = r.val := Nat.div_add_mod _ _
  have ex : 64 * (x.val / 64) + x.val % 64 = x.val := Nat.div_add_mod _ _
  rw [res_eq, rows_at]
  simp only [softmaxOf, probs_at, shifted_at, largest_at, masked_at, scores_at, heads_at, gates_at, e0, e1, e2, e3, er, ex]
  rfl

end Cert.ReferenceIdeal.Fox
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.Pre_finite
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Layer.MlpValue
public import proofs.«01_k».proof.Proof.Layer.MlpReference
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Layer.MixValue
public import proofs.«01_k».proof.Proof.Layer.MixReference
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Layer.KvValue
public import proofs.«01_k».proof.Proof.Layer.KvReference
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Layer.InprojValue
public import proofs.«01_k».proof.Proof.Layer.InprojReference
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_real_cell
public import proofs.«01_k».proof.Proof.Layer.CellValue
public import proofs.«01_k».proof.Proof.Layer.CellReference
public import proofs.«01_k».proof.Proof.Layer.CellFinite
public import proofs.«01_k».proof.Proof.Fox.Value
public import proofs.«01_k».proof.Proof.Fox.Reference
public import proofs.«01_k».proof.Proof.Fox.Finite

@[expose] public section

noncomputable section

namespace Cert.Proof

open Idealize.ShloMosaic Idealize.SL.Sem

/-- The kernel and the reference, run from equal real queries, keys and gates and equal values, end with one result: the
gated attention. -/
theorem attention : algebraic_KernelIdeal_ReferenceIdeal_pre_finite := by
  intro m g m' g' hpre hargs
  refine ⟨_, Cert.KernelIdeal.Value.run_blocks m g,
    (θ_run _ _ _).mono (fun r h c => ⟨(h c).1.trans ?_, (h c).2⟩) (Cert.ReferenceIdeal.Value.run m' g')⟩
  obtain ⟨hq, hk, hc⟩ := Cert.Pre_finite.real _ _ _ _ (hpre c)
  obtain ⟨e0, e1, e2, e3⟩ := hargs c
  refine Eq.trans ?_ (Cert.KernelIdeal.Fox.array_eq m c hq hk hc).symm
  funext i
  refine (congrArg _ (eq_ix2 i)).trans ((Cert.ReferenceIdeal.Fox.res_at m' c (i 0) (i 1)).trans ?_)
  rw [e0, e1, e2, e3]
  rfl

/-- The reference runs, and leaves its arguments; it has no counter. -/
theorem reference_runs (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems (by decide) r.2⟩) (Cert.ReferenceIdeal.Value.run m g)

/-- The kernel's feed-forward part and the reference's, run from equal arrays, end with one result. -/
theorem mlp : algebraic_Kernel2Ideal_Reference2Ideal := by
  intro m g m' g' _ hargs
  refine ⟨_, Cert.Kernel2Ideal.Value.run_blocks m g,
    (θ_run _ _ _).mono (fun r h c => ⟨(h c).1.trans ?_, (h c).2⟩) (Cert.Reference2Ideal.Value.run m' g')⟩
  obtain ⟨e0, e1, e2, e3, e4⟩ := hargs c
  refine Eq.trans ?_ (Cert.Kernel2Ideal.Mlp.array_eq m c).symm
  funext i
  refine (congrArg _ (eq_ix2 i)).trans ((Cert.Reference2Ideal.Mlp.res_at m' c (i 0) (i 1)).trans ?_)
  rw [e0, e1, e2, e3, e4]
  rfl

/-- The reference of the feed-forward part runs, and leaves its arguments. -/
theorem mlp_reference_runs : quiescent_Reference2Ideal := fun m g _ =>
  (θ_run _ _ _).mono (fun r h => ⟨fun c => (h c).2, sem_eq_zero_of_no_sems (by decide) r.2⟩) (Cert.Reference2Ideal.Value.run m g)

/-- The kernel's merge and the memory attention and the reference's, run from equal arrays, end with one result. -/
theorem mix : algebraic_Kernel3Ideal_Reference3Ideal := by
  intro m g m' g' _ hargs
  refine ⟨_, Cert.Kernel3Ideal.Value.run_blocks m g,
    (θ_run _ _ _).mono (fun r h c => ⟨(h c).1.trans ?_, (h c).2⟩) (Cert.Reference3Ideal.Value.run m' g')⟩
  obtain ⟨e0, e1, e2, e3, e4, e5, e6, e7, e8, e9, e10, e11⟩ := hargs c
  refine Eq.trans ?_ (Cert.Kernel3Ideal.Mix.array_eq m c).symm
  funext i
  refine (congrArg _ (eq_ix2 i)).trans ((Cert.Reference3Ideal.Mix.res_at m' c (i 0) (i 1)).trans ?_)
  rw [e0, e1, e2, e3, e4, e5, e6, e7, e8, e9, e10, e11]
  rfl

/-- The reference of the merge and the memory attention runs, and leaves its arguments. -/
theorem mix_reference_runs : quiescent_Reference3Ideal := fun m g _ =>
  (θ_run _ _ _).mono (fun r h => ⟨fun c => (h c).2, sem_eq_zero_of_no_sems (by decide) r.2⟩) (Cert.Reference3Ideal.Value.run m g)

/-- The kernel's memory keys and values and the reference's, run from equal arrays, end with one result. -/
theorem kv : algebraic_Kernel4Ideal_Reference4Ideal := by
  intro m g m' g' _ hargs
  refine ⟨_, Cert.Kernel4Ideal.Value.run_blocks m g,
    (θ_run _ _ _).mono (fun r h c => ⟨(h c).1.trans ?_, (h c).2⟩) (Cert.Reference4Ideal.Value.run m' g')⟩
  obtain ⟨e0, e1, e2⟩ := hargs c
  refine Eq.trans ?_ (Cert.Kernel4Ideal.Kv.array_eq m c).symm
  funext i
  rw [← e0, ← e1, ← e2]
  exact (congrArg (Cert.Reference4Ideal.Kv.projected _ _ _) (eq_ix4 i)).trans
    (Cert.Reference4Ideal.Kv.projected_at _ _ _ (i 0) (i 1) (i 2) (i 3))

/-- The reference of the memory keys and values runs, and leaves its arguments. -/
theorem kv_reference_runs : quiescent_Reference4Ideal := fun m g _ =>
  (θ_run _ _ _).mono (fun r h => ⟨fun c => (h c).2, sem_eq_zero_of_no_sems (by decide) r.2⟩) (Cert.Reference4Ideal.Value.run m g)

/-- The kernel's input projection and the reference's, run from equal arrays, end with the same three results. -/
theorem inproj : algebraic_Kernel5Ideal_Reference5Ideal := by
  intro m g m' g' _ hargs
  refine ⟨_, _, _, (θ_run _ _ _).mono (fun r h c => ⟨(h c).1, (h c).2.1, (h c).2.2.1, (h c).2.2.2.2.2.2.2⟩) (Cert.Kernel5Ideal.Value.run_blocks m g),
    (θ_run _ _ _).mono (fun r h c => ⟨(h c).1.trans ?_, (h c).2.1.trans ?_, (h c).2.2.1.trans ?_, (h c).2.2.2⟩) (Cert.Reference5Ideal.Value.run m' g')⟩
  · obtain ⟨e0, e1, e2, -, -, -, -, -⟩ := hargs c
    refine Eq.trans ?_ (Cert.Kernel5Ideal.Inproj.fox_array m c).symm
    funext i
    rw [← e0, ← e1, ← e2]
    exact (congrArg (Cert.Reference5Ideal.Inproj.foxOf (Cert.Reference5Ideal.Inproj.projection m' c)) (eq_ix2 i)).trans
      (Cert.Reference5Ideal.Inproj.fox_lane _ _ _ (i 0) (i 1))
  · obtain ⟨e0, e1, e2, -, -, -, e6, e7⟩ := hargs c
    refine Eq.trans ?_ (Cert.Kernel5Ideal.Inproj.cell_array m c).symm
    refine (Cert.Reference5Ideal.Inproj.res_eq m' c).trans ?_
    funext i
    rw [← e0, ← e1, ← e2, ← e6, ← e7]
    exact (congrArg _ (eq_ix2 i)).trans (Cert.Reference5Ideal.Inproj.cell_lane _ _ _ _ _ (i 0) (i 1))
  · obtain ⟨e0, e1, e2, -, -, -, -, -⟩ := hargs c
    refine Eq.trans ?_ (Cert.Kernel5Ideal.Inproj.gate_array m c).symm
    funext i
    rw [← e0, ← e1, ← e2]
    exact (congrArg (Cert.Reference5Ideal.Inproj.gateOf (Cert.Reference5Ideal.Inproj.projection m' c)) (eq_ix2 i)).trans
      (Cert.Reference5Ideal.Inproj.gate_lane _ _ _ (i 0) (i 1))

/-- The reference of the input projection runs, and leaves its arguments. -/
theorem inproj_reference_runs : quiescent_Reference5Ideal := fun m g _ =>
  (θ_run _ _ _).mono (fun r h => ⟨fun c => (h c).2.2.2, sem_eq_zero_of_no_sems (by decide) r.2⟩) (Cert.Reference5Ideal.Value.run m g)

/-- The kernel's memory cell and the reference's, run from equal arrays, real but for the output gate and the gain, end with
one result: whatever real number the kernel's exponents are measured from. -/
theorem mlstm : algebraic_Kernel6Ideal_Reference6Ideal_pre_real_cell := by
  intro m g m' g' hpre hargs
  refine ⟨_, Cert.Kernel6Ideal.Value.run_blocks m g,
    (θ_run _ _ _).mono (fun r h c => ⟨(h c).1.trans ?_, (h c).2⟩) (Cert.Reference6Ideal.Value.run m' g')⟩
  obtain ⟨hq, hk, hv, hi, hc, hm⟩ := Cert.Pre_real_cell.real _ _ _ _ _ _ _ _ (hpre c)
  obtain ⟨e0, e1, e2, e3, e4, e5, -, e7⟩ := hargs c
  refine Eq.trans ?_ (Cert.Kernel6Ideal.Cell.array_eq m c ⟨hq, hk, hv, hi, hc, hm⟩).symm
  refine (Cert.Reference6Ideal.Cell.res_at m' c (e0 ▸ hq) (e1 ▸ hk) (e2 ▸ hv) (e4 ▸ hi) (e5 ▸ hc)).trans ?_
  rw [e0, e1, e2, e3, e4, e5, e7]

/-- The reference of the memory cell runs, and leaves its arguments. -/
theorem mlstm_reference_runs : quiescent_Reference6Ideal := fun m g _ =>
  (θ_run _ _ _).mono (fun r h => ⟨fun c => (h c).2, sem_eq_zero_of_no_sems (by decide) r.2⟩) (Cert.Reference6Ideal.Value.run m g)

/-- Every claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_real_cell.Gen.facts,
  fun m ρ _ => Cert.Kernel.Gen.frame m ρ, fun m ρ _ => Cert.KernelIdeal.Gen.frame m ρ, fun m ρ _ => Cert.KernelIdeal.Gen.frame m ρ,
  fun m ρ _ => reference_runs m ρ, fun m ρ _ => reference_runs m ρ,
  fun m ρ _ => Cert.Kernel2.Gen.frame m ρ, fun m ρ _ => Cert.Kernel2Ideal.Gen.frame m ρ, mlp_reference_runs,
  fun m ρ _ => Cert.Kernel3.Gen.frame m ρ, fun m ρ _ => Cert.Kernel3Ideal.Gen.frame m ρ, mix_reference_runs,
  fun m ρ _ => Cert.Kernel4.Gen.frame m ρ, fun m ρ _ => Cert.Kernel4Ideal.Gen.frame m ρ, kv_reference_runs,
  fun m ρ _ => Cert.Kernel5.Gen.frame m ρ, fun m ρ _ => Cert.Kernel5Ideal.Gen.frame m ρ, inproj_reference_runs,
  fun m ρ _ => Cert.Kernel6.Gen.frame m ρ, fun m ρ _ => Cert.Kernel6Ideal.Gen.frame m ρ, fun m ρ _ => Cert.Kernel6Ideal.Gen.frame m ρ,
  mlstm_reference_runs, fun m ρ _ => mlstm_reference_runs m ρ trivial,
  trivial, attention, trivial, mlp, trivial, mix, trivial, kv, trivial, inproj, trivial, mlstm⟩

end Cert.Proof
